-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S49152x1536 : Shape := ⟨2, ![49152, 1536]⟩
abbrev S49152x3072 : Shape := ⟨2, ![49152, 3072]⟩
abbrev S8 : Shape := ⟨1, ![8]⟩
abbrev S_ : Shape := ⟨0, ![]⟩

class Facts : Prop where
  bcast_S_S49152x1536 : S_.BroadcastsInDim S49152x1536 (![] : Fin 0 → Fin S49152x1536.rank)
  reducesTo_S49152x1536_S_d0_1 : S49152x1536.ReducesTo [0, 1] S_
  h_S_ : 0 < S_.numel
  bcast_S_S49152x3072 : S_.BroadcastsInDim S49152x3072 (![] : Fin 0 → Fin S49152x3072.rank)
  reducesTo_S49152x3072_S_d0_1 : S49152x3072.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg2 : IVec S8 32) (main_v12 : IVec S_ 1) (main_v15 : IVec S_ 1) : IVec S_ 1 :=
  let main_v16 : IVec S_ 1 := andi main_v12 main_v15
  let main_c_6 : IVec S_ 32 := constantI S_ 32 0#32
  let main_v17 : IVec S_ 32 := (fun x v => Host.reduce IntOp.addi x v reducesTo_S8_S_d0 h_S_) main_arg2 main_c_6
  let main_c_7 : IVec S_ 32 := constantI S_ 32 49152#32
  let main_v18 : IVec S_ 1 := cmpi .sle main_v17 main_c_7
  let main_v19 : IVec S_ 1 := andi main_v16 main_v18
  main_v19

def fn {F : FTy → Type} [FloatOps F] (main_arg0 : FVec F S49152x1536 .bf16) (main_arg1 : FVec F S49152x3072 .bf16) (main_arg2 : IVec S8 32) : IVec S_ 1 :=
  let main_v0 : FVec F S49152x1536 .bf16 := Host.absf main_arg0
  let main_cst : FVec F S_ .bf16 := constant S_ .bf16 0x7F7F#16
  let main_v1 : FVec F S49152x1536 .bf16 := broadcastInDim S49152x1536 ![] bcast_S_S49152x1536 main_cst
  let main_v2 : IVec S49152x1536 1 := cmpf .ole main_v0 main_v1
  let main_c : IVec S_ 1 := constantI S_ 1 1#1
  let main_v3 : IVec S_ 1 := (fun x v => Host.reduce IntOp.andi x v reducesTo_S49152x1536_S_d0_1 h_S_) main_v2 main_c
  let main_v4 : FVec F S49152x3072 .bf16 := Host.absf main_arg1
  let main_cst_0 : FVec F S_ .bf16 := constant S_ .bf16 0x7F7F#16
  let main_v5 : FVec F S49152x3072 .bf16 := broadcastInDim S49152x3072 ![] bcast_S_S49152x3072 main_cst_0
  let main_v6 : IVec S49152x3072 1 := cmpf .ole main_v4 main_v5
  let main_c_1 : IVec S_ 1 := constantI S_ 1 1#1
  let main_v7 : IVec S_ 1 := (fun x v => Host.reduce IntOp.andi x v reducesTo_S49152x3072_S_d0_1 h_S_) main_v6 main_c_1
  let main_v8 : IVec S_ 1 := andi main_v3 main_v7
  let main_c_2 : IVec S_ 32 := constantI S_ 32 0#32
  let main_v9 : IVec S8 32 := broadcastInDim S8 ![] bcast_S_S8 main_c_2
  let main_v10 : IVec S8 1 := cmpi .sge main_arg2 main_v9
  let main_c_3 : IVec S_ 1 := constantI S_ 1 1#1
  let main_v11 : IVec S_ 1 := (fun x v => Host.reduce IntOp.andi x v reducesTo_S8_S_d0 h_S_) main_v10 main_c_3
  let main_v12 : IVec S_ 1 := andi main_v8 main_v11
  let main_c_4 : IVec S_ 32 := constantI S_ 32 49152#32
  let main_v13 : IVec S8 32 := broadcastInDim S8 ![] bcast_S_S8 main_c_4
  let main_v14 : IVec S8 1 := cmpi .sle main_arg2 main_v13
  let main_c_5 : IVec S_ 1 := constantI S_ 1 1#1
  let main_v15 : IVec S_ 1 := (fun x v => Host.reduce IntOp.andi x v reducesTo_S8_S_d0 h_S_) main_v14 main_c_5
  fn_part1 (F := F) main_arg2 main_v12 main_v15
-- ==== Kernel.lean ====
abbrev S49152x1536 : Shape := ⟨2, ![49152, 1536]⟩
abbrev S49152x3072 : Shape := ⟨2, ![49152, 3072]⟩
abbrev S8 : Shape := ⟨1, ![8]⟩
abbrev S_ : Shape := ⟨0, ![]⟩
abbrev S1 : Shape := ⟨1, ![1]⟩
abbrev S9 : Shape := ⟨1, ![9]⟩
abbrev S8x1536x3072 : Shape := ⟨3, ![8, 1536, 3072]⟩
abbrev S1536x1536 : Shape := ⟨2, ![1536, 1536]⟩
abbrev S1536x3072 : Shape := ⟨2, ![1536, 3072]⟩
abbrev S512x1536 : Shape := ⟨2, ![512, 1536]⟩
abbrev S512x3072 : Shape := ⟨2, ![512, 3072]⟩
abbrev S16x1536 : Shape := ⟨2, ![16, 1536]⟩
abbrev S16x3072 : Shape := ⟨2, ![16, 3072]⟩
abbrev S1536x512 : Shape := ⟨2, ![1536, 512]⟩
abbrev S512x256 : Shape := ⟨2, ![512, 256]⟩
abbrev S16x32x256 : Shape := ⟨3, ![16, 32, 256]⟩
abbrev S16x256 : Shape := ⟨2, ![16, 256]⟩
abbrev S16x1x256 : Shape := ⟨3, ![16, 1, 256]⟩
abbrev S256x512 : Shape := ⟨2, ![256, 512]⟩
abbrev S1536x256 : Shape := ⟨2, ![1536, 256]⟩
abbrev S1x1536x3072 : Shape := ⟨3, ![1, 1536, 3072]⟩

abbrev nBuf : Space → Nat
  | .hbm => 13
  | .vmem => 16
  | .smem => 1
  | _ => 0

abbrev bufTy : (tb : Table) → Fin (tcTables nBuf tb) → BufTy
  | .hbm, ⟨0, _⟩ => ⟨S49152x1536, .bf16⟩
  | .hbm, ⟨1, _⟩ => ⟨S49152x3072, .bf16⟩
  | .hbm, ⟨2, _⟩ => ⟨S8, .i32⟩
  | .hbm, ⟨3, _⟩ => ⟨S_, .i32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S8x1536x3072, .f32⟩
  | .hbm, ⟨9, _⟩ => ⟨S49152x1536, .fp8e4m3⟩
  | .hbm, ⟨10, _⟩ => ⟨S1536x1536, .f32⟩
  | .hbm, ⟨11, _⟩ => ⟨S49152x3072, .fp8e5m2⟩
  | .hbm, ⟨12, _⟩ => ⟨S1536x3072, .f32⟩
  | .local _ .vmem, ⟨0, _⟩ => ⟨S512x1536, .bf16⟩
  | .local _ .vmem, ⟨1, _⟩ => ⟨S512x1536, .bf16⟩
  | .local _ .vmem, ⟨2, _⟩ => ⟨S512x3072, .bf16⟩
  | .local _ .vmem, ⟨3, _⟩ => ⟨S512x3072, .bf16⟩
  | .local _ .vmem, ⟨4, _⟩ => ⟨S512x1536, .fp8e4m3⟩
  | .local _ .vmem, ⟨5, _⟩ => ⟨S512x1536, .fp8e4m3⟩
  | .local _ .vmem, ⟨6, _⟩ => ⟨S16x1536, .f32⟩
  | .local _ .vmem, ⟨7, _⟩ => ⟨S16x1536, .f32⟩
  | .local _ .vmem, ⟨8, _⟩ => ⟨S512x3072, .fp8e5m2⟩
  | .local _ .vmem, ⟨9, _⟩ => ⟨S512x3072, .fp8e5m2⟩
  | .local _ .vmem, ⟨10, _⟩ => ⟨S16x3072, .f32⟩
  | .local _ .vmem, ⟨11, _⟩ => ⟨S16x3072, .f32⟩
  | .local _ .vmem, ⟨12, _⟩ => ⟨S1536x3072, .f32⟩
  | .local _ .vmem, ⟨13, _⟩ => ⟨S1536x512, .bf16⟩
  | .local _ .vmem, ⟨14, _⟩ => ⟨S1536x512, .bf16⟩
  | .local _ .vmem, ⟨15, _⟩ => ⟨S512x3072, .bf16⟩
  | .local _ .smem, ⟨0, _⟩ => ⟨S9, .i32⟩
  | _, _ => ⟨S49152x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_call0_call0_c : Ref sig .tc := ⟨.hbm, 5, rfl⟩
abbrev main_call0_call0_v0 : Ref sig .tc := ⟨.hbm, 6, rfl⟩
abbrev main_v1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![96], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c6_i32 : BitVec 32 := 6#32
  let v2 : BitVec 32 := Scalar.addi c0_i32 c6_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v5 : BitVec 32 := Scalar.muli arg14 c256_i32
  v5
def k0_off1 (k0_t1 : Fin k0_t1_loop.trips) : Fin 2 → Nat :=
  let c0 : Index := 0#32
  let c0_i32 : BitVec 32 := 0#32
  let c1_i32 : BitVec 32 := 1#32
  let arg14 : BitVec 32 := Scf.iv c0_i32 c1_i32 k0_t1
  let c256_i32 : BitVec 32 := 256#32
  let v5 : BitVec 32 := Scalar.muli arg14 c256_i32
  let v6 : BitVec 32 := v5
  let v7 : Index := Scalar.indexCast v6
  ![0, v7.toNat]
def k0_off2 (k0_t1 : Fin k0_t1_loop.trips) : Fin 2 → Nat :=
  let c0_24 : Index := 0#32
  let c0_i32 : BitVec 32 := 0#32
  let c1_i32 : BitVec 32 := 1#32
  let arg14 : BitVec 32 := Scf.iv c0_i32 c1_i32 k0_t1
  let c256_i32 : BitVec 32 := 256#32
  let v5 : BitVec 32 := Scalar.muli arg14 c256_i32
  let v6 : BitVec 32 := v5
  let v107 : Index := Scalar.indexCast v6
  ![0, v107.toNat]
def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v5 : BitVec 32 := Scalar.muli arg14 c256_i32
  let v6 : BitVec 32 := v5
  let v110 : Index := Scalar.indexCast v6
  let c0_25 : Index := 0#32
  ![v110.toNat, 0]
@[reducible] def k0_t2_loop : Scf.Loop 32 :=
  let c0_i32_1 : BitVec 32 := 0#32
  let c12_i32 : BitVec 32 := 12#32
  let v3 : BitVec 32 := Scalar.addi c0_i32_1 c12_i32
  let c1_i32_2 : BitVec 32 := 1#32
  ⟨c0_i32_1, v3, c1_i32_2⟩
def k0_mult2 (k0_t2 : Fin k0_t2_loop.trips) : BitVec 32 :=
  let c0_i32_1 : BitVec 32 := 0#32
  let c1_i32_2 : BitVec 32 := 1#32
  let arg14 : BitVec 32 := Scf.iv c0_i32_1 c1_i32_2 k0_t2
  let c256_i32 : BitVec 32 := 256#32
  let v5 : BitVec 32 := Scalar.muli arg14 c256_i32
  v5
def k0_off4 (k0_t2 : Fin k0_t2_loop.trips) : Fin 2 → Nat :=
  let c0 : Index := 0#32
  let c0_i32_1 : BitVec 32 := 0#32
  let c1_i32_2 : BitVec 32 := 1#32
  let arg14 : BitVec 32 := Scf.iv c0_i32_1 c1_i32_2 k0_t2
  let c256_i32 : BitVec 32 := 256#32
  let v5 : BitVec 32 := Scalar.muli arg14 c256_i32
  let v6 : BitVec 32 := v5
  let v7 : Index := Scalar.indexCast v6
  ![0, v7.toNat]
def k0_off5 (k0_t2 : Fin k0_t2_loop.trips) : Fin 2 → Nat :=
  let c0_24 : Index := 0#32
  let c0_i32_1 : BitVec 32 := 0#32
  let c1_i32_2 : BitVec 32 := 1#32
  let arg14 : BitVec 32 := Scf.iv c0_i32_1 c1_i32_2 k0_t2
  let c256_i32 : BitVec 32 := 256#32
  let v5 : BitVec 32 := Scalar.muli arg14 c256_i32
  let v6 : BitVec 32 := v5
  let v107 : Index := Scalar.indexCast v6
  ![0, v107.toNat]
@[reducible] def k0_t3_loop : Scf.Loop 32 :=
  let c0_i32_4 : BitVec 32 := 0#32
  let c8_i32 : BitVec 32 := 8#32
  let v4 : BitVec 32 := Scalar.addi c0_i32_4 c8_i32
  let c1_i32_5 : BitVec 32 := 1#32
  ⟨c0_i32_4, v4, c1_i32_5⟩
def k0_off6 (k0_t3 : Fin k0_t3_loop.trips) : Fin 1 → Nat :=
  let c0_i32_4 : BitVec 32 := 0#32
  let c1_i32_5 : BitVec 32 := 1#32
  let arg14 : BitVec 32 := Scf.iv c0_i32_4 c1_i32_5 k0_t3
  let v5 : Index := Scalar.indexCast arg14
  ![v5.toNat]
def k0_off7 (k0_t3 : Fin k0_t3_loop.trips) : Fin 1 → Nat :=
  let c0_i32_4 : BitVec 32 := 0#32
  let c1_i32_5 : BitVec 32 := 1#32
  let arg14 : BitVec 32 := Scf.iv c0_i32_4 c1_i32_5 k0_t3
  let c1_i32_7 : BitVec 32 := 1#32
  let v7 : BitVec 32 := Scalar.addi arg14 c1_i32_7
  let v8 : Index := Scalar.indexCast v7
  ![v8.toNat]
@[reducible] def k0_t4_loop : Scf.Loop 32 :=
  let c0_i32_16 : BitVec 32 := 0#32
  let c6_i32_17 : BitVec 32 := 6#32
  let v49 : BitVec 32 := Scalar.addi c0_i32_16 c6_i32_17
  let c1_i32_18 : BitVec 32 := 1#32
  ⟨c0_i32_16, v49, c1_i32_18⟩
def k0_mult3 (k0_t4 : Fin k0_t4_loop.trips) : BitVec 32 :=
  let c0_i32_16 : BitVec 32 := 0#32
  let c1_i32_18 : BitVec 32 := 1#32
  let arg15 : BitVec 32 := Scf.iv c0_i32_16 c1_i32_18 k0_t4
  let c256_i32 : BitVec 32 := 256#32
  let v146 : BitVec 32 := Scalar.muli arg15 c256_i32
  v146
def k0_off8 (k0_t4 : Fin k0_t4_loop.trips) : Fin 2 → Nat :=
  let c0_i32_16 : BitVec 32 := 0#32
  let c1_i32_18 : BitVec 32 := 1#32
  let arg15 : BitVec 32 := Scf.iv c0_i32_16 c1_i32_18 k0_t4
  let c256_i32 : BitVec 32 := 256#32
  let v146 : BitVec 32 := Scalar.muli arg15 c256_i32
  let v147 : BitVec 32 := v146
  let v148 : Index := Scalar.indexCast v147
  let c0_115 : Index := 0#32
  ![v148.toNat, 0]
def k0_off9 (k0_t3 : Fin k0_t3_loop.trips) : Fin 3 → Nat :=
  let c0_i32_4 : BitVec 32 := 0#32
  let c1_i32_5 : BitVec 32 := 1#32
  let arg14 : BitVec 32 := Scf.iv c0_i32_4 c1_i32_5 k0_t3
  let c0_i32_16 : BitVec 32 := 0#32
  let c0_i32_17 : BitVec 32 := 0#32
  ![arg14.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S49152x1536 : Shape := ⟨2, ![49152, 1536]⟩
abbrev S49152x3072 : Shape := ⟨2, ![49152, 3072]⟩
abbrev S8 : Shape := ⟨1, ![8]⟩
abbrev S8x1536x3072 : Shape := ⟨3, ![8, 1536, 3072]⟩
abbrev S1536x1536 : Shape := ⟨2, ![1536, 1536]⟩
abbrev S1536x3072 : Shape := ⟨2, ![1536, 3072]⟩
abbrev S1536x32x1536 : Shape := ⟨3, ![1536, 32, 1536]⟩
abbrev S1536x1x1536 : Shape := ⟨3, ![1536, 1, 1536]⟩
abbrev S1536x32x3072 : Shape := ⟨3, ![1536, 32, 3072]⟩
abbrev S1536x1x3072 : Shape := ⟨3, ![1536, 1, 3072]⟩
abbrev S1 : Shape := ⟨1, ![1]⟩
abbrev S1x1536x3072 : Shape := ⟨3, ![1, 1536, 3072]⟩

abbrev nBuf : Space → Nat
  | .hbm => 8
  | .vmem => 7
  | .smem => 1
  | _ => 0

abbrev bufTy : (tb : Table) → Fin (tcTables nBuf tb) → BufTy
  | .hbm, ⟨0, _⟩ => ⟨S49152x1536, .bf16⟩
  | .hbm, ⟨1, _⟩ => ⟨S49152x3072, .bf16⟩
  | .hbm, ⟨2, _⟩ => ⟨S8, .i32⟩
  | .hbm, ⟨3, _⟩ => ⟨S8x1536x3072, .f32⟩
  | .hbm, ⟨4, _⟩ => ⟨S49152x1536, .fp8e4m3⟩
  | .hbm, ⟨5, _⟩ => ⟨S1536x1536, .f32⟩
  | .hbm, ⟨6, _⟩ => ⟨S49152x3072, .fp8e5m2⟩
  | .hbm, ⟨7, _⟩ => ⟨S1536x3072, .f32⟩
  | .local _ .vmem, ⟨0, _⟩ => ⟨S49152x1536, .bf16⟩
  | .local _ .vmem, ⟨1, _⟩ => ⟨S49152x3072, .bf16⟩
  | .local _ .vmem, ⟨2, _⟩ => ⟨S8x1536x3072, .f32⟩
  | .local _ .vmem, ⟨3, _⟩ => ⟨S49152x1536, .fp8e4m3⟩
  | .local _ .vmem, ⟨4, _⟩ => ⟨S1536x1536, .f32⟩
  | .local _ .vmem, ⟨5, _⟩ => ⟨S49152x3072, .fp8e5m2⟩
  | .local _ .vmem, ⟨6, _⟩ => ⟨S1536x3072, .f32⟩
  | .local _ .smem, ⟨0, _⟩ => ⟨S8, .i32⟩
  | _, _ => ⟨S49152x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S49152x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49152x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1536x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S49152x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S49152x3072 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Trips.lean ====
module

public import proofs.«01_k».proof.Proof.Gen.Kernel.Loops
public import proofs.«01_k».proof.Proof.Gen.Kernel.Launch
public import Idealize.ShloMosaic.Lib.Pipeline.FrameValue
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The table of offsets, the result left in main memory and the four scratch buffers. -/
abbrev offM : Memref sig .tc .smem S9 .i32 := Memref.whole main_v2
abbrev dwM : Memref sig .tc .hbm S8x1536x3072 .f32 := Memref.whole main_v3_0
abbrev accM : Memref sig .tc .vmem S1536x3072 .f32 := Memref.whole cc0_scratch0
abbrev xtM : Memref sig .tc .vmem S1536x512 .bf16 := Memref.whole cc0_scratch1
abbrev xmM : Memref sig .tc .vmem S1536x512 .bf16 := Memref.whole cc0_scratch2
abbrev ywM : Memref sig .tc .vmem S512x3072 .bf16 := Memref.whole cc0_scratch3

variable (c : Dev nD) (i : grid0.Coords)
  (arg2 : Memref sig .tc .vmem S512x1536 .bf16) (harg2 : arg2.IsWhole)
  (arg3 : Memref sig .tc .vmem S512x3072 .bf16) (harg3 : arg3.IsWhole)
  (arg5 : Memref sig .tc .vmem S512x1536 .fp8e4m3) (harg5 : arg5.IsWhole)
  (arg6 : Memref sig .tc .vmem S16x1536 .f32) (harg6 : arg6.IsWhole)
  (arg7 : Memref sig .tc .vmem S512x3072 .fp8e5m2) (harg7 : arg7.IsWhole)
  (arg8 : Memref sig .tc .vmem S16x3072 .f32) (harg8 : arg8.IsWhole)

/-- A memref's buffer held whole at the given contents. -/
abbrev pt {sp : Space} {S : Shape} {e : EltTy} (M : Memref sig .tc sp S e) (f : Buf (Elt F) (M.view.loc (c : Thread nD τ))) : sProp 𝕄 :=
  M.view.loc (c : Thread nD τ) ↦[M.view.set]{fullShare} f

abbrev body1 := k0_t1_body (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4

def trip1 (X : BufTy.Contents (Elt F) arg2.view.ty) (k : Fin k0_t1_loop.trips) :
    Σ' (L5 : List (View.Piece (Elt F) S512x1536 .fp8e4m3)) (L6 : List (View.Piece (Elt F) S16x1536 .f32)),
      { L10 : List (View.Piece (Elt F) S1536x512 .bf16) // ∀ (f5 : BufTy.Contents (Elt F) arg5.view.ty) (f6 : BufTy.Contents (Elt F) arg6.view.ty) (f10 : BufTy.Contents (Elt F) (xtM).view.ty),
      iprop(pt (F := F) c arg2 X ∗ pt c arg5 f5 ∗ pt c arg6 f6 ∗ pt c xtM f10)
      ⊢ wp frame (wpE (defs₀ (F := F)) Variants.none (c : Thread nD τ) none) Set.univ (body1 i arg2 harg2 arg3 harg3 arg5 harg5 arg6 harg6 arg7 harg7 arg8 harg8 k PUnit.unit)
          (fun _ => iprop(pt (F := F) c arg2 X ∗ pt c arg5 (arg5.view.writes (Elt F) f5 L5) ∗ pt c arg6 (arg6.view.writes (Elt F) f6 L6)
            ∗ pt c xtM ((xtM).view.writes (Elt F) f10 L10))) } := by
  have hk : k.val < 6 := Nat.lt_of_lt_of_le k.isLt k0_t1_abs.2.1
  refine ⟨?_, ?_, ?_, fun f_arg5 f_arg6 f_arg10 => ?run⟩
  case run =>
    unfold body1 k0_t1_body pt
    iintro ⟨HR_arg2, HW_arg5, HW_arg6, HW_arg10⟩
    sl_exec
    sl_step
    sl_close

end Cert.Kernel.Hand
end
-- ==== Proof.K.Segments.lean ====
module

public import proofs.«01_k».proof.Proof.K.Trips

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The rows of the tile that starts at row `v0` reach past the start of the group `[v6, v9)` and end after its start. -/
def overC (v0 v6 v9 : BitVec 32) : BitVec 1 := Scalar.andi (Scalar.cmpi .slt v6 (Scalar.addi v0 512#32)) (Scalar.cmpi .sgt v9 v0)
/-- The group starts in this tile, or after every tile and this is the last one. -/
def beginC (v0 : BitVec 32) (v1 : BitVec 1) (v6 : BitVec 32) : BitVec 1 :=
  Scalar.andi (Scalar.cmpi .sge v6 v0) (Scalar.ori (Scalar.cmpi .slt v6 (Scalar.addi v0 512#32)) v1)
def actC (v0 : BitVec 32) (v1 : BitVec 1) (v6 v9 : BitVec 32) : BitVec 1 :=
  Scalar.ori (overC v0 v6 v9) (Scalar.andi (Scalar.cmpi .eq v6 v9) (beginC v0 v1 v6))
def coverC (v0 v6 v9 : BitVec 32) : BitVec 1 :=
  Scalar.andi (Scalar.cmpi .sle v6 v0) (Scalar.cmpi .sge v9 (Scalar.addi v0 512#32))
def condW (b : BitVec 1) : BitVec 1 := Scalar.cmpi .ne (Scalar.extui b : BitVec 32) 0#32
def zeroC (v0 : BitVec 32) (v1 : BitVec 1) (v6 v9 : BitVec 32) : BitVec 1 := condW (Scalar.andi (actC v0 v1 v6 v9) (beginC v0 v1 v6))
def fullC (v0 v6 v9 : BitVec 32) : BitVec 1 := condW (Scalar.andi (overC v0 v6 v9) (coverC v0 v6 v9))
def maskC (v0 v6 v9 : BitVec 32) : BitVec 1 := condW (Scalar.andi (overC v0 v6 v9) (Scalar.xori (coverC v0 v6 v9) 1#1))
def flushC (v0 : BitVec 32) (v1 : BitVec 1) (v6 v9 : BitVec 32) : BitVec 1 :=
  condW (Scalar.andi (actC v0 v1 v6 v9) (Scalar.cmpi .sle v9 (Scalar.addi v0 512#32)))

theorem ite_bind' {E : Type → Type} {α β : Type} (c : Prop) [Decidable c] (a b : Prog E α) (k : α → Prog E β) :
    (if c then a else b) >>= k = if c then a >>= k else b >>= k := by split <;> rfl

/-- Clears the accumulator. -/
def segZero (i : grid0.Coords) (arg1 : Memref sig .tc .smem S9 .i32) (harg1 : arg1.IsWhole) (arg2 : Memref sig .tc .vmem S512x1536 .bf16) (harg2 : arg2.IsWhole) (arg3 : Memref sig .tc .vmem S512x3072 .bf16) (harg3 : arg3.IsWhole) (arg4 : Memref sig .tc .hbm S8x1536x3072 .f32) (harg4 : arg4.IsWhole) (arg5 : Memref sig .tc .vmem S512x1536 .fp8e4m3) (harg5 : arg5.IsWhole) (arg6 : Memref sig .tc .vmem S16x1536 .f32) (harg6 : arg6.IsWhole) (arg7 : Memref sig .tc .vmem S512x3072 .fp8e5m2) (harg7 : arg7.IsWhole) (arg8 : Memref sig .tc .vmem S16x3072 .f32) (harg8 : arg8.IsWhole) (arg9 : Memref sig .tc .vmem S1536x3072 .f32) (harg9 : arg9.IsWhole) (arg10 : Memref sig .tc .vmem S1536x512 .bf16) (harg10 : arg10.IsWhole) (arg11 : Memref sig .tc .vmem S1536x512 .bf16) (harg11 : arg11.IsWhole) (arg12 : Memref sig .tc .vmem S512x3072 .bf16) (harg12 : arg12.IsWhole) (arg13 : DmaSems sig S_) :
    Prog (TpuEff nD τ sig (Elt F) Λ₀ .tc) PUnit := do
  let v42 : Vec F S1536x3072 .f32 ← Prog.lift (.load arg9 (Rect.unit (s := S1536x3072) ![0, 0] S1536x3072.size inb_S1536x3072_S1536x3072_0_0).toLoadRect (View.loadsAt_vmem h_S1536x3072))
  Prog.lift (.store arg9 (Rect.unit (s := S1536x3072) ![0, 0] S1536x3072.size inb_S1536x3072_S1536x3072_0_0) (k0_pay7 (F := F)) Finset.univ (View.stores_vmem_bits_univ h_S1536x3072 rfl) (.inl rfl))
  pure ⟨⟩

/-- Adds the product of the transposed row block with every block of columns. -/
def segFull (i : grid0.Coords) (arg1 : Memref sig .tc .smem S9 .i32) (harg1 : arg1.IsWhole) (arg2 : Memref sig .tc .vmem S512x1536 .bf16) (harg2 : arg2.IsWhole) (arg3 : Memref sig .tc .vmem S512x3072 .bf16) (harg3 : arg3.IsWhole) (arg4 : Memref sig .tc .hbm S8x1536x3072 .f32) (harg4 : arg4.IsWhole) (arg5 : Memref sig .tc .vmem S512x1536 .fp8e4m3) (harg5 : arg5.IsWhole) (arg6 : Memref sig .tc .vmem S16x1536 .f32) (harg6 : arg6.IsWhole) (arg7 : Memref sig .tc .vmem S512x3072 .fp8e5m2) (harg7 : arg7.IsWhole) (arg8 : Memref sig .tc .vmem S16x3072 .f32) (harg8 : arg8.IsWhole) (arg9 : Memref sig .tc .vmem S1536x3072 .f32) (harg9 : arg9.IsWhole) (arg10 : Memref sig .tc .vmem S1536x512 .bf16) (harg10 : arg10.IsWhole) (arg11 : Memref sig .tc .vmem S1536x512 .bf16) (harg11 : arg11.IsWhole) (arg12 : Memref sig .tc .vmem S512x3072 .bf16) (harg12 : arg12.IsWhole) (arg13 : DmaSems sig S_) :
    Prog (TpuEff nD τ sig (Elt F) Λ₀ .tc) PUnit := do
  let ⟨v65, v66⟩ : Σ' (v65 : Vec F S1536x256 .f32), Vec F S1536x512 .bf16 ← k0_part5 i arg1 harg1 arg2 harg2 arg3 harg3 arg4 harg4 arg5 harg5 arg6 harg6 arg7 harg7 arg8 harg8 arg9 harg9 arg10 harg10 arg11 harg11 arg12 harg12 arg13
  let v93 : FVec F S1536x256 .f32 ← k0_part6 i arg1 harg1 arg2 harg2 arg3 harg3 arg4 harg4 arg5 harg5 arg6 harg6 arg7 harg7 arg8 harg8 arg9 harg9 arg10 harg10 arg11 harg11 arg12 harg12 arg13 v65 v66
  k0_part7 i arg1 harg1 arg2 harg2 arg3 harg3 arg4 harg4 arg5 harg5 arg6 harg6 arg7 harg7 arg8 harg8 arg9 harg9 arg10 harg10 arg11 harg11 arg12 harg12 arg13 v93
  let v121 : Vec F S1536x256 .f32 ← Prog.lift (.load arg9 (Rect.unit (s := S1536x3072) ![0, 2560] S1536x256.size inb_S1536x3072_S1536x256_0_2560).toLoadRect (View.loadsAt_vmem h_S1536x256))
  let v122 : Vec F S1536x512 .bf16 ← Prog.lift (.load arg10 (Rect.unit (s := S1536x512) ![0, 0] S1536x512.size inb_S1536x512_S1536x512_0_0).toLoadRect (View.loadsAt_vmem h_S1536x512))
  let v123 : Vec F S512x256 .bf16 ← Prog.lift (.load arg12 (Rect.unit (s := S512x3072) ![0, 2560] S512x256.size inb_S512x3072_S512x256_0_2560).toLoadRect (View.loadsAt_vmem h_S512x256))
  let v126 : Vec F S1536x256 .f32 ← Prog.lift (.load arg9 (Rect.unit (s := S1536x3072) ![0, 2560] S1536x256.size inb_S1536x3072_S1536x256_0_2560).toLoadRect (View.loadsAt_vmem h_S1536x256))
  Prog.lift (.store arg9 (Rect.unit (s := S1536x3072) ![0, 2560] S1536x256.size inb_S1536x3072_S1536x256_0_2560) (k0_pay8 v121 v122 v123) Finset.univ (View.stores_vmem_bits_univ h_S1536x256 rfl) (.inl rfl))
  let v129 : Vec F S1536x256 .f32 ← Prog.lift (.load arg9 (Rect.unit (s := S1536x3072) ![0, 2816] S1536x256.size inb_S1536x3072_S1536x256_0_2816).toLoadRect (View.loadsAt_vmem h_S1536x256))
  let v130 : Vec F S1536x512 .bf16 ← Prog.lift (.load arg10 (Rect.unit (s := S1536x512) ![0, 0] S1536x512.size inb_S1536x512_S1536x512_0_0).toLoadRect (View.loadsAt_vmem h_S1536x512))
  let v131 : Vec F S512x256 .bf16 ← Prog.lift (.load arg12 (Rect.unit (s := S512x3072) ![0, 2816] S512x256.size inb_S512x3072_S512x256_0_2816).toLoadRect (View.loadsAt_vmem h_S512x256))
  let v134 : Vec F S1536x256 .f32 ← Prog.lift (.load arg9 (Rect.unit (s := S1536x3072) ![0, 2816] S1536x256.size inb_S1536x3072_S1536x256_0_2816).toLoadRect (View.loadsAt_vmem h_S1536x256))
  Prog.lift (.store arg9 (Rect.unit (s := S1536x3072) ![0, 2816] S1536x256.size inb_S1536x3072_S1536x256_0_2816) (k0_pay9 v129 v130 v131) Finset.univ (View.stores_vmem_bits_univ h_S1536x256 rfl) (.inl rfl))
  pure ⟨⟩

/-- Masks the transposed row block, then adds the product of what is left with every block of columns. -/
def segMask (i : grid0.Coords) (arg1 : Memref sig .tc .smem S9 .i32) (harg1 : arg1.IsWhole) (arg2 : Memref sig .tc .vmem S512x1536 .bf16) (harg2 : arg2.IsWhole) (arg3 : Memref sig .tc .vmem S512x3072 .bf16) (harg3 : arg3.IsWhole) (arg4 : Memref sig .tc .hbm S8x1536x3072 .f32) (harg4 : arg4.IsWhole) (arg5 : Memref sig .tc .vmem S512x1536 .fp8e4m3) (harg5 : arg5.IsWhole) (arg6 : Memref sig .tc .vmem S16x1536 .f32) (harg6 : arg6.IsWhole) (arg7 : Memref sig .tc .vmem S512x3072 .fp8e5m2) (harg7 : arg7.IsWhole) (arg8 : Memref sig .tc .vmem S16x3072 .f32) (harg8 : arg8.IsWhole) (arg9 : Memref sig .tc .vmem S1536x3072 .f32) (harg9 : arg9.IsWhole) (arg10 : Memref sig .tc .vmem S1536x512 .bf16) (harg10 : arg10.IsWhole) (arg11 : Memref sig .tc .vmem S1536x512 .bf16) (harg11 : arg11.IsWhole) (arg12 : Memref sig .tc .vmem S512x3072 .bf16) (harg12 : arg12.IsWhole) (arg13 : DmaSems sig S_) (v0 v6 v9 : BitVec 32) :
    Prog (TpuEff nD τ sig (Elt F) Λ₀ .tc) PUnit := do
  let ⟨v66, v67, v68, cst_40⟩ : Σ' (v66 : Vec F S1536x256 .f32) (v67 : Vec F S1536x512 .bf16) (v68 : Vec F S512x256 .bf16), FVec F S1536x256 .f32 ← k0_part8 i arg1 harg1 arg2 harg2 arg3 harg3 arg4 harg4 arg5 harg5 arg6 harg6 arg7 harg7 arg8 harg8 arg9 harg9 arg10 harg10 arg11 harg11 arg12 harg12 arg13 v0 v6 v9
  let v94 : FVec F S1536x256 .f32 ← k0_part9 i arg1 harg1 arg2 harg2 arg3 harg3 arg4 harg4 arg5 harg5 arg6 harg6 arg7 harg7 arg8 harg8 arg9 harg9 arg10 harg10 arg11 harg11 arg12 harg12 arg13 v66 v67 v68 cst_40
  let v122 : Vec F S1536x256 .f32 ← k0_part10 i arg1 harg1 arg2 harg2 arg3 harg3 arg4 harg4 arg5 harg5 arg6 harg6 arg7 harg7 arg8 harg8 arg9 harg9 arg10 harg10 arg11 harg11 arg12 harg12 arg13 v94
  let v123 : Vec F S1536x512 .bf16 ← Prog.lift (.load arg11 (Rect.unit (s := S1536x512) ![0, 0] S1536x512.size inb_S1536x512_S1536x512_0_0).toLoadRect (View.loadsAt_vmem h_S1536x512))
  let v124 : Vec F S512x256 .bf16 ← Prog.lift (.load arg12 (Rect.unit (s := S512x3072) ![0, 2304] S512x256.size inb_S512x3072_S512x256_0_2304).toLoadRect (View.loadsAt_vmem h_S512x256))
  let v127 : Vec F S1536x256 .f32 ← Prog.lift (.load arg9 (Rect.unit (s := S1536x3072) ![0, 2304] S1536x256.size inb_S1536x3072_S1536x256_0_2304).toLoadRect (View.loadsAt_vmem h_S1536x256))
  Prog.lift (.store arg9 (Rect.unit (s := S1536x3072) ![0, 2304] S1536x256.size inb_S1536x3072_S1536x256_0_2304) (k0_pay10 v122 v123 v124) Finset.univ (View.stores_vmem_bits_univ h_S1536x256 rfl) (.inl rfl))
  let v130 : Vec F S1536x256 .f32 ← Prog.lift (.load arg9 (Rect.unit (s := S1536x3072) ![0, 2560] S1536x256.size inb_S1536x3072_S1536x256_0_2560).toLoadRect (View.loadsAt_vmem h_S1536x256))
  let v131 : Vec F S1536x512 .bf16 ← Prog.lift (.load arg11 (Rect.unit (s := S1536x512) ![0, 0] S1536x512.size inb_S1536x512_S1536x512_0_0).toLoadRect (View.loadsAt_vmem h_S1536x512))
  let v132 : Vec F S512x256 .bf16 ← Prog.lift (.load arg12 (Rect.unit (s := S512x3072) ![0, 2560] S512x256.size inb_S512x3072_S512x256_0_2560).toLoadRect (View.loadsAt_vmem h_S512x256))
  let v135 : Vec F S1536x256 .f32 ← Prog.lift (.load arg9 (Rect.unit (s := S1536x3072) ![0, 2560] S1536x256.size inb_S1536x3072_S1536x256_0_2560).toLoadRect (View.loadsAt_vmem h_S1536x256))
  Prog.lift (.store arg9 (Rect.unit (s := S1536x3072) ![0, 2560] S1536x256.size inb_S1536x3072_S1536x256_0_2560) (k0_pay11 v130 v131 v132) Finset.univ (View.stores_vmem_bits_univ h_S1536x256 rfl) (.inl rfl))
  let v138 : Vec F S1536x256 .f32 ← Prog.lift (.load arg9 (Rect.unit (s := S1536x3072) ![0, 2816] S1536x256.size inb_S1536x3072_S1536x256_0_2816).toLoadRect (View.loadsAt_vmem h_S1536x256))
  let v139 : Vec F S1536x512 .bf16 ← Prog.lift (.load arg11 (Rect.unit (s := S1536x512) ![0, 0] S1536x512.size inb_S1536x512_S1536x512_0_0).toLoadRect (View.loadsAt_vmem h_S1536x512))
  let v140 : Vec F S512x256 .bf16 ← Prog.lift (.load arg12 (Rect.unit (s := S512x3072) ![0, 2816] S512x256.size inb_S512x3072_S512x256_0_2816).toLoadRect (View.loadsAt_vmem h_S512x256))
  let v143 : Vec F S1536x256 .f32 ← Prog.lift (.load arg9 (Rect.unit (s := S1536x3072) ![0, 2816] S1536x256.size inb_S1536x3072_S1536x256_0_2816).toLoadRect (View.loadsAt_vmem h_S1536x256))
  Prog.lift (.store arg9 (Rect.unit (s := S1536x3072) ![0, 2816] S1536x256.size inb_S1536x3072_S1536x256_0_2816) (k0_pay12 v138 v139 v140) Finset.univ (View.stores_vmem_bits_univ h_S1536x256 rfl) (.inl rfl))
  pure ⟨⟩

/-- Copies the accumulator to the expert's place in main memory and waits for the copy. -/
def segFlush (i : grid0.Coords) (arg1 : Memref sig .tc .smem S9 .i32) (harg1 : arg1.IsWhole) (arg2 : Memref sig .tc .vmem S512x1536 .bf16) (harg2 : arg2.IsWhole) (arg3 : Memref sig .tc .vmem S512x3072 .bf16) (harg3 : arg3.IsWhole) (arg4 : Memref sig .tc .hbm S8x1536x3072 .f32) (harg4 : arg4.IsWhole) (arg5 : Memref sig .tc .vmem S512x1536 .fp8e4m3) (harg5 : arg5.IsWhole) (arg6 : Memref sig .tc .vmem S16x1536 .f32) (harg6 : arg6.IsWhole) (arg7 : Memref sig .tc .vmem S512x3072 .fp8e5m2) (harg7 : arg7.IsWhole) (arg8 : Memref sig .tc .vmem S16x3072 .f32) (harg8 : arg8.IsWhole) (arg9 : Memref sig .tc .vmem S1536x3072 .f32) (harg9 : arg9.IsWhole) (arg10 : Memref sig .tc .vmem S1536x512 .bf16) (harg10 : arg10.IsWhole) (arg11 : Memref sig .tc .vmem S1536x512 .bf16) (harg11 : arg11.IsWhole) (arg12 : Memref sig .tc .vmem S512x3072 .bf16) (harg12 : arg12.IsWhole) (arg13 : DmaSems sig S_) (k0_t3 : Fin k0_t3_loop.trips) :
    Prog (TpuEff nD τ sig (Elt F) Λ₀ .tc) PUnit := do
  let v41 : Memref sig .tc .hbm S1x1536x3072 .f32 := arg4.slice (Rect.unit (s := S8x1536x3072) (k0_off9 k0_t3) S1x1536x3072.size (k0_off9_inb k0_t3)) (fun _ => rfl)
  let v42 : Memref sig .tc .hbm S1536x3072 .f32 := v41.squeeze S1536x3072 squeezes_S1x1536x3072_S1536x3072
  Prog.lift (.enqueueDma arg9 (.here v42) (.dma arg13.sem) harg9.wordExact ((View.wordExact_bits rfl).reshape _ _) ⟨Or.inl rfl, trivial⟩)
  let v43 : Memref sig .tc .hbm S1x1536x3072 .f32 := arg4.slice (Rect.unit (s := S8x1536x3072) (k0_off9 k0_t3) S1x1536x3072.size (k0_off9_inb k0_t3)) (fun _ => rfl)
  let v44 : Memref sig .tc .hbm S1536x3072 .f32 := v43.squeeze S1536x3072 squeezes_S1x1536x3072_S1536x3072
  Prog.lift (.waitDma2 arg13.sem arg9 v44 harg9.wordExact ((View.wordExact_bits rfl).reshape _ _))
  pure ⟨⟩

/-- One trip of the loop over the experts, branch by branch. -/
theorem t3_body_eq (i : grid0.Coords) (arg1 : Memref sig .tc .smem S9 .i32) (harg1 : arg1.IsWhole) (arg2 : Memref sig .tc .vmem S512x1536 .bf16) (harg2 : arg2.IsWhole) (arg3 : Memref sig .tc .vmem S512x3072 .bf16) (harg3 : arg3.IsWhole) (arg4 : Memref sig .tc .hbm S8x1536x3072 .f32) (harg4 : arg4.IsWhole) (arg5 : Memref sig .tc .vmem S512x1536 .fp8e4m3) (harg5 : arg5.IsWhole) (arg6 : Memref sig .tc .vmem S16x1536 .f32) (harg6 : arg6.IsWhole) (arg7 : Memref sig .tc .vmem S512x3072 .fp8e5m2) (harg7 : arg7.IsWhole) (arg8 : Memref sig .tc .vmem S16x3072 .f32) (harg8 : arg8.IsWhole) (arg9 : Memref sig .tc .vmem S1536x3072 .f32) (harg9 : arg9.IsWhole) (arg10 : Memref sig .tc .vmem S1536x512 .bf16) (harg10 : arg10.IsWhole) (arg11 : Memref sig .tc .vmem S1536x512 .bf16) (harg11 : arg11.IsWhole) (arg12 : Memref sig .tc .vmem S512x3072 .bf16) (harg12 : arg12.IsWhole) (arg13 : DmaSems sig S_) (v0 : BitVec 32) (v1 : BitVec 1) (k : Fin k0_t3_loop.trips) (u : Unit) :
    k0_t3_body (F := F) i arg1 harg1 arg2 harg2 arg3 harg3 arg4 harg4 arg5 harg5 arg6 harg6 arg7 harg7 arg8 harg8 arg9 harg9 arg10 harg10 arg11 harg11 arg12 harg12 arg13 v0 v1 k u = (do
      let v6 : Elt F .i32 ← smemLoad arg1 (Rect.unit (s := S9) (k0_off6 k) S1.size (k0_off6_inb k)) numel1_S1 rfl
      let v9 : Elt F .i32 ← smemLoad arg1 (Rect.unit (s := S9) (k0_off7 k) S1.size (k0_off7_inb k)) numel1_S1 rfl
      (if zeroC v0 v1 v6 v9 = 1#1 then segZero (F := F) i arg1 harg1 arg2 harg2 arg3 harg3 arg4 harg4 arg5 harg5 arg6 harg6 arg7 harg7 arg8 harg8 arg9 harg9 arg10 harg10 arg11 harg11 arg12 harg12 arg13 else pure ⟨⟩)
      (if fullC v0 v6 v9 = 1#1 then segFull (F := F) i arg1 harg1 arg2 harg2 arg3 harg3 arg4 harg4 arg5 harg5 arg6 harg6 arg7 harg7 arg8 harg8 arg9 harg9 arg10 harg10 arg11 harg11 arg12 harg12 arg13 else pure ⟨⟩)
      (if maskC v0 v6 v9 = 1#1 then segMask (F := F) i arg1 harg1 arg2 harg2 arg3 harg3 arg4 harg4 arg5 harg5 arg6 harg6 arg7 harg7 arg8 harg8 arg9 harg9 arg10 harg10 arg11 harg11 arg12 harg12 arg13 v0 v6 v9 else pure ⟨⟩)
      (if flushC v0 v1 v6 v9 = 1#1 then segFlush (F := F) i arg1 harg1 arg2 harg2 arg3 harg3 arg4 harg4 arg5 harg5 arg6 harg6 arg7 harg7 arg8 harg8 arg9 harg9 arg10 harg10 arg11 harg11 arg12 harg12 arg13 k else pure ⟨⟩)) := by
  unfold k0_t3_body
  refine congrArg (Prog.bind _) (funext fun v6 => ?_)
  refine congrArg (Prog.bind _) (funext fun v9 => ?_)
  simp only [segZero, segFull, segMask, segFlush, ite_bind', bind_assoc, pure_bind]
  rfl

end Cert.Kernel.Hand
end
-- ==== Proof.Tiles.lean ====
module

public import Idealize.ShloMosaic.Lib.Writes
public import Idealize.ShloMosaic.Lib.WritesUnit
public import Idealize.ShloMosaic.Lib.VecWindow
public import Idealize.ShloMosaic.Lib.Pointwise

@[expose] public section

/-!
Arrays of two axes cut into blocks of 256 columns, or of 256 rows: one block of an array, the array made of given
blocks, and what a buffer reads after one more block was stored.
-/

namespace Cert.Tiles

open Idealize.ShloMosaic

variable {α : Type} {R C n : ℕ}

/-- Block `j` of 256 columns. -/
def colBlk (hC : C = 256 * n) (v : (⟨2, ![R, C]⟩ : Shape).Idx → α) (j : Fin n) : (⟨2, ![R, 256]⟩ : Shape).Idx → α :=
  fun x => v (ix2 (n0 := R) (n1 := C) (x 0) ⟨256 * j.val + (x 1).val, by
    have h1 : (x 1).val < 256 := (x 1).isLt
    have := j.isLt; omega⟩)

/-- The array whose blocks of 256 columns are given. -/
def ofCols (hC : C = 256 * n) (B : Fin n → (⟨2, ![R, 256]⟩ : Shape).Idx → α) : (⟨2, ![R, C]⟩ : Shape).Idx → α :=
  fun y => B ⟨(y 1).val / 256, by have h1 : (y 1).val < C := (y 1).isLt; omega⟩
    (ix2 (n0 := R) (n1 := 256) (y 0) ⟨(y 1).val % 256, Nat.mod_lt _ (by decide)⟩)

/-- Block `j` of 256 rows. -/
def rowBlk (hR : R = 256 * n) (v : (⟨2, ![R, C]⟩ : Shape).Idx → α) (j : Fin n) : (⟨2, ![256, C]⟩ : Shape).Idx → α :=
  fun x => v (ix2 (n0 := R) (n1 := C) ⟨256 * j.val + (x 0).val, by
    have h1 : (x 0).val < 256 := (x 0).isLt
    have := j.isLt; omega⟩ (x 1))

/-- The array whose blocks of 256 rows are given. -/
def ofRows (hR : R = 256 * n) (B : Fin n → (⟨2, ![256, C]⟩ : Shape).Idx → α) : (⟨2, ![R, C]⟩ : Shape).Idx → α :=
  fun y => B ⟨(y 0).val / 256, by have h1 : (y 0).val < R := (y 0).isLt; omega⟩
    (ix2 (n0 := 256) (n1 := C) ⟨(y 0).val % 256, Nat.mod_lt _ (by decide)⟩ (y 1))

theorem ofCols_of (hC : C = 256 * n) (B : Fin n → (⟨2, ![R, 256]⟩ : Shape).Idx → α) (j : Fin n)
    (x : (⟨2, ![R, 256]⟩ : Shape).Idx) (y : (⟨2, ![R, C]⟩ : Shape).Idx) (h0 : (y 0).val = (x 0).val)
    (h1 : (y 1).val = 256 * j.val + (x 1).val) : ofCols hC B y = B j x := by
  have hx : (x 1).val < 256 := (x 1).isLt
  unfold ofCols
  have e1 : (⟨(y 1).val / 256, by have h1 : (y 1).val < C := (y 1).isLt; omega⟩ : Fin n) = j := Fin.ext (by simp only; omega)
  rw [e1, eq_ix2 x]
  congr 1
  have e0 : y 0 = x 0 := Fin.ext h0
  have e2 : (⟨(y 1).val % 256, Nat.mod_lt _ (by decide)⟩ : Fin 256) = x 1 := Fin.ext (by simp only; omega)
  exact congrArg₂ ix2 e0 e2

theorem ofRows_of (hR : R = 256 * n) (B : Fin n → (⟨2, ![256, C]⟩ : Shape).Idx → α) (j : Fin n)
    (x : (⟨2, ![256, C]⟩ : Shape).Idx) (y : (⟨2, ![R, C]⟩ : Shape).Idx) (h0 : (y 0).val = 256 * j.val + (x 0).val)
    (h1 : (y 1).val = (x 1).val) : ofRows hR B y = B j x := by
  have hx : (x 0).val < 256 := (x 0).isLt
  unfold ofRows
  have e1 : (⟨(y 0).val / 256, by have h1 : (y 0).val < R := (y 0).isLt; omega⟩ : Fin n) = j := Fin.ext (by simp only; omega)
  rw [e1, eq_ix2 x]
  congr 1
  have e0 : y 1 = x 1 := Fin.ext h1
  have e2 : (⟨(y 0).val % 256, Nat.mod_lt _ (by decide)⟩ : Fin 256) = x 0 := Fin.ext (by simp only; omega)
  exact congrArg₂ ix2 e2 e0

section Buffers

variable {Val : EltTy → Type} [∀ e, Nonempty (Val e)] {sig : RefSig} {κ : Kind} {sp : Space} {e : EltTy}

/-- A load of block `j` of the columns. -/
theorem readAt_cols (hC : C = 256 * n) (v : View sig κ sp (⟨2, ![R, C]⟩ : Shape) e) (f : v.ty.Contents Val) (j : Fin n)
    {off : Fin 2 → ℕ} (inb : ∀ a, off a + (⟨2, ![R, 256]⟩ : Shape).size a ≤ (⟨2, ![R, C]⟩ : Shape).size a)
    (hoff : off = ![0, 256 * j.val]) :
    v.readAt Val (Rect.unit (s := (⟨2, ![R, C]⟩ : Shape)) off (⟨2, ![R, 256]⟩ : Shape).size inb).toLoadRect f
      = colBlk hC (v.read Val f) j := by
  subst hoff
  funext x
  refine congrArg (v.read Val f) (funext fun a => Fin.ext ?_)
  match a with
  | ⟨0, _⟩ => show 0 + 1 * (x 0).val = (x 0).val; omega
  | ⟨1, _⟩ => show 256 * j.val + 1 * (x 1).val = 256 * j.val + (x 1).val; omega

/-- A load of block `j` of the rows. -/
theorem readAt_rows (hR : R = 256 * n) (v : View sig κ sp (⟨2, ![R, C]⟩ : Shape) e) (f : v.ty.Contents Val) (j : Fin n)
    {off : Fin 2 → ℕ} (inb : ∀ a, off a + (⟨2, ![256, C]⟩ : Shape).size a ≤ (⟨2, ![R, C]⟩ : Shape).size a)
    (hoff : off = ![256 * j.val, 0]) :
    v.readAt Val (Rect.unit (s := (⟨2, ![R, C]⟩ : Shape)) off (⟨2, ![256, C]⟩ : Shape).size inb).toLoadRect f
      = rowBlk hR (v.read Val f) j := by
  subst hoff
  funext x
  refine congrArg (v.read Val f) (funext fun a => Fin.ext ?_)
  match a with
  | ⟨0, _⟩ => show 256 * j.val + 1 * (x 0).val = 256 * j.val + (x 0).val; omega
  | ⟨1, _⟩ => show 0 + 1 * (x 1).val = (x 1).val; omega

/-- After block `j` of the columns was stored, the columns before its end read the array of the blocks. -/
theorem read_cols_succ (hC : C = 256 * n) (v : View sig κ sp (⟨2, ![R, C]⟩ : Shape) e) (f : v.ty.Contents Val)
    (B : Fin n → (⟨2, ![R, 256]⟩ : Shape).Idx → Val e) (j : Fin n) (L : List (View.Piece Val (⟨2, ![R, C]⟩ : Shape) e))
    {off : Fin 2 → ℕ} (inb : ∀ a, off a + (⟨2, ![R, 256]⟩ : Shape).size a ≤ (⟨2, ![R, C]⟩ : Shape).size a)
    (hoff : off = ![0, 256 * j.val]) (w : (⟨2, ![R, 256]⟩ : Shape).Idx → Val e) (hw : w = B j)
    (h : ∀ y : (⟨2, ![R, C]⟩ : Shape).Idx, (y 1).val < 256 * j.val → v.read Val (v.writes Val f L) y = ofCols hC B y)
    (y : (⟨2, ![R, C]⟩ : Shape).Idx) (hy : (y 1).val < 256 * (j.val + 1)) :
    v.read Val (v.writes Val f ((⟨Rect.unit (s := (⟨2, ![R, C]⟩ : Shape)) off (⟨2, ![R, 256]⟩ : Shape).size inb, w⟩
      : View.Piece Val (⟨2, ![R, C]⟩ : Shape) e) :: L)) y = ofCols hC B y := by
  subst hw
  by_cases hlt : (y 1).val < 256 * j.val
  · rw [View.read_writes_cons_unit_of_not_mem v f inb _ L y hoff (1 : Fin 2) (Or.inl hlt)]
    exact h y hlt
  · let x : (⟨2, ![R, 256]⟩ : Shape).Idx := ix2 (n0 := R) (n1 := 256) (y 0) ⟨(y 1).val - 256 * j.val, by omega⟩
    rw [View.read_writes_cons_unit_of_mem v f inb _ L y x hoff (Fin.forall_fin_two.mpr
      ⟨by show (y 0).val = 0 + (y 0).val; omega, by
        show (y 1).val = 256 * j.val + ((y 1).val - 256 * j.val); omega⟩)]
    exact (ofCols_of hC B j x y rfl (by show (y 1).val = 256 * j.val + ((y 1).val - 256 * j.val); omega)).symm

/-- After block `j` of the rows was stored, the rows before its end read the array of the blocks. -/
theorem read_rows_succ (hR : R = 256 * n) (v : View sig κ sp (⟨2, ![R, C]⟩ : Shape) e) (f : v.ty.Contents Val)
    (B : Fin n → (⟨2, ![256, C]⟩ : Shape).Idx → Val e) (j : Fin n) (L : List (View.Piece Val (⟨2, ![R, C]⟩ : Shape) e))
    {off : Fin 2 → ℕ} (inb : ∀ a, off a + (⟨2, ![256, C]⟩ : Shape).size a ≤ (⟨2, ![R, C]⟩ : Shape).size a)
    (hoff : off = ![256 * j.val, 0]) (w : (⟨2, ![256, C]⟩ : Shape).Idx → Val e) (hw : w = B j)
    (h : ∀ y : (⟨2, ![R, C]⟩ : Shape).Idx, (y 0).val < 256 * j.val → v.read Val (v.writes Val f L) y = ofRows hR B y)
    (y : (⟨2, ![R, C]⟩ : Shape).Idx) (hy : (y 0).val < 256 * (j.val + 1)) :
    v.read Val (v.writes Val f ((⟨Rect.unit (s := (⟨2, ![R, C]⟩ : Shape)) off (⟨2, ![256, C]⟩ : Shape).size inb, w⟩
      : View.Piece Val (⟨2, ![R, C]⟩ : Shape) e) :: L)) y = ofRows hR B y := by
  subst hw
  by_cases hlt : (y 0).val < 256 * j.val
  · rw [View.read_writes_cons_unit_of_not_mem v f inb _ L y hoff (0 : Fin 2) (Or.inl hlt)]
    exact h y hlt
  · let x : (⟨2, ![256, C]⟩ : Shape).Idx := ix2 (n0 := 256) (n1 := C) ⟨(y 0).val - 256 * j.val, by omega⟩ (y 1)
    rw [View.read_writes_cons_unit_of_mem v f inb _ L y x hoff (Fin.forall_fin_two.mpr
      ⟨by show (y 0).val = 256 * j.val + ((y 0).val - 256 * j.val); omega, by
        show (y 1).val = 0 + (y 1).val; omega⟩)]
    exact (ofRows_of hR B j x y (by show (y 0).val = 256 * j.val + ((y 0).val - 256 * j.val); omega) rfl).symm

/-- A store of one block of the columns leaves the later blocks as they were. -/
theorem readAt_cols_cons (hC : C = 256 * n) (v : View sig κ sp (⟨2, ![R, C]⟩ : Shape) e) (f : v.ty.Contents Val) (i j : Fin n)
    (hij : i < j) (L : List (View.Piece Val (⟨2, ![R, C]⟩ : Shape) e))
    {off : Fin 2 → ℕ} (inb : ∀ a, off a + (⟨2, ![R, 256]⟩ : Shape).size a ≤ (⟨2, ![R, C]⟩ : Shape).size a)
    (hoff : off = ![0, 256 * i.val]) (w : (⟨2, ![R, 256]⟩ : Shape).Idx → Val e) :
    colBlk hC (v.read Val (v.writes Val f ((⟨Rect.unit (s := (⟨2, ![R, C]⟩ : Shape)) off (⟨2, ![R, 256]⟩ : Shape).size inb, w⟩
      : View.Piece Val (⟨2, ![R, C]⟩ : Shape) e) :: L))) j = colBlk hC (v.read Val (v.writes Val f L)) j := by
  funext x
  unfold colBlk
  have := Fin.lt_def.mp hij
  exact View.read_writes_cons_unit_of_not_mem v f inb w L _ hoff (1 : Fin 2) (Or.inr (by
    show 256 * i.val + 256 ≤ 256 * j.val + (x 1).val; omega))

end Buffers

end Cert.Tiles
-- ==== Proof.K.Runs.lean ====
module

public import proofs.«01_k».proof.Proof.K.Trips
public import proofs.«01_k».proof.Proof.K.Segments
public import proofs.«01_k».proof.Proof.Tiles
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Tiles

/-! ### What the kernel computes from one tile of rows -/

/-- The scales of a block of 256 columns of the left operand, one per 32 rows. -/
def xScale (v8 : Vec F S512x256 .bf16) : FVec F S16x256 .f32 :=
  k0_pay19 (k0_pay14 v8) (k0_pay15 v8) (k0_pay16 v8) (k0_pay17 v8)
/-- The block divided by its scales, cut off below. -/
def xClip (v8 : Vec F S512x256 .bf16) : FVec F S16x32x256 .bf16 :=
  k0_pay20 (k0_pay13 v8) (k0_pay14 v8) (k0_pay15 v8) (k0_pay16 v8) (k0_pay17 v8)
def yScale (v8 : Vec F S512x256 .bf16) : FVec F S16x256 .f32 :=
  k0_pay28 (k0_pay23 v8) (k0_pay24 v8) (k0_pay25 v8) (k0_pay26 v8)
def yClip (v8 : Vec F S512x256 .bf16) : FVec F S16x32x256 .bf16 :=
  k0_pay29 (k0_pay22 v8) (k0_pay23 v8) (k0_pay24 v8) (k0_pay25 v8) (k0_pay26 v8)

/-- The left operand's codes, scales and transposed dequantised values. -/
def xcT (v : S512x1536.Idx → F .bf16) : S512x1536.Idx → F .fp8e4m3 :=
  ofCols (n := 6) rfl fun j => k0_pay2 (xClip (F := F) (colBlk (n := 6) rfl v j)) (k0_pay21 (F := F))
def xsT (v : S512x1536.Idx → F .bf16) : S16x1536.Idx → F .f32 :=
  ofCols (n := 6) rfl fun j => xScale (F := F) (colBlk (n := 6) rfl v j)
def xtT (v : S512x1536.Idx → F .bf16) : S1536x512.Idx → F .bf16 :=
  ofRows (n := 6) rfl fun j => k0_pay3 (xScale (F := F) (colBlk (n := 6) rfl v j)) (xClip (F := F) (colBlk (n := 6) rfl v j)) (k0_pay21 (F := F))
/-- The right operand's codes, scales and dequantised values. -/
def ycT (v : S512x3072.Idx → F .bf16) : S512x3072.Idx → F .fp8e5m2 :=
  ofCols (n := 12) rfl fun j => k0_pay5 (yClip (F := F) (colBlk (n := 12) rfl v j)) (k0_pay30 (F := F))
def ysT (v : S512x3072.Idx → F .bf16) : S16x3072.Idx → F .f32 :=
  ofCols (n := 12) rfl fun j => yScale (F := F) (colBlk (n := 12) rfl v j)
def ywT (v : S512x3072.Idx → F .bf16) : S512x3072.Idx → F .bf16 :=
  ofCols (n := 12) rfl fun j => k0_pay6 (yScale (F := F) (colBlk (n := 12) rfl v j)) (yClip (F := F) (colBlk (n := 12) rfl v j)) (k0_pay30 (F := F))

/-- The accumulator after a tile's product was added to it. -/
def accT (a : S1536x3072.Idx → F .f32) (x : S1536x512.Idx → F .bf16) (w : S512x3072.Idx → F .bf16) : S1536x3072.Idx → F .f32 :=
  ofCols (n := 12) rfl fun j => k0_pay8 (F := F) (colBlk (n := 12) rfl a j) x (colBlk (n := 12) rfl w j)
/-- The transposed values with the rows outside the group `[v6, v9)` cleared. -/
def maskT (v0 v6 v9 : BitVec 32) (x : S1536x512.Idx → F .bf16) : S1536x512.Idx → F .bf16 :=
  ofRows (n := 6) rfl fun j => k0_pay42 (F := F) v0 v6 v9 (rowBlk (n := 6) rfl x j)
/-- The stored result with expert `k`'s matrix replaced. -/
def putE (k : ℕ) (a : S1536x3072.Idx → F .f32) (d : S8x1536x3072.Idx → F .f32) : S8x1536x3072.Idx → F .f32 :=
  fun y => if (y 0).val = k then a (ix2 (n0 := 1536) (n1 := 3072) (y 1) (y 2)) else d y

/-- One expert's turn in a tile that starts at row `v0`: the accumulator and the stored result after it. -/
def stepE (v0 : BitVec 32) (v1 : BitVec 1) (k : ℕ) (v6 v9 : BitVec 32) (x : S1536x512.Idx → F .bf16) (w : S512x3072.Idx → F .bf16)
    (s : (S1536x3072.Idx → F .f32) × (S8x1536x3072.Idx → F .f32)) : (S1536x3072.Idx → F .f32) × (S8x1536x3072.Idx → F .f32) :=
  let a1 := if zeroC v0 v1 v6 v9 = 1#1 then k0_pay7 (F := F) else s.1
  let a2 := if fullC v0 v6 v9 = 1#1 then accT a1 x w else a1
  let a3 := if maskC v0 v6 v9 = 1#1 then accT a2 (maskT v0 v6 v9 x) w else a2
  (a3, if flushC v0 v1 v6 v9 = 1#1 then putE k a3 s.2 else s.2)

variable (c : Dev nD) (i : grid0.Coords)
  (arg2 : Memref sig .tc .vmem S512x1536 .bf16) (harg2 : arg2.IsWhole)
  (arg3 : Memref sig .tc .vmem S512x3072 .bf16) (harg3 : arg3.IsWhole)
  (arg5 : Memref sig .tc .vmem S512x1536 .fp8e4m3) (harg5 : arg5.IsWhole)
  (arg6 : Memref sig .tc .vmem S16x1536 .f32) (harg6 : arg6.IsWhole)
  (arg7 : Memref sig .tc .vmem S512x3072 .fp8e5m2) (harg7 : arg7.IsWhole)
  (arg8 : Memref sig .tc .vmem S16x3072 .f32) (harg8 : arg8.IsWhole)

/-- A memref's buffer held whole, reading the given array. -/
def ptv {sp : Space} {S : Shape} {e : EltTy} (M : Memref sig .tc sp S e) (d : S.Idx → Elt F e) : sProp 𝕄 :=
  iprop(∃ f : BufTy.Contents (Elt F) M.view.ty, ⌜M.view.read (Elt F) f = d⌝ ∗ pt (F := F) c M f)
/-- A memref's buffer held whole, at any contents. -/
def pta {sp : Space} {S : Shape} {e : EltTy} (M : Memref sig .tc sp S e) : sProp 𝕄 :=
  iprop(∃ f : BufTy.Contents (Elt F) M.view.ty, pt (F := F) c M f)

abbrev body2 := k0_t2_body (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev body3 := k0_t3_body (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev body4 := k0_t4_body (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev sZero := segZero (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev sFull := segFull (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev sMask := segMask (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev sFlush := segFlush (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4

/-! ### The two quantising loops -/

theorem lt6 (k : Fin k0_t1_loop.trips) : k.val < 6 := Nat.lt_of_lt_of_le k.isLt k0_t1_abs.2.1
theorem lt12 (k : Fin k0_t2_loop.trips) : k.val < 12 := Nat.lt_of_lt_of_le k.isLt k0_t2_abs.2.1
theorem lt8 (k : Fin k0_t3_loop.trips) : k.val < 8 := Nat.lt_of_lt_of_le k.isLt k0_t3_abs.2.1
theorem lt6' (k : Fin k0_t4_loop.trips) : k.val < 6 := Nat.lt_of_lt_of_le k.isLt k0_t4_abs.2.1
theorem trips1 : k0_t1_loop.trips = 6 := by decide +kernel
theorem trips2 : k0_t2_loop.trips = 12 := by decide +kernel
theorem trips3 : k0_t3_loop.trips = 8 := by decide +kernel
theorem trips4 : k0_t4_loop.trips = 6 := by decide +kernel

/-- A counted loop by an invariant. -/
theorem loop_wp (L : Scf.Loop 32) (hok : L.OK) (body : Fin L.trips → PUnit → Prog (TpuEff nD τ sig (Elt F) Λ₀ .tc) PUnit)
    (I : ℕ → PUnit → sProp 𝕄) (hstep : ∀ k u, I k.val u ⊢ (wp Idealize.ShloMosaic.frame (wpE (defs₀ (F := F)) Variants.none (c : Thread nD τ) none) Set.univ) (body k u) (I (k.val + 1))) {P : sProp 𝕄} {Q : PUnit → sProp 𝕄}
    (hinit : P ⊢ I 0 ⟨⟩) (hdone : ∀ u, I L.trips u ⊢ Q u) : P ⊢ (wp Idealize.ShloMosaic.frame (wpE (defs₀ (F := F)) Variants.none (c : Thread nD τ) none) Set.univ) (Scf.Loop.for L hok ⟨⟩ body) Q := by
  refine hinit.trans ?_
  iintro H
  iapply (Scf.wp_for _ _ _ _ _ _ hok _ _ I hstep)
  isplitl [H]
  · iexact H
  · iintro %u H
    iapply (hdone u)
    iexact H

def trip2 (X : BufTy.Contents (Elt F) arg3.view.ty) (k : Fin k0_t2_loop.trips) :
    Σ' (L7 : List (View.Piece (Elt F) S512x3072 .fp8e5m2)) (L8 : List (View.Piece (Elt F) S16x3072 .f32)),
      { L12 : List (View.Piece (Elt F) S512x3072 .bf16) // ∀ (f7 : BufTy.Contents (Elt F) arg7.view.ty) (f8 : BufTy.Contents (Elt F) arg8.view.ty) (f12 : BufTy.Contents (Elt F) (ywM).view.ty),
      iprop(pt (F := F) c arg3 X ∗ pt c arg7 f7 ∗ pt c arg8 f8 ∗ pt c ywM f12)
      ⊢ wp frame (wpE (defs₀ (F := F)) Variants.none (c : Thread nD τ) none) Set.univ (body2 i arg2 harg2 arg3 harg3 arg5 harg5 arg6 harg6 arg7 harg7 arg8 harg8 k PUnit.unit)
          (fun _ => iprop(pt (F := F) c arg3 X ∗ pt c arg7 (arg7.view.writes (Elt F) f7 L7) ∗ pt c arg8 (arg8.view.writes (Elt F) f8 L8)
            ∗ pt c ywM ((ywM).view.writes (Elt F) f12 L12))) } := by
  have hk : k.val < 12 := Nat.lt_of_lt_of_le k.isLt k0_t2_abs.2.1
  refine ⟨?_, ?_, ?_, fun f_arg7 f_arg8 f_arg12 => ?run⟩
  case run =>
    unfold body2 k0_t2_body pt
    iintro ⟨HR_arg3, HW_arg7, HW_arg8, HW_arg12⟩
    sl_exec
    sl_step
    sl_close

section Loop1

/-- The blocks stored before trip `k` of the first loop. -/
def I1 (v : S512x1536.Idx → F .bf16) (k : ℕ) (_ : PUnit) : sProp 𝕄 :=
  iprop(∃ (X : BufTy.Contents (Elt F) arg2.view.ty) (f5 : BufTy.Contents (Elt F) arg5.view.ty) (f6 : BufTy.Contents (Elt F) arg6.view.ty) (f10 : BufTy.Contents (Elt F) (xtM).view.ty),
    ⌜arg2.view.read (Elt F) X = v ∧ (∀ y : S512x1536.Idx, (y 1).val < 256 * k → arg5.view.read (Elt F) f5 y = xcT v y)
      ∧ (∀ y : S16x1536.Idx, (y 1).val < 256 * k → arg6.view.read (Elt F) f6 y = xsT v y)
      ∧ (∀ y : S1536x512.Idx, (y 0).val < 256 * k → (xtM).view.read (Elt F) f10 y = xtT v y)⌝
    ∗ pt (F := F) c arg2 X ∗ pt c arg5 f5 ∗ pt c arg6 f6 ∗ pt c xtM f10)

theorem step1 (v : S512x1536.Idx → F .bf16) (k : Fin k0_t1_loop.trips) (u : PUnit) :
    I1 c arg2 arg5 arg6 v k.val u ⊢ (wp Idealize.ShloMosaic.frame (wpE (defs₀ (F := F)) Variants.none (c : Thread nD τ) none) Set.univ) (body1 i arg2 harg2 arg3 harg3 arg5 harg5 arg6 harg6 arg7 harg7 arg8 harg8 k u) (I1 c arg2 arg5 arg6 v (k.val + 1)) := by
  unfold I1
  iintro ⟨%X, %f5, %f6, %f10, %h, H⟩
  obtain ⟨hX, h5, h6, h10⟩ := h
  iapply (wp_wand_r _ _ _)
  isplitl [H]
  · iapply ((trip1 c i arg2 harg2 arg3 harg3 arg5 harg5 arg6 harg6 arg7 harg7 arg8 harg8 X k).2.2.2 f5 f6 f10)
    iexact H
  · iintro %_ H
    iexists X, _, _, _
    isplitr
    · ipureintro
      have hv : arg2.view.readAt (Elt F) (Rect.unit (s := S512x1536) (k0_off1 k) S512x256.size (k0_off1_inb k)).toLoadRect X
          = colBlk (n := 6) rfl v ⟨k.val, lt6 k⟩ := by
        rw [← hX]; exact readAt_cols rfl arg2.view X ⟨k.val, lt6 k⟩ _ (k0_off1_eq k)
      refine ⟨hX, fun y hy => ?_, fun y hy => ?_, fun y hy => ?_⟩
      · exact read_cols_succ (n := 6) rfl arg5.view f5 _ ⟨k.val, lt6 k⟩ [] (k0_off1_inb k) (k0_off1_eq k) _
          (by rw [← hv]) (fun y hy => h5 y hy) y hy
      · exact read_cols_succ (n := 6) rfl arg6.view f6 _ ⟨k.val, lt6 k⟩ [] (k0_off2_inb k) (k0_off2_eq k) _
          (by rw [← hv]) (fun y hy => h6 y hy) y hy
      · exact read_rows_succ (n := 6) rfl (xtM).view f10 _ ⟨k.val, lt6 k⟩ [] (k0_off3_inb k) (k0_off3_eq k) _
          (by rw [← hv]) (fun y hy => h10 y hy) y hy
    · iexact H

theorem I1_init (v : S512x1536.Idx → F .bf16) (u : PUnit) :
    iprop(ptv c arg2 v ∗ pta (F := F) c arg5 ∗ pta (F := F) c arg6 ∗ pta (F := F) c xtM) ⊢ I1 c arg2 arg5 arg6 v 0 u := by
  unfold I1 ptv pta
  iintro ⟨⟨%X, %hX, H2⟩, ⟨%f5, H5⟩, ⟨%f6, H6⟩, ⟨%f10, H10⟩⟩
  iexists X, f5, f6, f10
  isplitr
  · ipureintro
    exact ⟨hX, fun y hy => absurd hy (by omega), fun y hy => absurd hy (by omega), fun y hy => absurd hy (by omega)⟩
  · isplitl [H2]; · iexact H2
    isplitl [H5]; · iexact H5
    isplitl [H6]; · iexact H6
    iexact H10

theorem I1_done (v : S512x1536.Idx → F .bf16) (u : PUnit) :
    I1 c arg2 arg5 arg6 v k0_t1_loop.trips u ⊢ iprop(ptv c arg2 v ∗ ptv c arg5 (xcT v) ∗ ptv c arg6 (xsT v) ∗ ptv c xtM (xtT v)) := by
  rw [trips1]
  unfold I1 ptv
  iintro ⟨%X, %f5, %f6, %f10, %h, H2, H5, H6, H10⟩
  obtain ⟨hX, h5, h6, h10⟩ := h
  isplitl [H2]
  · iexists X; isplitr; · ipureintro; exact hX
    iexact H2
  isplitl [H5]
  · iexists f5; isplitr; · ipureintro; exact funext fun y => h5 y (y 1).isLt
    iexact H5
  isplitl [H6]
  · iexists f6; isplitr; · ipureintro; exact funext fun y => h6 y (y 1).isLt
    iexact H6
  · iexists f10; isplitr; · ipureintro; exact funext fun y => h10 y (y 0).isLt
    iexact H10

/-- The first loop quantises a tile of the left operand. -/
theorem loop1 (v : S512x1536.Idx → F .bf16) :
    iprop(ptv c arg2 v ∗ pta (F := F) c arg5 ∗ pta (F := F) c arg6 ∗ pta (F := F) c xtM)
      ⊢ (wp Idealize.ShloMosaic.frame (wpE (defs₀ (F := F)) Variants.none (c : Thread nD τ) none) Set.univ) (Scf.Loop.for k0_t1_loop k0_t1_ok ⟨⟩ (body1 i arg2 harg2 arg3 harg3 arg5 harg5 arg6 harg6 arg7 harg7 arg8 harg8))
          (fun _ => iprop(ptv c arg2 v ∗ ptv c arg5 (xcT v) ∗ ptv c arg6 (xsT v) ∗ ptv c xtM (xtT v))) :=
  loop_wp c k0_t1_loop k0_t1_ok _ (I1 c arg2 arg5 arg6 v) (step1 c i arg2 harg2 arg3 harg3 arg5 harg5 arg6 harg6 arg7 harg7 arg8 harg8 v)
    (I1_init c arg2 arg5 arg6 v ⟨⟩) (I1_done c arg2 arg5 arg6 v)

end Loop1

section Loop2

/-- The blocks stored before trip `k` of the second loop. -/
def I2 (v : S512x3072.Idx → F .bf16) (k : ℕ) (_ : PUnit) : sProp 𝕄 :=
  iprop(∃ (X : BufTy.Contents (Elt F) arg3.view.ty) (f5 : BufTy.Contents (Elt F) arg7.view.ty) (f6 : BufTy.Contents (Elt F) arg8.view.ty) (f10 : BufTy.Contents (Elt F) (ywM).view.ty),
    ⌜arg3.view.read (Elt F) X = v ∧ (∀ y : S512x3072.Idx, (y 1).val < 256 * k → arg7.view.read (Elt F) f5 y = ycT v y)
      ∧ (∀ y : S16x3072.Idx, (y 1).val < 256 * k → arg8.view.read (Elt F) f6 y = ysT v y)
      ∧ (∀ y : S512x3072.Idx, (y 1).val < 256 * k → (ywM).view.read (Elt F) f10 y = ywT v y)⌝
    ∗ pt (F := F) c arg3 X ∗ pt c arg7 f5 ∗ pt c arg8 f6 ∗ pt c ywM f10)

theorem step2 (v : S512x3072.Idx → F .bf16) (k : Fin k0_t2_loop.trips) (u : PUnit) :
    I2 c arg3 arg7 arg8 v k.val u ⊢ (wp Idealize.ShloMosaic.frame (wpE (defs₀ (F := F)) Variants.none (c : Thread nD τ) none) Set.univ) (body2 i arg2 harg2 arg3 harg3 arg5 harg5 arg6 harg6 arg7 harg7 arg8 harg8 k u) (I2 c arg3 arg7 arg8 v (k.val + 1)) := by
  unfold I2
  iintro ⟨%X, %f5, %f6, %f10, %h, H⟩
  obtain ⟨hX, h5, h6, h10⟩ := h
  iapply (wp_wand_r _ _ _)
  isplitl [H]
  · iapply ((trip2 c i arg2 harg2 arg3 harg3 arg5 harg5 arg6 harg6 arg7 harg7 arg8 harg8 X k).2.2.2 f5 f6 f10)
    iexact H
  · iintro %_ H
    iexists X, _, _, _
    isplitr
    · ipureintro
      have hv : arg3.view.readAt (Elt F) (Rect.unit (s := S512x3072) (k0_off4 k) S512x256.size (k0_off4_inb k)).toLoadRect X
          = colBlk (n := 12) rfl v ⟨k.val, lt12 k⟩ := by
        rw [← hX]; exact readAt_cols rfl arg3.view X ⟨k.val, lt12 k⟩ _ (k0_off4_eq k)
      refine ⟨hX, fun y hy => ?_, fun y hy => ?_, fun y hy => ?_⟩
      · exact read_cols_succ (n := 12) rfl arg7.view f5 _ ⟨k.val, lt12 k⟩ [] (k0_off4_inb k) (k0_off4_eq k) _
          (by rw [← hv]) (fun y hy => h5 y hy) y hy
      · exact read_cols_succ (n := 12) rfl arg8.view f6 _ ⟨k.val, lt12 k⟩ [] (k0_off5_inb k) (k0_off5_eq k) _
          (by rw [← hv]) (fun y hy => h6 y hy) y hy
      · exact read_cols_succ (n := 12) rfl (ywM).view f10 _ ⟨k.val, lt12 k⟩ [] (k0_off4_inb k) (k0_off4_eq k) _
          (by rw [← hv]) (fun y hy => h10 y hy) y hy
    · iexact H

theorem I2_init (v : S512x3072.Idx → F .bf16) (u : PUnit) :
    iprop(ptv c arg3 v ∗ pta (F := F) c arg7 ∗ pta (F := F) c arg8 ∗ pta (F := F) c ywM) ⊢ I2 c arg3 arg7 arg8 v 0 u := by
  unfold I2 ptv pta
  iintro ⟨⟨%X, %hX, H2⟩, ⟨%f5, H5⟩, ⟨%f6, H6⟩, ⟨%f10, H10⟩⟩
  iexists X, f5, f6, f10
  isplitr
  · ipureintro
    exact ⟨hX, fun y hy => absurd hy (by omega), fun y hy => absurd hy (by omega), fun y hy => absurd hy (by omega)⟩
  · isplitl [H2]; · iexact H2
    isplitl [H5]; · iexact H5
    isplitl [H6]; · iexact H6
    iexact H10

theorem I2_done (v : S512x3072.Idx → F .bf16) (u : PUnit) :
    I2 c arg3 arg7 arg8 v k0_t2_loop.trips u ⊢ iprop(ptv c arg3 v ∗ ptv c arg7 (ycT v) ∗ ptv c arg8 (ysT v) ∗ ptv c ywM (ywT v)) := by
  rw [trips2]
  unfold I2 ptv
  iintro ⟨%X, %f5, %f6, %f10, %h, H2, H5, H6, H10⟩
  obtain ⟨hX, h5, h6, h10⟩ := h
  isplitl [H2]
  · iexists X; isplitr; · ipureintro; exact hX
    iexact H2
  isplitl [H5]
  · iexists f5; isplitr; · ipureintro; exact funext fun y => h5 y (y 1).isLt
    iexact H5
  isplitl [H6]
  · iexists f6; isplitr; · ipureintro; exact funext fun y => h6 y (y 1).isLt
    iexact H6
  · iexists f10; isplitr; · ipureintro; exact funext fun y => h10 y (y 1).isLt
    iexact H10

/-- The second loop quantises a tile of the right operand. -/
theorem loop2 (v : S512x3072.Idx → F .bf16) :
    iprop(ptv c arg3 v ∗ pta (F := F) c arg7 ∗ pta (F := F) c arg8 ∗ pta (F := F) c ywM)
      ⊢ (wp Idealize.ShloMosaic.frame (wpE (defs₀ (F := F)) Variants.none (c : Thread nD τ) none) Set.univ) (Scf.Loop.for k0_t2_loop k0_t2_ok ⟨⟩ (body2 i arg2 harg2 arg3 harg3 arg5 harg5 arg6 harg6 arg7 harg7 arg8 harg8))
          (fun _ => iprop(ptv c arg3 v ∗ ptv c arg7 (ycT v) ∗ ptv c arg8 (ysT v) ∗ ptv c ywM (ywT v))) :=
  loop_wp c k0_t2_loop k0_t2_ok _ (I2 c arg3 arg7 arg8 v) (step2 c i arg2 harg2 arg3 harg3 arg5 harg5 arg6 harg6 arg7 harg7 arg8 harg8 v)
    (I2_init c arg3 arg7 arg8 v ⟨⟩) (I2_done c arg3 arg7 arg8 v)

end Loop2

end Cert.Kernel.Hand
end
-- ==== Proof.K.Body.lean ====
module

public import proofs.«01_k».proof.Proof.K.Trips
public import proofs.«01_k».proof.Proof.K.Runs
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Tiles

variable (c : Dev nD) (i : grid0.Coords)
  (arg2 : Memref sig .tc .vmem S512x1536 .bf16) (harg2 : arg2.IsWhole)
  (arg3 : Memref sig .tc .vmem S512x3072 .bf16) (harg3 : arg3.IsWhole)
  (arg5 : Memref sig .tc .vmem S512x1536 .fp8e4m3) (harg5 : arg5.IsWhole)
  (arg6 : Memref sig .tc .vmem S16x1536 .f32) (harg6 : arg6.IsWhole)
  (arg7 : Memref sig .tc .vmem S512x3072 .fp8e5m2) (harg7 : arg7.IsWhole)
  (arg8 : Memref sig .tc .vmem S16x3072 .f32) (harg8 : arg8.IsWhole)

/-! ### Adding a tile's product -/

/-- One block of columns of the accumulator after its product was added. -/
theorem acc_blk {xM : Memref sig .tc .vmem S1536x512 .bf16} (a : BufTy.Contents (Elt F) (accM).view.ty) (x : BufTy.Contents (Elt F) xM.view.ty)
    (w : BufTy.Contents (Elt F) (ywM).view.ty) (j : Fin 12) {off : Fin 2 → ℕ} (hoff : off = ![0, 256 * j.val])
    (iA : ∀ t, off t + S1536x256.size t ≤ S1536x3072.size t) (iX : ∀ t, (![0, 0] : Fin 2 → ℕ) t + S1536x512.size t ≤ S1536x512.size t)
    (iW : ∀ t, off t + S512x256.size t ≤ S512x3072.size t) :
    k0_pay8 (F := F) ((accM).view.readAt (Elt F) (Rect.unit (s := S1536x3072) off S1536x256.size iA).toLoadRect a)
      (xM.view.readAt (Elt F) (Rect.unit (s := S1536x512) ![0, 0] S1536x512.size iX).toLoadRect x)
      ((ywM).view.readAt (Elt F) (Rect.unit (s := S512x3072) off S512x256.size iW).toLoadRect w)
    = k0_pay8 (F := F) (colBlk (n := 12) rfl ((accM).view.read (Elt F) a) j) (xM.view.read (Elt F) x) (colBlk (n := 12) rfl ((ywM).view.read (Elt F) w) j) := by
  rw [readAt_cols (n := 12) rfl (accM).view a j iA hoff, readAt_cols (n := 12) rfl (ywM).view w j iW hoff]
  exact congrArg (fun z => k0_pay8 (F := F) _ z _) (View.readAt_full xM.view x iX)

/-- The twelve stores that add a product to the accumulator, the last one first. -/
def accL {xM : Memref sig .tc .vmem S1536x512 .bf16} (a : BufTy.Contents (Elt F) (accM).view.ty) (x : BufTy.Contents (Elt F) xM.view.ty)
    (w : BufTy.Contents (Elt F) (ywM).view.ty) : List (View.Piece (Elt F) S1536x3072 .f32) :=
  [⟨Rect.unit (s := S1536x3072) ![0, 2816] S1536x256.size inb_S1536x3072_S1536x256_0_2816,
    k0_pay8 (F := F) ((accM).view.readAt (Elt F) (Rect.unit (s := S1536x3072) ![0, 2816] S1536x256.size inb_S1536x3072_S1536x256_0_2816).toLoadRect a)
      (xM.view.readAt (Elt F) (Rect.unit (s := S1536x512) ![0, 0] S1536x512.size inb_S1536x512_S1536x512_0_0).toLoadRect x)
      ((ywM).view.readAt (Elt F) (Rect.unit (s := S512x3072) ![0, 2816] S512x256.size inb_S512x3072_S512x256_0_2816).toLoadRect w)⟩, ⟨Rect.unit (s := S1536x3072) ![0, 2560] S1536x256.size inb_S1536x3072_S1536x256_0_2560,
    k0_pay8 (F := F) ((accM).view.readAt (Elt F) (Rect.unit (s := S1536x3072) ![0, 2560] S1536x256.size inb_S1536x3072_S1536x256_0_2560).toLoadRect a)
      (xM.view.readAt (Elt F) (Rect.unit (s := S1536x512) ![0, 0] S1536x512.size inb_S1536x512_S1536x512_0_0).toLoadRect x)
      ((ywM).view.readAt (Elt F) (Rect.unit (s := S512x3072) ![0, 2560] S512x256.size inb_S512x3072_S512x256_0_2560).toLoadRect w)⟩, ⟨Rect.unit (s := S1536x3072) ![0, 2304] S1536x256.size inb_S1536x3072_S1536x256_0_2304,
    k0_pay8 (F := F) ((accM).view.readAt (Elt F) (Rect.unit (s := S1536x3072) ![0, 2304] S1536x256.size inb_S1536x3072_S1536x256_0_2304).toLoadRect a)
      (xM.view.readAt (Elt F) (Rect.unit (s := S1536x512) ![0, 0] S1536x512.size inb_S1536x512_S1536x512_0_0).toLoadRect x)
      ((ywM).view.readAt (Elt F) (Rect.unit (s := S512x3072) ![0, 2304] S512x256.size inb_S512x3072_S512x256_0_2304).toLoadRect w)⟩, ⟨Rect.unit (s := S1536x3072) ![0, 2048] S1536x256.size inb_S1536x3072_S1536x256_0_2048,
    k0_pay8 (F := F) ((accM).view.readAt (Elt F) (Rect.unit (s := S1536x3072) ![0, 2048] S1536x256.size inb_S1536x3072_S1536x256_0_2048).toLoadRect a)
      (xM.view.readAt (Elt F) (Rect.unit (s := S1536x512) ![0, 0] S1536x512.size inb_S1536x512_S1536x512_0_0).toLoadRect x)
      ((ywM).view.readAt (Elt F) (Rect.unit (s := S512x3072) ![0, 2048] S512x256.size inb_S512x3072_S512x256_0_2048).toLoadRect w)⟩, ⟨Rect.unit (s := S1536x3072) ![0, 1792] S1536x256.size inb_S1536x3072_S1536x256_0_1792,
    k0_pay8 (F := F) ((accM).view.readAt (Elt F) (Rect.unit (s := S1536x3072) ![0, 1792] S1536x256.size inb_S1536x3072_S1536x256_0_1792).toLoadRect a)
      (xM.view.readAt (Elt F) (Rect.unit (s := S1536x512) ![0, 0] S1536x512.size inb_S1536x512_S1536x512_0_0).toLoadRect x)
      ((ywM).view.readAt (Elt F) (Rect.unit (s := S512x3072) ![0, 1792] S512x256.size inb_S512x3072_S512x256_0_1792).toLoadRect w)⟩, ⟨Rect.unit (s := S1536x3072) ![0, 1536] S1536x256.size inb_S1536x3072_S1536x256_0_1536,
    k0_pay8 (F := F) ((accM).view.readAt (Elt F) (Rect.unit (s := S1536x3072) ![0, 1536] S1536x256.size inb_S1536x3072_S1536x256_0_1536).toLoadRect a)
      (xM.view.readAt (Elt F) (Rect.unit (s := S1536x512) ![0, 0] S1536x512.size inb_S1536x512_S1536x512_0_0).toLoadRect x)
      ((ywM).view.readAt (Elt F) (Rect.unit (s := S512x3072) ![0, 1536] S512x256.size inb_S512x3072_S512x256_0_1536).toLoadRect w)⟩, ⟨Rect.unit (s := S1536x3072) ![0, 1280] S1536x256.size inb_S1536x3072_S1536x256_0_1280,
    k0_pay8 (F := F) ((accM).view.readAt (Elt F) (Rect.unit (s := S1536x3072) ![0, 1280] S1536x256.size inb_S1536x3072_S1536x256_0_1280).toLoadRect a)
      (xM.view.readAt (Elt F) (Rect.unit (s := S1536x512) ![0, 0] S1536x512.size inb_S1536x512_S1536x512_0_0).toLoadRect x)
      ((ywM).view.readAt (Elt F) (Rect.unit (s := S512x3072) ![0, 1280] S512x256.size inb_S512x3072_S512x256_0_1280).toLoadRect w)⟩, ⟨Rect.unit (s := S1536x3072) ![0, 1024] S1536x256.size inb_S1536x3072_S1536x256_0_1024,
    k0_pay8 (F := F) ((accM).view.readAt (Elt F) (Rect.unit (s := S1536x3072) ![0, 1024] S1536x256.size inb_S1536x3072_S1536x256_0_1024).toLoadRect a)
      (xM.view.readAt (Elt F) (Rect.unit (s := S1536x512) ![0, 0] S1536x512.size inb_S1536x512_S1536x512_0_0).toLoadRect x)
      ((ywM).view.readAt (Elt F) (Rect.unit (s := S512x3072) ![0, 1024] S512x256.size inb_S512x3072_S512x256_0_1024).toLoadRect w)⟩, ⟨Rect.unit (s := S1536x3072) ![0, 768] S1536x256.size inb_S1536x3072_S1536x256_0_768,
    k0_pay8 (F := F) ((accM).view.readAt (Elt F) (Rect.unit (s := S1536x3072) ![0, 768] S1536x256.size inb_S1536x3072_S1536x256_0_768).toLoadRect a)
      (xM.view.readAt (Elt F) (Rect.unit (s := S1536x512) ![0, 0] S1536x512.size inb_S1536x512_S1536x512_0_0).toLoadRect x)
      ((ywM).view.readAt (Elt F) (Rect.unit (s := S512x3072) ![0, 768] S512x256.size inb_S512x3072_S512x256_0_768).toLoadRect w)⟩, ⟨Rect.unit (s := S1536x3072) ![0, 512] S1536x256.size inb_S1536x3072_S1536x256_0_512,
    k0_pay8 (F := F) ((accM).view.readAt (Elt F) (Rect.unit (s := S1536x3072) ![0, 512] S1536x256.size inb_S1536x3072_S1536x256_0_512).toLoadRect a)
      (xM.view.readAt (Elt F) (Rect.unit (s := S1536x512) ![0, 0] S1536x512.size inb_S1536x512_S1536x512_0_0).toLoadRect x)
      ((ywM).view.readAt (Elt F) (Rect.unit (s := S512x3072) ![0, 512] S512x256.size inb_S512x3072_S512x256_0_512).toLoadRect w)⟩, ⟨Rect.unit (s := S1536x3072) ![0, 256] S1536x256.size inb_S1536x3072_S1536x256_0_256,
    k0_pay8 (F := F) ((accM).view.readAt (Elt F) (Rect.unit (s := S1536x3072) ![0, 256] S1536x256.size inb_S1536x3072_S1536x256_0_256).toLoadRect a)
      (xM.view.readAt (Elt F) (Rect.unit (s := S1536x512) ![0, 0] S1536x512.size inb_S1536x512_S1536x512_0_0).toLoadRect x)
      ((ywM).view.readAt (Elt F) (Rect.unit (s := S512x3072) ![0, 256] S512x256.size inb_S512x3072_S512x256_0_256).toLoadRect w)⟩, ⟨Rect.unit (s := S1536x3072) ![0, 0] S1536x256.size inb_S1536x3072_S1536x256_0_0,
    k0_pay8 (F := F) ((accM).view.readAt (Elt F) (Rect.unit (s := S1536x3072) ![0, 0] S1536x256.size inb_S1536x3072_S1536x256_0_0).toLoadRect a)
      (xM.view.readAt (Elt F) (Rect.unit (s := S1536x512) ![0, 0] S1536x512.size inb_S1536x512_S1536x512_0_0).toLoadRect x)
      ((ywM).view.readAt (Elt F) (Rect.unit (s := S512x3072) ![0, 0] S512x256.size inb_S512x3072_S512x256_0_0).toLoadRect w)⟩]

set_option maxHeartbeats 1000000 in
theorem read_accL {xM : Memref sig .tc .vmem S1536x512 .bf16} (a : BufTy.Contents (Elt F) (accM).view.ty) (x : BufTy.Contents (Elt F) xM.view.ty)
    (w : BufTy.Contents (Elt F) (ywM).view.ty) :
    (accM).view.read (Elt F) ((accM).view.writes (Elt F) a (accL a x w))
      = accT ((accM).view.read (Elt F) a) (xM.view.read (Elt F) x) ((ywM).view.read (Elt F) w) := by
  funext y
  unfold accL accT
  refine read_cols_succ (n := 12) rfl (accM).view a _ (11 : Fin 12) _ inb_S1536x3072_S1536x256_0_2816 rfl _
    (acc_blk a x w (11 : Fin 12) rfl inb_S1536x3072_S1536x256_0_2816 inb_S1536x512_S1536x512_0_0 inb_S512x3072_S512x256_0_2816) ?_ y ((y 1).isLt)
  clear y; intro y hy11
  refine read_cols_succ (n := 12) rfl (accM).view a _ (10 : Fin 12) _ inb_S1536x3072_S1536x256_0_2560 rfl _
    (acc_blk a x w (10 : Fin 12) rfl inb_S1536x3072_S1536x256_0_2560 inb_S1536x512_S1536x512_0_0 inb_S512x3072_S512x256_0_2560) ?_ y (hy11)
  clear y hy11; intro y hy10
  refine read_cols_succ (n := 12) rfl (accM).view a _ (9 : Fin 12) _ inb_S1536x3072_S1536x256_0_2304 rfl _
    (acc_blk a x w (9 : Fin 12) rfl inb_S1536x3072_S1536x256_0_2304 inb_S1536x512_S1536x512_0_0 inb_S512x3072_S512x256_0_2304) ?_ y (hy10)
  clear y hy10; intro y hy9
  refine read_cols_succ (n := 12) rfl (accM).view a _ (8 : Fin 12) _ inb_S1536x3072_S1536x256_0_2048 rfl _
    (acc_blk a x w (8 : Fin 12) rfl inb_S1536x3072_S1536x256_0_2048 inb_S1536x512_S1536x512_0_0 inb_S512x3072_S512x256_0_2048) ?_ y (hy9)
  clear y hy9; intro y hy8
  refine read_cols_succ (n := 12) rfl (accM).view a _ (7 : Fin 12) _ inb_S1536x3072_S1536x256_0_1792 rfl _
    (acc_blk a x w (7 : Fin 12) rfl inb_S1536x3072_S1536x256_0_1792 inb_S1536x512_S1536x512_0_0 inb_S512x3072_S512x256_0_1792) ?_ y (hy8)
  clear y hy8; intro y hy7
  refine read_cols_succ (n := 12) rfl (accM).view a _ (6 : Fin 12) _ inb_S1536x3072_S1536x256_0_1536 rfl _
    (acc_blk a x w (6 : Fin 12) rfl inb_S1536x3072_S1536x256_0_1536 inb_S1536x512_S1536x512_0_0 inb_S512x3072_S512x256_0_1536) ?_ y (hy7)
  clear y hy7; intro y hy6
  refine read_cols_succ (n := 12) rfl (accM).view a _ (5 : Fin 12) _ inb_S1536x3072_S1536x256_0_1280 rfl _
    (acc_blk a x w (5 : Fin 12) rfl inb_S1536x3072_S1536x256_0_1280 inb_S1536x512_S1536x512_0_0 inb_S512x3072_S512x256_0_1280) ?_ y (hy6)
  clear y hy6; intro y hy5
  refine read_cols_succ (n := 12) rfl (accM).view a _ (4 : Fin 12) _ inb_S1536x3072_S1536x256_0_1024 rfl _
    (acc_blk a x w (4 : Fin 12) rfl inb_S1536x3072_S1536x256_0_1024 inb_S1536x512_S1536x512_0_0 inb_S512x3072_S512x256_0_1024) ?_ y (hy5)
  clear y hy5; intro y hy4
  refine read_cols_succ (n := 12) rfl (accM).view a _ (3 : Fin 12) _ inb_S1536x3072_S1536x256_0_768 rfl _
    (acc_blk a x w (3 : Fin 12) rfl inb_S1536x3072_S1536x256_0_768 inb_S1536x512_S1536x512_0_0 inb_S512x3072_S512x256_0_768) ?_ y (hy4)
  clear y hy4; intro y hy3
  refine read_cols_succ (n := 12) rfl (accM).view a _ (2 : Fin 12) _ inb_S1536x3072_S1536x256_0_512 rfl _
    (acc_blk a x w (2 : Fin 12) rfl inb_S1536x3072_S1536x256_0_512 inb_S1536x512_S1536x512_0_0 inb_S512x3072_S512x256_0_512) ?_ y (hy3)
  clear y hy3; intro y hy2
  refine read_cols_succ (n := 12) rfl (accM).view a _ (1 : Fin 12) _ inb_S1536x3072_S1536x256_0_256 rfl _
    (acc_blk a x w (1 : Fin 12) rfl inb_S1536x3072_S1536x256_0_256 inb_S1536x512_S1536x512_0_0 inb_S512x3072_S512x256_0_256) ?_ y (hy2)
  clear y hy2; intro y hy1
  refine read_cols_succ (n := 12) rfl (accM).view a _ (0 : Fin 12) _ inb_S1536x3072_S1536x256_0_0 rfl _
    (acc_blk a x w (0 : Fin 12) rfl inb_S1536x3072_S1536x256_0_0 inb_S1536x512_S1536x512_0_0 inb_S512x3072_S512x256_0_0) ?_ y (hy1)
  clear y hy1; intro y hy0
  exact absurd hy0 (by simp)

set_option maxHeartbeats 1000000 in
theorem full9 (x : BufTy.Contents (Elt F) (xtM).view.ty) (w : BufTy.Contents (Elt F) (ywM).view.ty) (a : BufTy.Contents (Elt F) (accM).view.ty) :
    iprop(pt (F := F) c accM a ∗ pt (F := F) c xtM x ∗ pt (F := F) c ywM w)
      ⊢ (wp Idealize.ShloMosaic.frame (wpE (defs₀ (F := F)) Variants.none (c : Thread nD τ) none) Set.univ) (sFull i arg2 harg2 arg3 harg3 arg5 harg5 arg6 harg6 arg7 harg7 arg8 harg8)
          (fun _ => iprop(pt (F := F) c accM ((accM).view.writes (Elt F) a (accL (xM := xtM) a x w)) ∗ pt (F := F) c xtM x ∗ pt (F := F) c ywM w)) := by
  unfold sFull segFull pt
  iintro ⟨HW_a, HR_x, HR_w⟩
  sl_exec
  sl_step
  sl_close

/-! ### The masked product -/

/-- What the mask loop stored before trip `k`. -/
def I4 (v0 v6 v9 : BitVec 32) (v : S1536x512.Idx → F .bf16) (k : ℕ) (_ : PUnit) : sProp 𝕄 :=
  iprop(∃ (X : BufTy.Contents (Elt F) (xtM).view.ty) (f : BufTy.Contents (Elt F) (xmM).view.ty),
    ⌜(xtM).view.read (Elt F) X = v ∧ (∀ y : S1536x512.Idx, (y 0).val < 256 * k → (xmM).view.read (Elt F) f y = maskT v0 v6 v9 v y)⌝
    ∗ pt (F := F) c xtM X ∗ pt c xmM f)

theorem trip4 (v0 v6 v9 : BitVec 32) (X : BufTy.Contents (Elt F) (xtM).view.ty) (f : BufTy.Contents (Elt F) (xmM).view.ty) (k : Fin k0_t4_loop.trips) :
    iprop(pt (F := F) c xtM X ∗ pt c xmM f)
      ⊢ (wp Idealize.ShloMosaic.frame (wpE (defs₀ (F := F)) Variants.none (c : Thread nD τ) none) Set.univ) (body4 i arg2 harg2 arg3 harg3 arg5 harg5 arg6 harg6 arg7 harg7 arg8 harg8 v0 v6 v9 k PUnit.unit)
          (fun _ => iprop(pt (F := F) c xtM X ∗ pt c xmM ((xmM).view.writes (Elt F) f
            [⟨Rect.unit (s := S1536x512) (k0_off8 k) S256x512.size (k0_off8_inb k),
              k0_pay42 v0 v6 v9 ((xtM).view.readAt (Elt F) (Rect.unit (s := S1536x512) (k0_off8 k) S256x512.size (k0_off8_inb k)).toLoadRect X)⟩]))) := by
  have hk := lt6' k
  unfold body4 k0_t4_body pt
  iintro ⟨HR_x, HW_m⟩
  sl_exec
  sl_step
  sl_close

theorem step4 (v0 v6 v9 : BitVec 32) (v : S1536x512.Idx → F .bf16) (k : Fin k0_t4_loop.trips) (u : PUnit) :
    I4 c v0 v6 v9 v k.val u ⊢ (wp Idealize.ShloMosaic.frame (wpE (defs₀ (F := F)) Variants.none (c : Thread nD τ) none) Set.univ) (body4 i arg2 harg2 arg3 harg3 arg5 harg5 arg6 harg6 arg7 harg7 arg8 harg8 v0 v6 v9 k u) (I4 c v0 v6 v9 v (k.val + 1)) := by
  unfold I4
  iintro ⟨%X, %f, %h, H⟩
  obtain ⟨hX, h10⟩ := h
  iapply (wp_wand_r _ _ _)
  isplitl [H]
  · iapply (trip4 c i arg2 harg2 arg3 harg3 arg5 harg5 arg6 harg6 arg7 harg7 arg8 harg8 v0 v6 v9 X f k)
    iexact H
  · iintro %_ H
    iexists X, _
    isplitr
    · ipureintro
      have hv : (xtM).view.readAt (Elt F) (Rect.unit (s := S1536x512) (k0_off8 k) S256x512.size (k0_off8_inb k)).toLoadRect X
          = rowBlk (n := 6) rfl v ⟨k.val, lt6' k⟩ := by
        rw [← hX]; exact readAt_rows rfl (xtM).view X ⟨k.val, lt6' k⟩ _ (k0_off8_eq k)
      refine ⟨hX, fun y hy => ?_⟩
      exact read_rows_succ (n := 6) rfl (xmM).view f _ ⟨k.val, lt6' k⟩ [] (k0_off8_inb k) (k0_off8_eq k) _
          (by rw [← hv])
          (fun y hy => h10 y hy) y hy
    · iexact H

theorem I4_init (v0 v6 v9 : BitVec 32) (v : S1536x512.Idx → F .bf16) (u : PUnit) :
    iprop(ptv c xtM v ∗ pta (F := F) c xmM) ⊢ I4 c v0 v6 v9 v 0 u := by
  unfold I4 ptv pta
  iintro ⟨⟨%X, %hX, H2⟩, ⟨%f5, H5⟩⟩
  iexists X, f5
  isplitr
  · ipureintro
    exact ⟨hX, fun y hy => absurd hy (by omega)⟩
  · isplitl [H2]; · iexact H2
    iexact H5

theorem I4_done (v0 v6 v9 : BitVec 32) (v : S1536x512.Idx → F .bf16) (u : PUnit) :
    I4 c v0 v6 v9 v k0_t4_loop.trips u ⊢ iprop(ptv c xtM v ∗ ptv c xmM (maskT v0 v6 v9 v)) := by
  rw [trips4]
  unfold I4 ptv
  iintro ⟨%X, %f10, %h, H2, H10⟩
  obtain ⟨hX, h10⟩ := h
  isplitl [H2]
  · iexists X; isplitr; · ipureintro; exact hX
    iexact H2
  · iexists f10; isplitr; · ipureintro; exact funext fun y => h10 y (y 0).isLt
    iexact H10

theorem loop4 (v0 v6 v9 : BitVec 32) (v : S1536x512.Idx → F .bf16) :
    iprop(ptv c xtM v ∗ pta (F := F) c xmM)
      ⊢ (wp Idealize.ShloMosaic.frame (wpE (defs₀ (F := F)) Variants.none (c : Thread nD τ) none) Set.univ) (Scf.Loop.for k0_t4_loop k0_t4_ok ⟨⟩ (body4 i arg2 harg2 arg3 harg3 arg5 harg5 arg6 harg6 arg7 harg7 arg8 harg8 v0 v6 v9))
          (fun _ => iprop(ptv c xtM v ∗ ptv c xmM (maskT v0 v6 v9 v))) :=
  loop_wp c k0_t4_loop k0_t4_ok _ (I4 c v0 v6 v9 v) (step4 c i arg2 harg2 arg3 harg3 arg5 harg5 arg6 harg6 arg7 harg7 arg8 harg8 v0 v6 v9 v)
    (I4_init c v0 v6 v9 v ⟨⟩) (I4_done c v0 v6 v9 v)

set_option maxHeartbeats 1000000 in
theorem mask9 (v0 v6 v9 : BitVec 32) (v : S1536x512.Idx → F .bf16) (w : BufTy.Contents (Elt F) (ywM).view.ty) (a : BufTy.Contents (Elt F) (accM).view.ty) :
    iprop(pt (F := F) c accM a ∗ ptv c xtM v ∗ pta (F := F) c xmM ∗ pt (F := F) c ywM w)
      ⊢ (wp Idealize.ShloMosaic.frame (wpE (defs₀ (F := F)) Variants.none (c : Thread nD τ) none) Set.univ) (sMask i arg2 harg2 arg3 harg3 arg5 harg5 arg6 harg6 arg7 harg7 arg8 harg8 v0 v6 v9)
          (fun _ => iprop(∃ (x : BufTy.Contents (Elt F) (xmM).view.ty) (X : BufTy.Contents (Elt F) (xtM).view.ty),
            ⌜(xmM).view.read (Elt F) x = maskT v0 v6 v9 v ∧ (xtM).view.read (Elt F) X = v⌝ ∗
            pt (F := F) c accM ((accM).view.writes (Elt F) a (accL (xM := xmM) a x w)) ∗ pt (F := F) c xtM X ∗ pt (F := F) c xmM x ∗ pt (F := F) c ywM w)) := by
  unfold sMask segMask pt ptv pta
  have hl := loop4 c i arg2 harg2 arg3 harg3 arg5 harg5 arg6 harg6 arg7 harg7 arg8 harg8 v0 v6 v9 v
  unfold ptv pta pt at hl
  rw [k0_part8_eq_skeleton]
  unfold k0_part8_skel
  rw [bind_assoc]
  rw [wp_bind]
  iintro ⟨HW_a, Hx, Hm, HR_w⟩
  iapply (wp_wand_r _ _ _)
  isplitl [Hx Hm]
  · iapply hl
    isplitl [Hx]; · iexact Hx
    iexact Hm
  · iintro %_ ⟨⟨%X, %hX, Hx⟩, ⟨%x, %hx, HR_m⟩⟩
    sl_exec
    sl_step
    iexists x, X
    isplitr
    · ipureintro; exact ⟨hx, hX⟩
    sl_close

/-! ### One expert's turn -/

variable (q : PosShare TreeShare)

/-- What the loop over the experts holds: the table, the accumulator, a tile's values, the stored result, and the
    transfer's semaphore at rest. -/
def St (T : S9.Idx → BitVec 32) (s : (S1536x3072.Idx → F .f32) × (S8x1536x3072.Idx → F .f32))
    (x : S1536x512.Idx → F .bf16) (w : S512x3072.Idx → F .bf16) : sProp 𝕄 :=
  iprop(((offM).view.loc (c : Thread nD τ) ↦[(offM).view.set]{q} (T : BufTy.Contents (Elt F) (offM).view.ty))
    ∗ ptv c accM s.1 ∗ ptv c xtM x ∗ pta (F := F) c xmM ∗ ptv c ywM w ∗ ptv c dwM s.2
    ∗ semVal ((c : Thread nD τ), SemLoc.dma 12) 0 ∗ ∃ W : Waits sig Unit, owes (c : Thread nD τ) 0 W)

/-- A store of the whole accumulator. -/
theorem read_whole_store (a : BufTy.Contents (Elt F) (accM).view.ty) (z : FVec F S1536x3072 .f32)
    (inb : ∀ t, (![0, 0] : Fin 2 → ℕ) t + S1536x3072.size t ≤ S1536x3072.size t) :
    (accM).view.read (Elt F) ((accM).view.writes (Elt F) a [⟨Rect.unit (s := S1536x3072) ![0, 0] S1536x3072.size inb, z⟩]) = z := by
  funext y
  refine View.read_writes_cons_unit_of_mem (accM).view a inb z [] y y rfl (Fin.forall_fin_two.mpr ⟨?_, ?_⟩)
  · show (y 0).val = 0 + (y 0).val; omega
  · show (y 1).val = 0 + (y 1).val; omega

/-- The entry of the table a trip reads. -/
theorem read_entry (T : S9.Idx → BitVec 32) (n : ℕ) (hn : n < 9) {off : Fin 1 → ℕ} (hoff : off = ![n])
    (inb : ∀ t, off t + S1.size t ≤ S9.size t) (x : S1.Idx) :
    (offM).view.readAt (Elt F) (Rect.unit (s := S9) off S1.size inb).toLoadRect (T : BufTy.Contents (Elt F) (offM).view.ty) x
      = T (ix1 (n0 := 9) ⟨n, hn⟩) := by
  subst hoff
  refine congrArg T (funext fun t => Fin.ext ?_)
  match t with
  | ⟨0, _⟩ =>
    have hx : (x 0).val < 1 := (x 0).isLt
    show n + 1 * (x 0).val = n; omega

/-- A copy of the accumulator to expert `k`'s place. -/
theorem read_put (n : ℕ) {off : Fin 3 → ℕ} (ho : off = ![n, 0, 0]) (d : BufTy.Contents (Elt F) (dwM).view.ty) (a : S1536x3072.Idx → Elt F .f32)
    (hs : ∀ t, off t + S1x1536x3072.size t ≤ S8x1536x3072.size t) (h1 : ∀ t, (Rect.unit (s := S8x1536x3072) off S1x1536x3072.size hs).stride t = 1) :
    (dwM).view.read (Elt F) (View.write (Elt F) (((dwM).slice (Rect.unit (s := S8x1536x3072) off S1x1536x3072.size hs) h1).squeeze S1536x3072
        squeezes_S1x1536x3072_S1536x3072).view d a Finset.univ) = putE n a ((dwM).view.read (Elt F) d) := by
  subst ho
  have emb : ∀ (x : S1536x3072.Idx) (t : Fin 3), ((((((dwM).slice (Rect.unit (s := S8x1536x3072) ![n, 0, 0] S1x1536x3072.size hs) h1).squeeze S1536x3072
        squeezes_S1x1536x3072_S1536x3072).view.emb x) : S8x1536x3072.Idx) t).val = (![n, 0, 0] : Fin 3 → ℕ) t + ((Fin.cons ⟨0, Nat.one_pos⟩ x : S1x1536x3072.Idx) t).val := by
    intro x t
    have hr := Shape.reshapeEquiv_cons_one (d := ![1536, 3072]) (squeezes_S1x1536x3072_S1536x3072).numel_eq x
    show (![n, 0, 0] : Fin 3 → ℕ) t + 1 * ((Shape.reshapeEquiv (squeezes_S1x1536x3072_S1536x3072).numel_eq x : S1x1536x3072.Idx) t).val = _
    rw [Nat.one_mul]
    exact congrArg (fun z : S1x1536x3072.Idx => (![n, 0, 0] : Fin 3 → ℕ) t + (z t).val) hr
  funext y
  unfold putE
  by_cases hy : (y 0).val = n
  · rw [if_pos hy]
    let x : S1536x3072.Idx := ix2 (n0 := 1536) (n1 := 3072) (y 1) (y 2)
    have e : (((dwM).slice (Rect.unit (s := S8x1536x3072) ![n, 0, 0] S1x1536x3072.size hs) h1).squeeze S1536x3072
        squeezes_S1x1536x3072_S1536x3072).view.emb x = y := funext fun t => Fin.ext (by
      refine (emb x t).trans ?_
      match t with
      | ⟨0, _⟩ => exact hy.symm
      | ⟨1, _⟩ => show 0 + (y 1).val = (y 1).val; omega
      | ⟨2, _⟩ => show 0 + (y 2).val = (y 2).val; omega)
    have := View.write_emb_of_mem (Val := Elt F) (v := (((dwM).slice (Rect.unit (s := S8x1536x3072) ![n, 0, 0] S1x1536x3072.size hs) h1).squeeze S1536x3072
        squeezes_S1x1536x3072_S1536x3072).view) d a (Finset.mem_univ x)
    rw [e] at this
    exact this
  · rw [if_neg hy]
    refine View.write_of_not_mem (Val := Elt F) (v := (((dwM).slice (Rect.unit (s := S8x1536x3072) ![n, 0, 0] S1x1536x3072.size hs) h1).squeeze S1536x3072
        squeezes_S1x1536x3072_S1536x3072).view) d a Finset.univ (fun hm => hy ?_)
    obtain ⟨x, -, hx⟩ := Finset.mem_map.mp hm
    have e := emb x 0
    rw [hx] at e
    exact e

theorem smem6 (T : S9.Idx → BitVec 32) (k : Fin k0_t3_loop.trips) (s : (S1536x3072.Idx → F .f32) × (S8x1536x3072.Idx → F .f32))
    (x : S1536x512.Idx → F .bf16) (w : S512x3072.Idx → F .bf16) :
    St c q T s x w ⊢ (wp Idealize.ShloMosaic.frame (wpE (defs₀ (F := F)) Variants.none (c : Thread nD τ) none) Set.univ) (smemLoad offM (Rect.unit (s := S9) (k0_off6 k) S1.size (k0_off6_inb k)) numel1_S1 rfl)
      (fun v => iprop(⌜v = T (ix1 (n0 := 9) ⟨k.val, by have := lt8 k; omega⟩)⌝ ∗ St c q T s x w)) := by
  unfold St
  iintro ⟨HT, R⟩
  sl_exec
  sl_step
  isplitr
  · ipureintro; exact read_entry T k.val _ (k0_off6_eq k) _ _
  · isplitl [HT]; · iexact HT
    iexact R

theorem smem7 (T : S9.Idx → BitVec 32) (k : Fin k0_t3_loop.trips) (s : (S1536x3072.Idx → F .f32) × (S8x1536x3072.Idx → F .f32))
    (x : S1536x512.Idx → F .bf16) (w : S512x3072.Idx → F .bf16) :
    St c q T s x w ⊢ (wp Idealize.ShloMosaic.frame (wpE (defs₀ (F := F)) Variants.none (c : Thread nD τ) none) Set.univ) (smemLoad offM (Rect.unit (s := S9) (k0_off7 k) S1.size (k0_off7_inb k)) numel1_S1 rfl)
      (fun v => iprop(⌜v = T (ix1 (n0 := 9) ⟨k.val + 1, by have := lt8 k; omega⟩)⌝ ∗ St c q T s x w)) := by
  unfold St
  iintro ⟨HT, R⟩
  sl_exec
  sl_step
  isplitr
  · ipureintro; exact read_entry T (k.val + 1) _ (k0_off7_eq k) _ _
  · isplitl [HT]; · iexact HT
    iexact R

theorem seg_zero (T : S9.Idx → BitVec 32) (s : (S1536x3072.Idx → F .f32) × (S8x1536x3072.Idx → F .f32))
    (x : S1536x512.Idx → F .bf16) (w : S512x3072.Idx → F .bf16) (p : Prop) [Decidable p] :
    St c q T s x w ⊢ (wp Idealize.ShloMosaic.frame (wpE (defs₀ (F := F)) Variants.none (c : Thread nD τ) none) Set.univ) (if p then sZero i arg2 harg2 arg3 harg3 arg5 harg5 arg6 harg6 arg7 harg7 arg8 harg8 else pure ⟨⟩)
      (fun _ => St c q T (if p then k0_pay7 (F := F) else s.1, s.2) x w) := by
  split
  · unfold St ptv sZero segZero pt
    iintro ⟨HT, ⟨%a, %ha, HW_a⟩, R⟩
    sl_exec
    sl_step
    isplitl [HT]; · iexact HT
    isplitr [R]
    · iexists _
      isplitr
      swap
      · iexact HW_a
      · ipureintro
        exact read_whole_store a _ _
    · iexact R
  · iintro H; sl_step; iexact H

theorem seg_full (T : S9.Idx → BitVec 32) (s : (S1536x3072.Idx → F .f32) × (S8x1536x3072.Idx → F .f32))
    (x : S1536x512.Idx → F .bf16) (w : S512x3072.Idx → F .bf16) (p : Prop) [Decidable p] :
    St c q T s x w ⊢ (wp Idealize.ShloMosaic.frame (wpE (defs₀ (F := F)) Variants.none (c : Thread nD τ) none) Set.univ) (if p then sFull i arg2 harg2 arg3 harg3 arg5 harg5 arg6 harg6 arg7 harg7 arg8 harg8 else pure ⟨⟩)
      (fun _ => St c q T (if p then accT s.1 x w else s.1, s.2) x w) := by
  split
  · unfold St ptv
    iintro ⟨HT, ⟨%a, %ha, Ha⟩, ⟨%X, %hX, Hx⟩, Hm, ⟨%W, %hW, Hw⟩, R⟩
    iapply (wp_wand_r _ _ _)
    isplitl [Ha Hx Hw]
    · iapply (full9 c i arg2 harg2 arg3 harg3 arg5 harg5 arg6 harg6 arg7 harg7 arg8 harg8 X W a)
      isplitl [Ha]; · iexact Ha
      isplitl [Hx]; · iexact Hx
      iexact Hw
    · iintro %_ ⟨Ha, Hx, Hw⟩
      isplitl [HT]; · iexact HT
      isplitl [Ha]
      · iexists _; isplitr
        swap
        · iexact Ha
        · ipureintro; rw [← ha, ← hX, ← hW]; exact read_accL a X W
      isplitl [Hx]
      · iexists X; isplitr; · ipureintro; exact hX
        iexact Hx
      isplitl [Hm]; · iexact Hm
      isplitl [Hw]
      · iexists W; isplitr; · ipureintro; exact hW
        iexact Hw
      iexact R
  · iintro H; sl_step; iexact H

theorem seg_mask (T : S9.Idx → BitVec 32) (s : (S1536x3072.Idx → F .f32) × (S8x1536x3072.Idx → F .f32))
    (x : S1536x512.Idx → F .bf16) (w : S512x3072.Idx → F .bf16) (v0 v6 v9 : BitVec 32) (p : Prop) [Decidable p] :
    St c q T s x w ⊢ (wp Idealize.ShloMosaic.frame (wpE (defs₀ (F := F)) Variants.none (c : Thread nD τ) none) Set.univ) (if p then sMask i arg2 harg2 arg3 harg3 arg5 harg5 arg6 harg6 arg7 harg7 arg8 harg8 v0 v6 v9 else pure ⟨⟩)
      (fun _ => St c q T (if p then accT s.1 (maskT v0 v6 v9 x) w else s.1, s.2) x w) := by
  split
  · unfold St ptv
    iintro ⟨HT, ⟨%a, %ha, Ha⟩, ⟨%X, %hX, Hx⟩, Hm, ⟨%W, %hW, Hw⟩, R⟩
    iapply (wp_wand_r _ _ _)
    isplitl [Ha Hx Hm Hw]
    · iapply (mask9 c i arg2 harg2 arg3 harg3 arg5 harg5 arg6 harg6 arg7 harg7 arg8 harg8 v0 v6 v9 x W a)
      isplitl [Ha]; · iexact Ha
      isplitl [Hx]
      · unfold ptv; iexists X; isplitr; · ipureintro; exact hX
        iexact Hx
      isplitl [Hm]; · iexact Hm
      iexact Hw
    · iintro %_ ⟨%m, %X, %h, Ha, Hx, Hm, Hw⟩
      obtain ⟨hm, hX⟩ := h
      isplitl [HT]; · iexact HT
      isplitl [Ha]
      · iexists _; isplitr
        swap
        · iexact Ha
        · ipureintro; rw [← ha, ← hm, ← hW]; exact read_accL a m W
      isplitl [Hx]
      · iexists X; isplitr; · ipureintro; exact hX
        iexact Hx
      isplitl [Hm]
      · unfold pta; iexists m; iexact Hm
      isplitl [Hw]
      · iexists W; isplitr; · ipureintro; exact hW
        iexact Hw
      iexact R
  · iintro H; sl_step; iexact H

theorem flush9 (k : Fin k0_t3_loop.trips) (W : Waits sig Unit) (a : BufTy.Contents (Elt F) (accM).view.ty) (d : BufTy.Contents (Elt F) (dwM).view.ty) :
    iprop(pt (F := F) c accM a ∗ pt (F := F) c dwM d ∗ semVal ((c : Thread nD τ), SemLoc.dma 12) 0 ∗ owes (c : Thread nD τ) 0 W)
      ⊢ (wp Idealize.ShloMosaic.frame (wpE (defs₀ (F := F)) Variants.none (c : Thread nD τ) none) Set.univ) (sFlush i arg2 harg2 arg3 harg3 arg5 harg5 arg6 harg6 arg7 harg7 arg8 harg8 k) (fun _ => iprop(pt (F := F) c accM a ∗
        (∃ d', ⌜(dwM).view.read (Elt F) d' = putE k.val ((accM).view.read (Elt F) a) ((dwM).view.read (Elt F) d)⌝ ∗ pt (F := F) c dwM d')
          ∗ semVal ((c : Thread nD τ), SemLoc.dma 12) 0 ∗ ∃ W', owes (c : Thread nD τ) 0 W')) := by
  unfold sFlush segFlush pt
  iintro ⟨HR_a, HW_d, HS, HO⟩
  sl_exec
  sl_unfold_run_names
  sl_step
  isplitl [HR_a]; · iexact HR_a
  isplitl [HW_d]
  · iexists _
    isplitr
    swap
    · iexact HW_d
    · ipureintro
      exact read_put k.val (k0_off9_eq k) d _ _ _
  · isplitl [HS]; · iexact HS
    iexists _; iexact HO

theorem seg_flush (k : Fin k0_t3_loop.trips) (T : S9.Idx → BitVec 32) (s : (S1536x3072.Idx → F .f32) × (S8x1536x3072.Idx → F .f32))
    (x : S1536x512.Idx → F .bf16) (w : S512x3072.Idx → F .bf16) (p : Prop) [Decidable p] :
    St c q T s x w ⊢ (wp Idealize.ShloMosaic.frame (wpE (defs₀ (F := F)) Variants.none (c : Thread nD τ) none) Set.univ) (if p then sFlush i arg2 harg2 arg3 harg3 arg5 harg5 arg6 harg6 arg7 harg7 arg8 harg8 k else pure ⟨⟩)
      (fun _ => St c q T (s.1, if p then putE k.val s.1 s.2 else s.2) x w) := by
  split
  · unfold St ptv
    iintro ⟨HT, ⟨%a, %ha, Ha⟩, Hx, Hm, Hw, ⟨%d, %hd, Hd⟩, HS, ⟨%W, HO⟩⟩
    iapply (wp_wand_r _ _ _)
    isplitl [Ha Hd HS HO]
    · iapply (flush9 c i arg2 harg2 arg3 harg3 arg5 harg5 arg6 harg6 arg7 harg7 arg8 harg8 k W a d)
      isplitl [Ha]; · iexact Ha
      isplitl [Hd]; · iexact Hd
      isplitl [HS]; · iexact HS
      iexact HO
    · iintro %_ ⟨Ha, ⟨%d', %hd', Hd⟩, HS, HO⟩
      isplitl [HT]; · iexact HT
      isplitl [Ha]
      · iexists a; isplitr; · ipureintro; exact ha
        iexact Ha
      isplitl [Hx]; · iexact Hx
      isplitl [Hm]; · iexact Hm
      isplitl [Hw]; · iexact Hw
      isplitl [Hd]
      · iexists d'; isplitr; · ipureintro; rw [hd', ha, hd]
        iexact Hd
      isplitl [HS]; · iexact HS
      iexact HO
  · iintro H; sl_step; iexact H

/-- One expert's turn. -/
theorem trip3 (v0 : BitVec 32) (v1 : BitVec 1) (T : S9.Idx → BitVec 32) (k : Fin k0_t3_loop.trips) (s : (S1536x3072.Idx → F .f32) × (S8x1536x3072.Idx → F .f32))
    (x : S1536x512.Idx → F .bf16) (w : S512x3072.Idx → F .bf16) (u : PUnit) :
    St c q T s x w ⊢ (wp Idealize.ShloMosaic.frame (wpE (defs₀ (F := F)) Variants.none (c : Thread nD τ) none) Set.univ) (body3 i arg2 harg2 arg3 harg3 arg5 harg5 arg6 harg6 arg7 harg7 arg8 harg8 v0 v1 k u)
      (fun _ => St c q T (stepE v0 v1 k.val (T (ix1 (n0 := 9) ⟨k.val, by have := lt8 k; omega⟩)) (T (ix1 (n0 := 9) ⟨k.val + 1, by have := lt8 k; omega⟩)) x w s) x w) := by
  unfold body3
  rw [t3_body_eq, wp_bind]
  refine (smem6 c q T k s x w).trans (wp_mono _ _ _ fun v6 => ?_)
  iintro ⟨%h6, H⟩
  subst h6
  rw [wp_bind]
  iapply ((smem7 c q T k s x w).trans (wp_mono _ _ _ fun v9 => ?_))
  · iintro ⟨%h9, H⟩
    subst h9
    rw [wp_bind]
    iapply ((seg_zero c i arg2 harg2 arg3 harg3 arg5 harg5 arg6 harg6 arg7 harg7 arg8 harg8 q T s x w _).trans (wp_mono _ _ _ fun _ => ?_))
    · rw [wp_bind]
      refine (seg_full c i arg2 harg2 arg3 harg3 arg5 harg5 arg6 harg6 arg7 harg7 arg8 harg8 q T _ x w _).trans (wp_mono _ _ _ fun _ => ?_)
      rw [wp_bind]
      refine (seg_mask c i arg2 harg2 arg3 harg3 arg5 harg5 arg6 harg6 arg7 harg7 arg8 harg8 q T _ x w _ _ _ _).trans (wp_mono _ _ _ fun _ => ?_)
      exact seg_flush c i arg2 harg2 arg3 harg3 arg5 harg5 arg6 harg6 arg7 harg7 arg8 harg8 q k T _ x w _
    · iexact H
  · iexact H

end Cert.Kernel.Hand
end
-- ==== Proof.K.Whole.lean ====
module

public import proofs.«01_k».proof.Proof.K.Trips
public import proofs.«01_k».proof.Proof.K.Body
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Tiles

variable (c : Dev nD) (i : grid0.Coords)
  (arg2 : Memref sig .tc .vmem S512x1536 .bf16) (harg2 : arg2.IsWhole)
  (arg3 : Memref sig .tc .vmem S512x3072 .bf16) (harg3 : arg3.IsWhole)
  (arg5 : Memref sig .tc .vmem S512x1536 .fp8e4m3) (harg5 : arg5.IsWhole)
  (arg6 : Memref sig .tc .vmem S16x1536 .f32) (harg6 : arg6.IsWhole)
  (arg7 : Memref sig .tc .vmem S512x3072 .fp8e5m2) (harg7 : arg7.IsWhole)
  (arg8 : Memref sig .tc .vmem S16x3072 .f32) (harg8 : arg8.IsWhole)

/-- Entry `n` of the table of offsets. -/
def ent (T : S9.Idx → BitVec 32) (n : ℕ) : BitVec 32 := if h : n < 9 then T (ix1 (n0 := 9) ⟨n, h⟩) else 0

/-- The first row of tile `t`, and whether it is the last tile. -/
def row0 (t : ℕ) : BitVec 32 := Scalar.muli (BitVec.ofNat 32 t) 512#32
def last0 (t : ℕ) : BitVec 1 := Scalar.cmpi .eq (BitVec.ofNat 32 t) 95#32

/-- The first `n` experts' turns in tile `t`. -/
def turns (t : ℕ) (T : S9.Idx → BitVec 32) (x : S1536x512.Idx → F .bf16) (w : S512x3072.Idx → F .bf16)
    (s : (S1536x3072.Idx → F .f32) × (S8x1536x3072.Idx → F .f32)) : ℕ → (S1536x3072.Idx → F .f32) × (S8x1536x3072.Idx → F .f32)
  | 0 => s
  | n + 1 => stepE (row0 t) (last0 t) n (ent T n) (ent T (n + 1)) x w (turns t T x w s n)

theorem step3 (t : ℕ) (q : PosShare TreeShare) (T : S9.Idx → BitVec 32) (s : (S1536x3072.Idx → F .f32) × (S8x1536x3072.Idx → F .f32))
    (x : S1536x512.Idx → F .bf16) (w : S512x3072.Idx → F .bf16) (k : Fin k0_t3_loop.trips) (u : PUnit) :
    St c q T (turns t T x w s k.val) x w ⊢ (wp Idealize.ShloMosaic.frame (wpE (defs₀ (F := F)) Variants.none (c : Thread nD τ) none) Set.univ) (body3 i arg2 harg2 arg3 harg3 arg5 harg5 arg6 harg6 arg7 harg7 arg8 harg8 (row0 t) (last0 t) k u)
      (fun _ => St c q T (turns t T x w s (k.val + 1)) x w) := by
  have h := trip3 c i arg2 harg2 arg3 harg3 arg5 harg5 arg6 harg6 arg7 harg7 arg8 harg8 q (row0 t) (last0 t) T k (turns t T x w s k.val) x w u
  have e0 : ent T k.val = T (ix1 (n0 := 9) ⟨k.val, by have := lt8 k; omega⟩) := dif_pos _
  have e1 : ent T (k.val + 1) = T (ix1 (n0 := 9) ⟨k.val + 1, by have := lt8 k; omega⟩) := dif_pos _
  rw [← e0, ← e1] at h
  exact h

theorem loop3 (t : ℕ) (q : PosShare TreeShare) (T : S9.Idx → BitVec 32) (s : (S1536x3072.Idx → F .f32) × (S8x1536x3072.Idx → F .f32))
    (x : S1536x512.Idx → F .bf16) (w : S512x3072.Idx → F .bf16) :
    St c q T s x w ⊢ (wp Idealize.ShloMosaic.frame (wpE (defs₀ (F := F)) Variants.none (c : Thread nD τ) none) Set.univ) (Scf.Loop.for k0_t3_loop k0_t3_ok ⟨⟩ (body3 i arg2 harg2 arg3 harg3 arg5 harg5 arg6 harg6 arg7 harg7 arg8 harg8 (row0 t) (last0 t)))
      (fun _ => St c q T (turns t T x w s 8) x w) :=
  loop_wp c k0_t3_loop k0_t3_ok _ (fun n _ => St c q T (turns t T x w s n) x w) (step3 c i arg2 harg2 arg3 harg3 arg5 harg5 arg6 harg6 arg7 harg7 arg8 harg8 t q T s x w)
    (BIBase.Entails.of_eq rfl) (fun _ => BIBase.Entails.of_eq (by rw [show k0_t3_loop.trips = 8 from trips3]))

/-- One grid point's whole body, on its blocks of the two inputs. -/
theorem body_wp (q : PosShare TreeShare) (T : S9.Idx → BitVec 32) (s : (S1536x3072.Idx → F .f32) × (S8x1536x3072.Idx → F .f32))
    (x : S512x1536.Idx → F .bf16) (w : S512x3072.Idx → F .bf16) :
    iprop((ptv c arg2 x ∗ pta (F := F) c arg5 ∗ pta (F := F) c arg6 ∗ pta (F := F) c xtM)
        ∗ (ptv c arg3 w ∗ pta (F := F) c arg7 ∗ pta (F := F) c arg8 ∗ pta (F := F) c ywM)
        ∗ ((offM).view.loc (c : Thread nD τ) ↦[(offM).view.set]{q} (T : BufTy.Contents (Elt F) (offM).view.ty))
        ∗ ptv c accM s.1 ∗ pta (F := F) c xmM ∗ ptv c dwM s.2
        ∗ semVal ((c : Thread nD τ), SemLoc.dma 12) 0 ∗ ∃ W : Waits sig Unit, owes (c : Thread nD τ) 0 W)
      ⊢ (wp Idealize.ShloMosaic.frame (wpE (defs₀ (F := F)) Variants.none (c : Thread nD τ) none) Set.univ) (cc0_grouped_wgrad (F := F) i offM (Memref.isWhole_whole _) arg2 harg2 arg3 harg3 dwM (Memref.isWhole_whole _) arg5 harg5 arg6 harg6 arg7 harg7 arg8 harg8
          accM (Memref.isWhole_whole _) xtM (Memref.isWhole_whole _) xmM (Memref.isWhole_whole _) ywM (Memref.isWhole_whole _) cc0_scratch4)
        (fun _ => iprop((ptv c arg2 x ∗ ptv c arg5 (xcT x) ∗ ptv c arg6 (xsT x)) ∗ (ptv c arg3 w ∗ ptv c arg7 (ycT w) ∗ ptv c arg8 (ysT w))
          ∗ St c q T (turns (i 0).val T (xtT x) (ywT w) s 8) (xtT x) (ywT w))) := by
  rw [cc0_grouped_wgrad_eq_skeleton]
  unfold cc0_grouped_wgrad_skel
  iintro ⟨H1, H2, R⟩
  rw [wp_bind]
  iapply (wp_wand_r _ _ _)
  isplitl [H1]
  · iapply (loop1 c i arg2 harg2 arg3 harg3 arg5 harg5 arg6 harg6 arg7 harg7 arg8 harg8 x); iexact H1
  · iintro %_ ⟨Hx, Hc, Hs, Ht⟩
    rw [wp_bind]
    iapply (wp_wand_r _ _ _)
    isplitl [H2]
    · iapply (loop2 c i arg2 harg2 arg3 harg3 arg5 harg5 arg6 harg6 arg7 harg7 arg8 harg8 w); iexact H2
    · iintro %_ ⟨Hy, Hc2, Hs2, Hw⟩
      rw [wp_bind]
      iapply (wp_wand_r _ _ _)
      isplitl [R Ht Hw]
      · iapply (loop3 c i arg2 harg2 arg3 harg3 arg5 harg5 arg6 harg6 arg7 harg7 arg8 harg8 (i 0).val q T s (xtT x) (ywT w))
        unfold St
        icases R with ⟨HT, Ha, Hm, Hd, HS, HO⟩
        isplitl [HT]; · iexact HT
        isplitl [Ha]; · iexact Ha
        isplitl [Ht]; · iexact Ht
        isplitl [Hm]; · iexact Hm
        isplitl [Hw]; · iexact Hw
        isplitl [Hd]; · iexact Hd
        isplitl [HS]; · iexact HS
        iexact HO
      · iintro %_ R
        sl_step
        isplitl [Hx Hc Hs]
        · isplitl [Hx]; · iexact Hx
          isplitl [Hc]; · iexact Hc
          iexact Hs
        isplitl [Hy Hc2 Hs2]
        · isplitl [Hy]; · iexact Hy
          isplitl [Hc2]; · iexact Hc2
          iexact Hs2
        iexact R

end Cert.Kernel.Hand
end
-- ==== Proof.K.Frame.lean ====
module

public import proofs.«01_k».proof.Proof.K.Trips
public import proofs.«01_k».proof.Proof.K.Whole
public import proofs.«01_k».proof.Proof.Gen.Kernel.Launch
public import Idealize.ShloMosaic.Lib.Pipeline.FrameValue
public import Idealize.ShloMosaic.Lib.Pipeline.TalkSched
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Tiles
open Idealize.ShloMosaic.Pipeline (Dat BodyObligation OwnSemFacts ownSems0 ownSems0_eq_of_list)

variable (m : (ℓ : Loc nD τ sig) → Buf (Elt F) ℓ) (ρ : Dev nD → PrngReg)

/-! ## The run up to the kernel -/

/-- The host operations before the kernel: the table of offsets. -/
abbrev hostOps : List (List (HloOp τ sig (Elt F))) := [hostOps0, hostOps0_1, hostOps0_2]

/-- What each buffer holds when the kernel starts. -/
def V (c : Dev nD) (b : Ref sig .tc) : Buf (Elt F) ((c : Thread nD τ).loc b) :=
  StableHlo.after (hostOps (F := F)).flatten (fun b => m (c, b)) b

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main hostOps ⟨hostOps0_sub, hostOps0_1_sub, hostOps0_2_sub⟩
    ⟨⟨rfl, rfl⟩, ⟨rfl, rfl, rfl⟩, rfl⟩ (fun c => main_chain c)

theorem V_arg (c : Dev nD) (b : Ref sig .tc) (hb : b = main_arg0 ∨ b = main_arg1 ∨ b = main_arg2 ∨ b = main_v3_0) : V m c b = m ((c : Thread nD τ).loc b) := by
  unfold V
  rcases hb with rfl | rfl | rfl | rfl <;> simp only [hostOps, List.flatten, hostOps0, hostOps0_1, hostOps0_2, List.append, List.cons_append, List.nil_append] <;> rfl

/-- The table of offsets as the kernel finds it. -/
def T (c : Dev nD) : S9.Idx → BitVec 32 := V m c main_v2
def tbl : pre0.Contents (Elt F) := fun | ⟨0, _⟩ => V m 0 main_v2 | ⟨_ + 1, h⟩ => absurd h (Nat.not_lt.2 (Nat.le_add_left _ _))
abbrev adm : (p : Fin 1) → (pcfgs (F := F) p).Adm := fun _ => ⟨tbl m, trivial⟩
abbrev cfgM : Pipeline.Cfg sig Λ₀ := cfg0 (adm m 0)

/-! ## The blocks -/

/-- The `n`-th block of rows of each of the two inputs. -/
def xAt (c : Dev nD) (n : ℕ) : S512x1536.Idx → F .bf16 := fun r =>
  (V m c main_arg0 : S49152x1536.Idx → F .bf16) (ix2 (n0 := 49152) (n1 := 1536) ⟨(512 * n + (r 0).val) % 49152, Nat.mod_lt _ (by decide)⟩ (r 1))
def yAt (c : Dev nD) (n : ℕ) : S512x3072.Idx → F .bf16 := fun r =>
  (V m c main_arg1 : S49152x3072.Idx → F .bf16) (ix2 (n0 := 49152) (n1 := 3072) ⟨(512 * n + (r 0).val) % 49152, Nat.mod_lt _ (by decide)⟩ (r 1))

/-- The accumulator and the stored result after the first `n` tiles. -/
def tiles (c : Dev nD) (s : (S1536x3072.Idx → F .f32) × (S8x1536x3072.Idx → F .f32)) : ℕ → (S1536x3072.Idx → F .f32) × (S8x1536x3072.Idx → F .f32)
  | 0 => s
  | n + 1 => turns n (T m c) (xtT (xAt m c n)) (ywT (yAt m c n)) (tiles c s n) 8

/-- What the kernel holds of its own before tile `n`. -/
def PhiS (c : Dev nD) (n : ℕ) : sProp 𝕄 :=
  iprop(((offM).view.loc (c : Thread nD τ) ↦[(offM).view.set]{fullShare.right} (T m c : BufTy.Contents (Elt F) (offM).view.ty))
    ∗ (∃ a, ptv c accM (tiles m c (a, V m c main_v3_0) n).1 ∗ ptv c dwM (tiles m c (a, V m c main_v3_0) n).2)
    ∗ pta (F := F) c xtM ∗ pta (F := F) c xmM ∗ pta (F := F) c ywM ∗ semVal ((c : Thread nD τ), SemLoc.dma 12) 0 ∗ ∃ r, prngReg c r)

def dats (_ : Fin 1) (c : Dev nD) : Dat τ (Elt F) Unit ℕ (Pipeline.UD sig nD τ) ℕ (cfgM m) c where
  A w := V m c (Pipeline.arrRef spec0 w)
  after w t := match w with
    | ⟨0, _⟩ => xAt m c t.val
    | ⟨1, _⟩ => yAt m c t.val
    | ⟨2, _⟩ => xcT (xAt m c t.val)
    | ⟨3, _⟩ => xsT (xAt m c t.val)
    | ⟨4, _⟩ => ycT (yAt m c t.val)
    | ⟨5, _⟩ => ysT (yAt m c t.val)
    | ⟨_ + 6, h⟩ => absurd h (Nat.not_lt.2 (Nat.le_add_left _ _))
  Φ t := PhiS m c t.val
  q _ := fullShare
  owed _ := 0

theorem A_eq (c : Dev nD) (w : Fin (cfgM m).W) : (dats m 0 c).A w = V m c (Pipeline.arrRef spec0 w) := by dsimp only [dats]
theorem after0 (c : Dev nD) (t : Fin (cfgM m).N) : (dats m 0 c).after 0 t = xAt m c t.val := by dsimp only [dats]; rfl
theorem after1 (c : Dev nD) (t : Fin (cfgM m).N) : (dats m 0 c).after 1 t = yAt m c t.val := by dsimp only [dats]; rfl
theorem after2 (c : Dev nD) (t : Fin (cfgM m).N) : (dats m 0 c).after 2 t = xcT (xAt m c t.val) := by dsimp only [dats]; rfl
theorem after3 (c : Dev nD) (t : Fin (cfgM m).N) : (dats m 0 c).after 3 t = xsT (xAt m c t.val) := by dsimp only [dats]; rfl
theorem after4 (c : Dev nD) (t : Fin (cfgM m).N) : (dats m 0 c).after 4 t = ycT (yAt m c t.val) := by dsimp only [dats]; rfl
theorem after5 (c : Dev nD) (t : Fin (cfgM m).N) : (dats m 0 c).after 5 t = ysT (yAt m c t.val) := by dsimp only [dats]; rfl

theorem coord (t : Fin grid0.N) : (grid0.coords t 0).val = t.val :=
  (by decide +kernel : ∀ t : Fin grid0.N, (grid0.coords t 0).val = t.val) t

theorem lt96 (t : Fin grid0.N) : t.val < 96 := lt_of_lt_of_eq t.isLt N_0

theorem idx0 (t : Fin grid0.N) : (BitVec.ofNat 32 (grid0.coords t 0).val).toNat = t.val := by
  rw [coord, BitVec.toNat_ofNat, Nat.mod_eq_of_lt (lt_trans (lt96 t) (by decide))]

theorem fetch_all (w : Fin (cfgM m).W) (h0 : ((cfgM m).win w).isOut = false) (a : Fin ((cfgM m).win w).shape.rank)
    (h : ∀ t, ((cfgM m).win w).index t a = t.val) (t : Fin (cfgM m).N) : ((cfgM m).win w).fetch t = true := by
  unfold Pipeline.Window.fetch
  rw [h0, Bool.not_false, Bool.true_and, Bool.or_eq_true, decide_eq_true_iff, decide_eq_true_iff]
  by_cases ht : t.val = 0
  · exact Or.inl ht
  · refine Or.inr ⟨Nat.pos_of_ne_zero ht, fun e => ?_⟩
    have := congrFun e a
    rw [h, h] at this
    dsimp only at this
    omega

theorem index0 (t : Fin (cfgM m).N) : ((cfgM m).win 0).index t = ![t.val, 0] := by
  show ![(BitVec.ofNat 32 (grid0.coords t 0).val).toNat, (0#32).toNat] = _
  rw [idx0]; rfl
theorem index1 (t : Fin (cfgM m).N) : ((cfgM m).win 1).index t = ![t.val, 0] := by
  show ![(BitVec.ofNat 32 (grid0.coords t 0).val).toNat, (0#32).toNat] = _
  rw [idx0]; rfl

theorem before0 (c : Dev nD) (t : Fin (cfgM m).N) (d) : (dats m 0 c).before 0 t d = xAt m c t.val := by
  rw [Dat.before_fetched _ 0 t (fetch_all m 0 rfl (0 : Fin 2) (fun t => by rw [index0]; rfl) t) d]
  unfold Dat.fetched Dat.blockOf
  rw [A_eq]
  refine funext fun (r : S512x1536.Idx) => congrArg (V m c main_arg0 : S49152x1536.Idx → F .bf16) (funext fun (a : Fin 2) => Fin.ext ?_)
  have ht := lt96 t
  match a with
  | ⟨0, _⟩ =>
    have hr : (r 0).val < 512 := (r 0).isLt
    show (BitVec.ofNat 32 (grid0.coords t 0).val).toNat * 512 + 1 * (r 0).val = (512 * t.val + (r 0).val) % 49152
    rw [idx0, Nat.mod_eq_of_lt (by omega)]; omega
  | ⟨1, _⟩ =>
    show (0#32).toNat * 1536 + 1 * (r 1).val = (r 1).val
    rw [show (0#32).toNat = 0 from rfl]; omega

theorem before1 (c : Dev nD) (t : Fin (cfgM m).N) (d) : (dats m 0 c).before 1 t d = yAt m c t.val := by
  rw [Dat.before_fetched _ 1 t (fetch_all m 1 rfl (0 : Fin 2) (fun t => by rw [index1]; rfl) t) d]
  unfold Dat.fetched Dat.blockOf
  rw [A_eq]
  refine funext fun (r : S512x3072.Idx) => congrArg (V m c main_arg1 : S49152x3072.Idx → F .bf16) (funext fun (a : Fin 2) => Fin.ext ?_)
  have ht := lt96 t
  match a with
  | ⟨0, _⟩ =>
    have hr : (r 0).val < 512 := (r 0).isLt
    show (BitVec.ofNat 32 (grid0.coords t 0).val).toNat * 512 + 1 * (r 0).val = (512 * t.val + (r 0).val) % 49152
    rw [idx0, Nat.mod_eq_of_lt (by omega)]; omega
  | ⟨1, _⟩ =>
    show (0#32).toNat * 3072 + 1 * (r 1).val = (r 1).val
    rw [show (0#32).toNat = 0 from rfl]; omega

/-! ## One tile -/

abbrev ms0 (t : Fin (cfgM m).N) : Memref sig .tc .vmem S512x1536 .bf16 := spec0_0.stage ((cfgM m).slots t 0)
abbrev ms1 (t : Fin (cfgM m).N) : Memref sig .tc .vmem S512x3072 .bf16 := spec0_1.stage ((cfgM m).slots t 1)
abbrev ms2 (t : Fin (cfgM m).N) : Memref sig .tc .vmem S512x1536 .fp8e4m3 := spec0_2.stage ((cfgM m).slots t 2)
abbrev ms3 (t : Fin (cfgM m).N) : Memref sig .tc .vmem S16x1536 .f32 := spec0_3.stage ((cfgM m).slots t 3)
abbrev ms4 (t : Fin (cfgM m).N) : Memref sig .tc .vmem S512x3072 .fp8e5m2 := spec0_4.stage ((cfgM m).slots t 4)
abbrev ms5 (t : Fin (cfgM m).N) : Memref sig .tc .vmem S16x3072 .f32 := spec0_5.stage ((cfgM m).slots t 5)

abbrev bodyAt (t : Fin (cfgM m).N) : Prog (TpuEff nD τ sig (Elt F) Λ₀ .tc) PUnit :=
  cc0_grouped_wgrad (F := F) (grid0.coords t) offM (Memref.isWhole_whole _) (ms0 m t) (hstage0_0 (((cfgM m).slots t 0).cast nbuf0_0))
    (ms1 m t) (hstage0_1 (((cfgM m).slots t 1).cast nbuf0_1)) dwM (Memref.isWhole_whole _)
    (ms2 m t) (hstage0_2 (((cfgM m).slots t 2).cast nbuf0_2)) (ms3 m t) (hstage0_3 (((cfgM m).slots t 3).cast nbuf0_3))
    (ms4 m t) (hstage0_4 (((cfgM m).slots t 4).cast nbuf0_4)) (ms5 m t) (hstage0_5 (((cfgM m).slots t 5).cast nbuf0_5))
    accM (Memref.isWhole_whole _) xtM (Memref.isWhole_whole _) xmM (Memref.isWhole_whole _) ywM (Memref.isWhole_whole _) cc0_scratch4

/-- A tile's body, from what the kernel holds before it to what it holds after it. -/
theorem tile_wp (c : Dev nD) (t : Fin (cfgM m).N) :
    iprop(PhiS m c t.val ∗ (∃ W : Waits sig Unit, owes (c : Thread nD τ) 0 W)
        ∗ ptv c (ms0 m t) (xAt m c t.val) ∗ ptv c (ms1 m t) (yAt m c t.val)
        ∗ pta (F := F) c (ms2 m t) ∗ pta (F := F) c (ms3 m t) ∗ pta (F := F) c (ms4 m t) ∗ pta (F := F) c (ms5 m t))
      ⊢ wp Idealize.ShloMosaic.frame (wpE (defs₀ (F := F)) Variants.none (c : Thread nD τ) none) Set.univ (bodyAt m t)
        (fun _ => iprop(PhiS m c (t.val + 1) ∗ (∃ W : Waits sig Unit, owes (c : Thread nD τ) 0 W)
          ∗ ptv c (ms0 m t) (xAt m c t.val) ∗ ptv c (ms1 m t) (yAt m c t.val)
          ∗ ptv c (ms2 m t) (xcT (xAt m c t.val)) ∗ ptv c (ms3 m t) (xsT (xAt m c t.val))
          ∗ ptv c (ms4 m t) (ycT (yAt m c t.val)) ∗ ptv c (ms5 m t) (ysT (yAt m c t.val)))) := by
  unfold PhiS
  iintro ⟨⟨HT, ⟨%a, Ha, Hd⟩, Hx, Hm, Hw, HS, Hg⟩, HO, H0, H1, H2, H3, H4, H5⟩
  iapply (wp_wand_r _ _ _)
  isplitl [HT Ha Hd Hx Hm Hw HS HO H0 H1 H2 H3 H4 H5]
  · iapply (body_wp c (grid0.coords t) (ms0 m t) _ (ms1 m t) _ (ms2 m t) _ (ms3 m t) _ (ms4 m t) _ (ms5 m t) _ fullShare.right (T m c)
      (tiles m c (a, V m c main_v3_0) t.val) (xAt m c t.val) (yAt m c t.val))
    isplitl [H0 H2 H3 Hx]
    · isplitl [H0]; · iexact H0
      isplitl [H2]; · iexact H2
      isplitl [H3]; · iexact H3
      iexact Hx
    isplitl [H1 H4 H5 Hw]
    · isplitl [H1]; · iexact H1
      isplitl [H4]; · iexact H4
      isplitl [H5]; · iexact H5
      iexact Hw
    isplitl [HT]; · iexact HT
    isplitl [Ha]; · iexact Ha
    isplitl [Hm]; · iexact Hm
    isplitl [Hd]; · iexact Hd
    isplitl [HS]; · iexact HS
    iexact HO
  · unfold St
    iintro %_ ⟨⟨H0, H2, H3⟩, ⟨H1, H4, H5⟩, HT, Ha, Hx, Hm, Hw, Hd, HS, HO⟩
    rw [coord]
    isplitl [HT Ha Hd Hx Hm Hw HS Hg]
    · isplitl [HT]; · iexact HT
      isplitl [Ha Hd]
      · iexists a
        isplitl [Ha]; · iexact Ha
        iexact Hd
      isplitl [Hx]
      · unfold ptv pta; icases Hx with ⟨%f, -, Hx⟩; iexists f; iexact Hx
      isplitl [Hm]; · iexact Hm
      isplitl [Hw]
      · unfold ptv pta; icases Hw with ⟨%f, -, Hw⟩; iexists f; iexact Hw
      isplitl [HS]; · iexact HS
      iexact Hg
    isplitl [HO]; · iexact HO
    isplitl [H0]; · iexact H0
    isplitl [H1]; · iexact H1
    isplitl [H2]; · iexact H2
    isplitl [H3]; · iexact H3
    isplitl [H4]; · iexact H4
    iexact H5

theorem ptv_pta (c : Dev nD) {sp : Space} {S : Shape} {e : EltTy} (M : Memref sig .tc sp S e) (d : S.Idx → Elt F e) :
    ptv c M d ⊢ pta (F := F) c M := by
  unfold ptv pta; iintro ⟨%f, -, H⟩; iexists f; iexact H

def bodyPre (c : Dev nD) (t : Fin (cfgM m).N) : sProp 𝕄 :=
  iprop((dats m 0 c).Φ t.castSucc ∗ (dats m 0 c).owesAt () t.castSucc
    ∗ (∃ d, ptv c (ms0 m t) ((dats m 0 c).before 0 t d)) ∗ (∃ d, ptv c (ms1 m t) ((dats m 0 c).before 1 t d))
    ∗ (∃ d, ptv c (ms2 m t) ((dats m 0 c).before 2 t d)) ∗ (∃ d, ptv c (ms3 m t) ((dats m 0 c).before 3 t d))
    ∗ (∃ d, ptv c (ms4 m t) ((dats m 0 c).before 4 t d)) ∗ (∃ d, ptv c (ms5 m t) ((dats m 0 c).before 5 t d)))
def bodyPost (c : Dev nD) (t : Fin (cfgM m).N) : sProp 𝕄 :=
  iprop((dats m 0 c).Φ t.succ ∗ (dats m 0 c).owesAt () t.succ
    ∗ ptv c (ms0 m t) ((dats m 0 c).after 0 t) ∗ ptv c (ms1 m t) ((dats m 0 c).after 1 t)
    ∗ ptv c (ms2 m t) ((dats m 0 c).after 2 t) ∗ ptv c (ms3 m t) ((dats m 0 c).after 3 t)
    ∗ ptv c (ms4 m t) ((dats m 0 c).after 4 t) ∗ ptv c (ms5 m t) ((dats m 0 c).after 5 t))

theorem sound_body (c : Dev nD) (t : Fin (cfgM m).N) :
    bodyPre m c t ⊢ wp Idealize.ShloMosaic.frame (wpE (defs₀ (F := F)) Variants.none (c : Thread nD τ) none) Set.univ (bodyAt m t) (fun _ => bodyPost m c t) := by
  unfold bodyPre bodyPost
  rw [after0, after1, after2, after3, after4, after5]
  simp only [before0, before1]
  rw [show (dats m 0 c).Φ t.succ = PhiS m c (t.val + 1) from rfl, show (dats m 0 c).Φ t.castSucc = PhiS m c t.val from rfl]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩, ⟨%d3, H3⟩, ⟨%d4, H4⟩, ⟨%d5, H5⟩⟩
  iapply (wp_wand_r _ _ _)
  isplitl [HP HW H0 H1 H2 H3 H4 H5]
  · iapply (tile_wp m c t)
    isplitl [HP]; · iexact HP
    isplitl [HW]; · iexists W; iexact HW
    isplitl [H0]; · iexact H0
    isplitl [H1]; · iexact H1
    isplitl [H2]; · iapply (ptv_pta c (ms2 m t) _); iexact H2
    isplitl [H3]; · iapply (ptv_pta c (ms3 m t) _); iexact H3
    isplitl [H4]; · iapply (ptv_pta c (ms4 m t) _); iexact H4
    iapply (ptv_pta c (ms5 m t) _); iexact H5
  · iintro %_ ⟨HP, ⟨%W', HW⟩, H⟩
    isplitl [HP]; · iexact HP
    isplitl [HW]
    · iexists W'
      isplitr
      · ipureintro; exact fun _ _ => Or.inl (Set.mem_univ _)
      · iexact HW
    · iexact H

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole run -/

def osem0 : Fin 1 → SemLoc sig := fun j => ![SemLoc.dma 12] j
theorem ownSemFacts0 : OwnSemFacts spec0 osem0 := by decide
theorem ownSems0_eq (c : Dev nD) : (ownSems0 (Ix := Unit) (Name := ℕ) (U := Pipeline.UD sig nD τ) (Lvl := ℕ) (Val := Elt F) (τ := τ) osem0 c : sProp 𝕄)
    = semVal ((c : Thread nD τ), SemLoc.dma 12) 0 := by
  rw [ownSems0_eq_of_list c osem0 [0] (by decide) (by decide)]; rfl

abbrev R0 : Finset (Ref sig .tc) := {main_v3_0}
theorem R0_sub : R0 ⊆ Pipeline.restRefsP sig pre0 spec0 \ ∅ := by decide

theorem pt_whole (c : Dev nD) {sp : Space} {S : Shape} {e : EltTy} (M : Memref sig .tc sp S e) (h : M.IsWhole) (f) :
    pt (F := F) c M f = (M.view.loc (c : Thread nD τ) ↦{fullShare} f) := by
  unfold pt; rw [h.set_eq_univ]

theorem arg2_rest : main_arg2 ∈ Pipeline.restRefs sig spec0 \ R0 := by decide

/-- What the kernel leaves in the stored result. -/
def Left (c : Dev nD) (W : (b : Ref sig .tc) → Buf (Elt F) ((c : Thread nD τ).loc b)) : Prop :=
  ∃ a, W main_v3_0 = (tiles m c (a, V m c main_v3_0) 96).2

theorem enter (c : Dev nD) :
    iprop(Pipeline.ΦDRG osem0 spec0 ∅ R0 (V m) (V m) c ∗ Pipeline.ΦT pre0 (tbl m) c) ⊢ PhiS m c 0 := by
  rw [Pipeline.ΦDRG_eq, scopedRest0_eq, ownSems0_eq, bigSep_empty]
  unfold Pipeline.routed
  rw [bigSep_singleton]
  unfold Pipeline.ΦT Pipeline.prefHeld
  rw [show (Finset.univ : Finset (Fin 1)) = {0} from by decide, bigSep_singleton]
  obtain rfl : c = 0 := Subsingleton.elim _ _
  rw [show tbl m 0 = T m 0 from rfl]
  unfold PhiS ptv pta
  simp only [pt_whole 0 accM (Memref.isWhole_whole _), pt_whole 0 dwM (Memref.isWhole_whole _), pt_whole 0 xtM (Memref.isWhole_whole _),
    pt_whole 0 xmM (Memref.isWhole_whole _), pt_whole 0 ywM (Memref.isWhole_whole _), (Memref.isWhole_whole main_v2).set_eq_univ]
  generalize T m 0 = TT
  iintro ⟨⟨⟨⟨%f0, H0⟩, ⟨%f1, H1⟩, ⟨%f2, H2⟩, ⟨%f3, H3⟩⟩, Hg, HS, -, HR⟩, HT⟩
  isplitl [HT]; · iexact HT
  isplitl [H0 HR]
  · iexists f0
    isplitl [H0]
    · iexists f0; isplitr; · ipureintro; rfl
      iexact H0
    · iexists (V m 0 main_v3_0); isplitr; · ipureintro; rfl
      iexact HR
  isplitl [H1]; · iexists f1; iexact H1
  isplitl [H2]; · iexists f2; iexact H2
  isplitl [H3]; · iexists f3; iexact H3
  isplitl [HS]; · iexact HS
  iexact Hg

theorem leave (c : Dev nD) :
    PhiS m c 96 ⊢ iprop(Pipeline.ΦD osem0 spec0 ∅ (V m) c ∗ Pipeline.routedSat R0 c (Left m c)) := by
  rw [Pipeline.ΦD_eq, scopedRest0_eq, ownSems0_eq, bigSep_empty]
  unfold Pipeline.routedSat Pipeline.routed
  simp only [bigSep_singleton]
  unfold PhiS ptv pta
  simp only [pt_whole c accM (Memref.isWhole_whole _), pt_whole c dwM (Memref.isWhole_whole _), pt_whole c xtM (Memref.isWhole_whole _),
    pt_whole c xmM (Memref.isWhole_whole _), pt_whole c ywM (Memref.isWhole_whole _), (Memref.isWhole_whole main_v2).set_eq_univ]
  iintro ⟨-, ⟨%a, ⟨%f0, -, H0⟩, ⟨%fd, %hd, HD⟩⟩, ⟨%f1, H1⟩, ⟨%f2, H2⟩, ⟨%f3, H3⟩, HS, Hg⟩
  isplitl [H0 H1 H2 H3 HS Hg]
  · isplitl [H0 H1 H2 H3]
    · isplitl [H0]; · iexists f0; iexact H0
      isplitl [H1]; · iexists f1; iexact H1
      isplitl [H2]; · iexists f2; iexact H2
      iexists f3; iexact H3
    isplitl [Hg]; · iexact Hg
    isplitl [HS]; · iexact HS
    iempintro
  · iexists (Function.update (V m c) main_v3_0 fd)
    isplitr
    · ipureintro
      refine ⟨a, ?_⟩
      rw [Function.update_self]; exact hd
    · rw [Function.update_self]; iexact HD

/-- What a run leaves: each window's array as the blocks make it, the stored result as the tiles make it, every other buffer as it was. -/
def Ran (r : PUnit × MemSt nD τ sig (Elt F)) : Prop :=
  (∀ c : Dev nD, (∀ w, r.2.mem ((c : Thread nD τ).loc (Pipeline.arrRef spec0 w)) = (dats m 0 c).arrAt w (cfgM m).N)
    ∧ (∃ a, r.2.mem ((c : Thread nD τ).loc main_v3_0) = (tiles m c (a, V m c main_v3_0) 96).2)
    ∧ r.2.mem ((c : Thread nD τ).loc main_arg2) = m ((c : Thread nD τ).loc main_arg2))
  ∧ r.2.sem = fun _ => 0

set_option backward.isDefEq.respectTransparency.types false in
theorem run_main : θ_run defs (onTc (τ := τ) (main (F := F))) ⟨m, fun _ => 0, ρ⟩ (Ran m) :=
  Pipeline.RDat.θ_run_frameP_dmaRSat_shared (pcfgs (F := F)) (adm m) (0 : Fin 1) (launch0 (F := F)).to₀ osem0 defs₀ Variants.none
    (fun c => (dats m 0 c).toR) ownSemFacts0 ∅ R0 (Finset.empty_subset _) R0_sub m ρ main
    (hbody := fun c => ((body_obligation m c).loose).toR)
    (hq := fun c w hw => ((dats m 0 c).toR).q_eq_shareOf_of_share_full (launch0 (F := F)).win.arr_inj ((dats m 0 c).share_full fun _ => rfl) w hw)
    (howed := fun _ _ => rfl) (V := V m) (hmain := hmain m Variants.none) (hA := A_eq m)
    (hpf := fun c k => by
      obtain rfl : c = 0 := Subsingleton.elim _ _
      match k with
      | ⟨0, _⟩ => rfl)
    (PG := Left m) (hin := enter m) (hout := leave m) (Q' := Ran m)
    (hQ' := fun r h => by
      obtain ⟨⟨hf, hl⟩, hs⟩ := h
      have hf' := Pipeline.RDat.FramePostR.toDat _ (dats m) 0 R0 (V m) r hf
      refine ⟨fun c => ⟨fun w => (hf' c).1 w, ?_, ?_⟩, hs⟩
      · obtain ⟨W, ⟨a, hW⟩, hb⟩ := hl c
        exact ⟨a, (hb main_v3_0 (Finset.mem_singleton_self _)).trans hW⟩
      · exact ((hf' c).2 main_arg2 arg2_rest).trans
          (V_arg m c main_arg2 (.inr (.inr (.inl rfl)))))

theorem arr_in (c : Dev nD) (w : Fin 6) (h : (spec0 w).isOut = false) : (dats m 0 c).arrAt w (cfgM m).N = V m c (Pipeline.arrRef spec0 w) :=
  ((dats m 0 c).arrAt_in w h _).trans (A_eq m c w)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).1 0).trans ((arr_in m c 0 rfl).trans (V_arg m c main_arg0 (.inl rfl))),
    ((h.1 c).1 1).trans ((arr_in m c 1 rfl).trans (V_arg m c main_arg1 (.inr (.inl rfl)))), (h.1 c).2.2⟩, h.2⟩) (run_main m ρ)

end Cert.Kernel.Hand
end
-- ==== Proof.KI.Trips.lean ====
module

public import proofs.«01_k».proof.Proof.Gen.KernelIdeal.Loops
public import proofs.«01_k».proof.Proof.Gen.KernelIdeal.Launch
public import Idealize.ShloMosaic.Lib.Pipeline.FrameValue
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The table of offsets, the result left in main memory and the four scratch buffers. -/
abbrev offM : Memref sig .tc .smem S9 .i32 := Memref.whole main_v2
abbrev dwM : Memref sig .tc .hbm S8x1536x3072 .f32 := Memref.whole main_v3_0
abbrev accM : Memref sig .tc .vmem S1536x3072 .f32 := Memref.whole cc0_scratch0
abbrev xtM : Memref sig .tc .vmem S1536x512 .bf16 := Memref.whole cc0_scratch1
abbrev xmM : Memref sig .tc .vmem S1536x512 .bf16 := Memref.whole cc0_scratch2
abbrev ywM : Memref sig .tc .vmem S512x3072 .bf16 := Memref.whole cc0_scratch3

variable (c : Dev nD) (i : grid0.Coords)
  (arg2 : Memref sig .tc .vmem S512x1536 .bf16) (harg2 : arg2.IsWhole)
  (arg3 : Memref sig .tc .vmem S512x3072 .bf16) (harg3 : arg3.IsWhole)
  (arg5 : Memref sig .tc .vmem S512x1536 .fp8e4m3) (harg5 : arg5.IsWhole)
  (arg6 : Memref sig .tc .vmem S16x1536 .f32) (harg6 : arg6.IsWhole)
  (arg7 : Memref sig .tc .vmem S512x3072 .fp8e5m2) (harg7 : arg7.IsWhole)
  (arg8 : Memref sig .tc .vmem S16x3072 .f32) (harg8 : arg8.IsWhole)

/-- A memref's buffer held whole at the given contents. -/
abbrev pt {sp : Space} {S : Shape} {e : EltTy} (M : Memref sig .tc sp S e) (f : Buf (Elt F) (M.view.loc (c : Thread nD τ))) : sProp 𝕄 :=
  M.view.loc (c : Thread nD τ) ↦[M.view.set]{fullShare} f

abbrev body1 := k0_t1_body (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4

def trip1 (X : BufTy.Contents (Elt F) arg2.view.ty) (k : Fin k0_t1_loop.trips) :
    Σ' (L5 : List (View.Piece (Elt F) S512x1536 .fp8e4m3)) (L6 : List (View.Piece (Elt F) S16x1536 .f32)),
      { L10 : List (View.Piece (Elt F) S1536x512 .bf16) // ∀ (f5 : BufTy.Contents (Elt F) arg5.view.ty) (f6 : BufTy.Contents (Elt F) arg6.view.ty) (f10 : BufTy.Contents (Elt F) (xtM).view.ty),
      iprop(pt (F := F) c arg2 X ∗ pt c arg5 f5 ∗ pt c arg6 f6 ∗ pt c xtM f10)
      ⊢ wp frame (wpE (defs₀ (F := F)) Variants.none (c : Thread nD τ) none) Set.univ (body1 i arg2 harg2 arg3 harg3 arg5 harg5 arg6 harg6 arg7 harg7 arg8 harg8 k PUnit.unit)
          (fun _ => iprop(pt (F := F) c arg2 X ∗ pt c arg5 (arg5.view.writes (Elt F) f5 L5) ∗ pt c arg6 (arg6.view.writes (Elt F) f6 L6)
            ∗ pt c xtM ((xtM).view.writes (Elt F) f10 L10))) } := by
  have hk : k.val < 6 := Nat.lt_of_lt_of_le k.isLt k0_t1_abs.2.1
  refine ⟨?_, ?_, ?_, fun f_arg5 f_arg6 f_arg10 => ?run⟩
  case run =>
    unfold body1 k0_t1_body pt
    iintro ⟨HR_arg2, HW_arg5, HW_arg6, HW_arg10⟩
    sl_exec
    sl_step
    sl_close

end Cert.KernelIdeal.Hand
end
-- ==== Proof.KI.Segments.lean ====
module

public import proofs.«01_k».proof.Proof.KI.Trips

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The rows of the tile that starts at row `v0` reach past the start of the group `[v6, v9)` and end after its start. -/
def overC (v0 v6 v9 : BitVec 32) : BitVec 1 := Scalar.andi (Scalar.cmpi .slt v6 (Scalar.addi v0 512#32)) (Scalar.cmpi .sgt v9 v0)
/-- The group starts in this tile, or after every tile and this is the last one. -/
def beginC (v0 : BitVec 32) (v1 : BitVec 1) (v6 : BitVec 32) : BitVec 1 :=
  Scalar.andi (Scalar.cmpi .sge v6 v0) (Scalar.ori (Scalar.cmpi .slt v6 (Scalar.addi v0 512#32)) v1)
def actC (v0 : BitVec 32) (v1 : BitVec 1) (v6 v9 : BitVec 32) : BitVec 1 :=
  Scalar.ori (overC v0 v6 v9) (Scalar.andi (Scalar.cmpi .eq v6 v9) (beginC v0 v1 v6))
def coverC (v0 v6 v9 : BitVec 32) : BitVec 1 :=
  Scalar.andi (Scalar.cmpi .sle v6 v0) (Scalar.cmpi .sge v9 (Scalar.addi v0 512#32))
def condW (b : BitVec 1) : BitVec 1 := Scalar.cmpi .ne (Scalar.extui b : BitVec 32) 0#32
def zeroC (v0 : BitVec 32) (v1 : BitVec 1) (v6 v9 : BitVec 32) : BitVec 1 := condW (Scalar.andi (actC v0 v1 v6 v9) (beginC v0 v1 v6))
def fullC (v0 v6 v9 : BitVec 32) : BitVec 1 := condW (Scalar.andi (overC v0 v6 v9) (coverC v0 v6 v9))
def maskC (v0 v6 v9 : BitVec 32) : BitVec 1 := condW (Scalar.andi (overC v0 v6 v9) (Scalar.xori (coverC v0 v6 v9) 1#1))
def flushC (v0 : BitVec 32) (v1 : BitVec 1) (v6 v9 : BitVec 32) : BitVec 1 :=
  condW (Scalar.andi (actC v0 v1 v6 v9) (Scalar.cmpi .sle v9 (Scalar.addi v0 512#32)))

theorem ite_bind' {E : Type → Type} {α β : Type} (c : Prop) [Decidable c] (a b : Prog E α) (k : α → Prog E β) :
    (if c then a else b) >>= k = if c then a >>= k else b >>= k := by split <;> rfl

/-- Clears the accumulator. -/
def segZero (i : grid0.Coords) (arg1 : Memref sig .tc .smem S9 .i32) (harg1 : arg1.IsWhole) (arg2 : Memref sig .tc .vmem S512x1536 .bf16) (harg2 : arg2.IsWhole) (arg3 : Memref sig .tc .vmem S512x3072 .bf16) (harg3 : arg3.IsWhole) (arg4 : Memref sig .tc .hbm S8x1536x3072 .f32) (harg4 : arg4.IsWhole) (arg5 : Memref sig .tc .vmem S512x1536 .fp8e4m3) (harg5 : arg5.IsWhole) (arg6 : Memref sig .tc .vmem S16x1536 .f32) (harg6 : arg6.IsWhole) (arg7 : Memref sig .tc .vmem S512x3072 .fp8e5m2) (harg7 : arg7.IsWhole) (arg8 : Memref sig .tc .vmem S16x3072 .f32) (harg8 : arg8.IsWhole) (arg9 : Memref sig .tc .vmem S1536x3072 .f32) (harg9 : arg9.IsWhole) (arg10 : Memref sig .tc .vmem S1536x512 .bf16) (harg10 : arg10.IsWhole) (arg11 : Memref sig .tc .vmem S1536x512 .bf16) (harg11 : arg11.IsWhole) (arg12 : Memref sig .tc .vmem S512x3072 .bf16) (harg12 : arg12.IsWhole) (arg13 : DmaSems sig S_) :
    Prog (TpuEff nD τ sig (Elt F) Λ₀ .tc) PUnit := do
  let v42 : Vec F S1536x3072 .f32 ← Prog.lift (.load arg9 (Rect.unit (s := S1536x3072) ![0, 0] S1536x3072.size inb_S1536x3072_S1536x3072_0_0).toLoadRect (View.loadsAt_vmem h_S1536x3072))
  Prog.lift (.store arg9 (Rect.unit (s := S1536x3072) ![0, 0] S1536x3072.size inb_S1536x3072_S1536x3072_0_0) (k0_pay7 (F := F)) Finset.univ (View.stores_vmem_bits_univ h_S1536x3072 rfl) (.inl rfl))
  pure ⟨⟩

/-- Adds the product of the transposed row block with every block of columns. -/
def segFull (i : grid0.Coords) (arg1 : Memref sig .tc .smem S9 .i32) (harg1 : arg1.IsWhole) (arg2 : Memref sig .tc .vmem S512x1536 .bf16) (harg2 : arg2.IsWhole) (arg3 : Memref sig .tc .vmem S512x3072 .bf16) (harg3 : arg3.IsWhole) (arg4 : Memref sig .tc .hbm S8x1536x3072 .f32) (harg4 : arg4.IsWhole) (arg5 : Memref sig .tc .vmem S512x1536 .fp8e4m3) (harg5 : arg5.IsWhole) (arg6 : Memref sig .tc .vmem S16x1536 .f32) (harg6 : arg6.IsWhole) (arg7 : Memref sig .tc .vmem S512x3072 .fp8e5m2) (harg7 : arg7.IsWhole) (arg8 : Memref sig .tc .vmem S16x3072 .f32) (harg8 : arg8.IsWhole) (arg9 : Memref sig .tc .vmem S1536x3072 .f32) (harg9 : arg9.IsWhole) (arg10 : Memref sig .tc .vmem S1536x512 .bf16) (harg10 : arg10.IsWhole) (arg11 : Memref sig .tc .vmem S1536x512 .bf16) (harg11 : arg11.IsWhole) (arg12 : Memref sig .tc .vmem S512x3072 .bf16) (harg12 : arg12.IsWhole) (arg13 : DmaSems sig S_) :
    Prog (TpuEff nD τ sig (Elt F) Λ₀ .tc) PUnit := do
  let ⟨v65, v66⟩ : Σ' (v65 : Vec F S1536x256 .f32), Vec F S1536x512 .bf16 ← k0_part5 i arg1 harg1 arg2 harg2 arg3 harg3 arg4 harg4 arg5 harg5 arg6 harg6 arg7 harg7 arg8 harg8 arg9 harg9 arg10 harg10 arg11 harg11 arg12 harg12 arg13
  let v93 : FVec F S1536x256 .f32 ← k0_part6 i arg1 harg1 arg2 harg2 arg3 harg3 arg4 harg4 arg5 harg5 arg6 harg6 arg7 harg7 arg8 harg8 arg9 harg9 arg10 harg10 arg11 harg11 arg12 harg12 arg13 v65 v66
  k0_part7 i arg1 harg1 arg2 harg2 arg3 harg3 arg4 harg4 arg5 harg5 arg6 harg6 arg7 harg7 arg8 harg8 arg9 harg9 arg10 harg10 arg11 harg11 arg12 harg12 arg13 v93
  let v121 : Vec F S1536x256 .f32 ← Prog.lift (.load arg9 (Rect.unit (s := S1536x3072) ![0, 2560] S1536x256.size inb_S1536x3072_S1536x256_0_2560).toLoadRect (View.loadsAt_vmem h_S1536x256))
  let v122 : Vec F S1536x512 .bf16 ← Prog.lift (.load arg10 (Rect.unit (s := S1536x512) ![0, 0] S1536x512.size inb_S1536x512_S1536x512_0_0).toLoadRect (View.loadsAt_vmem h_S1536x512))
  let v123 : Vec F S512x256 .bf16 ← Prog.lift (.load arg12 (Rect.unit (s := S512x3072) ![0, 2560] S512x256.size inb_S512x3072_S512x256_0_2560).toLoadRect (View.loadsAt_vmem h_S512x256))
  let v126 : Vec F S1536x256 .f32 ← Prog.lift (.load arg9 (Rect.unit (s := S1536x3072) ![0, 2560] S1536x256.size inb_S1536x3072_S1536x256_0_2560).toLoadRect (View.loadsAt_vmem h_S1536x256))
  Prog.lift (.store arg9 (Rect.unit (s := S1536x3072) ![0, 2560] S1536x256.size inb_S1536x3072_S1536x256_0_2560) (k0_pay8 v121 v122 v123) Finset.univ (View.stores_vmem_bits_univ h_S1536x256 rfl) (.inl rfl))
  let v129 : Vec F S1536x256 .f32 ← Prog.lift (.load arg9 (Rect.unit (s := S1536x3072) ![0, 2816] S1536x256.size inb_S1536x3072_S1536x256_0_2816).toLoadRect (View.loadsAt_vmem h_S1536x256))
  let v130 : Vec F S1536x512 .bf16 ← Prog.lift (.load arg10 (Rect.unit (s := S1536x512) ![0, 0] S1536x512.size inb_S1536x512_S1536x512_0_0).toLoadRect (View.loadsAt_vmem h_S1536x512))
  let v131 : Vec F S512x256 .bf16 ← Prog.lift (.load arg12 (Rect.unit (s := S512x3072) ![0, 2816] S512x256.size inb_S512x3072_S512x256_0_2816).toLoadRect (View.loadsAt_vmem h_S512x256))
  let v134 : Vec F S1536x256 .f32 ← Prog.lift (.load arg9 (Rect.unit (s := S1536x3072) ![0, 2816] S1536x256.size inb_S1536x3072_S1536x256_0_2816).toLoadRect (View.loadsAt_vmem h_S1536x256))
  Prog.lift (.store arg9 (Rect.unit (s := S1536x3072) ![0, 2816] S1536x256.size inb_S1536x3072_S1536x256_0_2816) (k0_pay9 v129 v130 v131) Finset.univ (View.stores_vmem_bits_univ h_S1536x256 rfl) (.inl rfl))
  pure ⟨⟩

/-- Masks the transposed row block, then adds the product of what is left with every block of columns. -/
def segMask (i : grid0.Coords) (arg1 : Memref sig .tc .smem S9 .i32) (harg1 : arg1.IsWhole) (arg2 : Memref sig .tc .vmem S512x1536 .bf16) (harg2 : arg2.IsWhole) (arg3 : Memref sig .tc .vmem S512x3072 .bf16) (harg3 : arg3.IsWhole) (arg4 : Memref sig .tc .hbm S8x1536x3072 .f32) (harg4 : arg4.IsWhole) (arg5 : Memref sig .tc .vmem S512x1536 .fp8e4m3) (harg5 : arg5.IsWhole) (arg6 : Memref sig .tc .vmem S16x1536 .f32) (harg6 : arg6.IsWhole) (arg7 : Memref sig .tc .vmem S512x3072 .fp8e5m2) (harg7 : arg7.IsWhole) (arg8 : Memref sig .tc .vmem S16x3072 .f32) (harg8 : arg8.IsWhole) (arg9 : Memref sig .tc .vmem S1536x3072 .f32) (harg9 : arg9.IsWhole) (arg10 : Memref sig .tc .vmem S1536x512 .bf16) (harg10 : arg10.IsWhole) (arg11 : Memref sig .tc .vmem S1536x512 .bf16) (harg11 : arg11.IsWhole) (arg12 : Memref sig .tc .vmem S512x3072 .bf16) (harg12 : arg12.IsWhole) (arg13 : DmaSems sig S_) (v0 v6 v9 : BitVec 32) :
    Prog (TpuEff nD τ sig (Elt F) Λ₀ .tc) PUnit := do
  let ⟨v66, v67, v68, cst_40⟩ : Σ' (v66 : Vec F S1536x256 .f32) (v67 : Vec F S1536x512 .bf16) (v68 : Vec F S512x256 .bf16), FVec F S1536x256 .f32 ← k0_part8 i arg1 harg1 arg2 harg2 arg3 harg3 arg4 harg4 arg5 harg5 arg6 harg6 arg7 harg7 arg8 harg8 arg9 harg9 arg10 harg10 arg11 harg11 arg12 harg12 arg13 v0 v6 v9
  let v94 : FVec F S1536x256 .f32 ← k0_part9 i arg1 harg1 arg2 harg2 arg3 harg3 arg4 harg4 arg5 harg5 arg6 harg6 arg7 harg7 arg8 harg8 arg9 harg9 arg10 harg10 arg11 harg11 arg12 harg12 arg13 v66 v67 v68 cst_40
  let v122 : Vec F S1536x256 .f32 ← k0_part10 i arg1 harg1 arg2 harg2 arg3 harg3 arg4 harg4 arg5 harg5 arg6 harg6 arg7 harg7 arg8 harg8 arg9 harg9 arg10 harg10 arg11 harg11 arg12 harg12 arg13 v94
  let v123 : Vec F S1536x512 .bf16 ← Prog.lift (.load arg11 (Rect.unit (s := S1536x512) ![0, 0] S1536x512.size inb_S1536x512_S1536x512_0_0).toLoadRect (View.loadsAt_vmem h_S1536x512))
  let v124 : Vec F S512x256 .bf16 ← Prog.lift (.load arg12 (Rect.unit (s := S512x3072) ![0, 2304] S512x256.size inb_S512x3072_S512x256_0_2304).toLoadRect (View.loadsAt_vmem h_S512x256))
  let v127 : Vec F S1536x256 .f32 ← Prog.lift (.load arg9 (Rect.unit (s := S1536x3072) ![0, 2304] S1536x256.size inb_S1536x3072_S1536x256_0_2304).toLoadRect (View.loadsAt_vmem h_S1536x256))
  Prog.lift (.store arg9 (Rect.unit (s := S1536x3072) ![0, 2304] S1536x256.size inb_S1536x3072_S1536x256_0_2304) (k0_pay10 v122 v123 v124) Finset.univ (View.stores_vmem_bits_univ h_S1536x256 rfl) (.inl rfl))
  let v130 : Vec F S1536x256 .f32 ← Prog.lift (.load arg9 (Rect.unit (s := S1536x3072) ![0, 2560] S1536x256.size inb_S1536x3072_S1536x256_0_2560).toLoadRect (View.loadsAt_vmem h_S1536x256))
  let v131 : Vec F S1536x512 .bf16 ← Prog.lift (.load arg11 (Rect.unit (s := S1536x512) ![0, 0] S1536x512.size inb_S1536x512_S1536x512_0_0).toLoadRect (View.loadsAt_vmem h_S1536x512))
  let v132 : Vec F S512x256 .bf16 ← Prog.lift (.load arg12 (Rect.unit (s := S512x3072) ![0, 2560] S512x256.size inb_S512x3072_S512x256_0_2560).toLoadRect (View.loadsAt_vmem h_S512x256))
  let v135 : Vec F S1536x256 .f32 ← Prog.lift (.load arg9 (Rect.unit (s := S1536x3072) ![0, 2560] S1536x256.size inb_S1536x3072_S1536x256_0_2560).toLoadRect (View.loadsAt_vmem h_S1536x256))
  Prog.lift (.store arg9 (Rect.unit (s := S1536x3072) ![0, 2560] S1536x256.size inb_S1536x3072_S1536x256_0_2560) (k0_pay11 v130 v131 v132) Finset.univ (View.stores_vmem_bits_univ h_S1536x256 rfl) (.inl rfl))
  let v138 : Vec F S1536x256 .f32 ← Prog.lift (.load arg9 (Rect.unit (s := S1536x3072) ![0, 2816] S1536x256.size inb_S1536x3072_S1536x256_0_2816).toLoadRect (View.loadsAt_vmem h_S1536x256))
  let v139 : Vec F S1536x512 .bf16 ← Prog.lift (.load arg11 (Rect.unit (s := S1536x512) ![0, 0] S1536x512.size inb_S1536x512_S1536x512_0_0).toLoadRect (View.loadsAt_vmem h_S1536x512))
  let v140 : Vec F S512x256 .bf16 ← Prog.lift (.load arg12 (Rect.unit (s := S512x3072) ![0, 2816] S512x256.size inb_S512x3072_S512x256_0_2816).toLoadRect (View.loadsAt_vmem h_S512x256))
  let v143 : Vec F S1536x256 .f32 ← Prog.lift (.load arg9 (Rect.unit (s := S1536x3072) ![0, 2816] S1536x256.size inb_S1536x3072_S1536x256_0_2816).toLoadRect (View.loadsAt_vmem h_S1536x256))
  Prog.lift (.store arg9 (Rect.unit (s := S1536x3072) ![0, 2816] S1536x256.size inb_S1536x3072_S1536x256_0_2816) (k0_pay12 v138 v139 v140) Finset.univ (View.stores_vmem_bits_univ h_S1536x256 rfl) (.inl rfl))
  pure ⟨⟩

/-- Copies the accumulator to the expert's place in main memory and waits for the copy. -/
def segFlush (i : grid0.Coords) (arg1 : Memref sig .tc .smem S9 .i32) (harg1 : arg1.IsWhole) (arg2 : Memref sig .tc .vmem S512x1536 .bf16) (harg2 : arg2.IsWhole) (arg3 : Memref sig .tc .vmem S512x3072 .bf16) (harg3 : arg3.IsWhole) (arg4 : Memref sig .tc .hbm S8x1536x3072 .f32) (harg4 : arg4.IsWhole) (arg5 : Memref sig .tc .vmem S512x1536 .fp8e4m3) (harg5 : arg5.IsWhole) (arg6 : Memref sig .tc .vmem S16x1536 .f32) (harg6 : arg6.IsWhole) (arg7 : Memref sig .tc .vmem S512x3072 .fp8e5m2) (harg7 : arg7.IsWhole) (arg8 : Memref sig .tc .vmem S16x3072 .f32) (harg8 : arg8.IsWhole) (arg9 : Memref sig .tc .vmem S1536x3072 .f32) (harg9 : arg9.IsWhole) (arg10 : Memref sig .tc .vmem S1536x512 .bf16) (harg10 : arg10.IsWhole) (arg11 : Memref sig .tc .vmem S1536x512 .bf16) (harg11 : arg11.IsWhole) (arg12 : Memref sig .tc .vmem S512x3072 .bf16) (harg12 : arg12.IsWhole) (arg13 : DmaSems sig S_) (k0_t3 : Fin k0_t3_loop.trips) :
    Prog (TpuEff nD τ sig (Elt F) Λ₀ .tc) PUnit := do
  let v41 : Memref sig .tc .hbm S1x1536x3072 .f32 := arg4.slice (Rect.unit (s := S8x1536x3072) (k0_off9 k0_t3) S1x1536x3072.size (k0_off9_inb k0_t3)) (fun _ => rfl)
  let v42 : Memref sig .tc .hbm S1536x3072 .f32 := v41.squeeze S1536x3072 squeezes_S1x1536x3072_S1536x3072
  Prog.lift (.enqueueDma arg9 (.here v42) (.dma arg13.sem) harg9.wordExact ((View.wordExact_bits rfl).reshape _ _) ⟨Or.inl rfl, trivial⟩)
  let v43 : Memref sig .tc .hbm S1x1536x3072 .f32 := arg4.slice (Rect.unit (s := S8x1536x3072) (k0_off9 k0_t3) S1x1536x3072.size (k0_off9_inb k0_t3)) (fun _ => rfl)
  let v44 : Memref sig .tc .hbm S1536x3072 .f32 := v43.squeeze S1536x3072 squeezes_S1x1536x3072_S1536x3072
  Prog.lift (.waitDma2 arg13.sem arg9 v44 harg9.wordExact ((View.wordExact_bits rfl).reshape _ _))
  pure ⟨⟩

/-- One trip of the loop over the experts, branch by branch. -/
theorem t3_body_eq (i : grid0.Coords) (arg1 : Memref sig .tc .smem S9 .i32) (harg1 : arg1.IsWhole) (arg2 : Memref sig .tc .vmem S512x1536 .bf16) (harg2 : arg2.IsWhole) (arg3 : Memref sig .tc .vmem S512x3072 .bf16) (harg3 : arg3.IsWhole) (arg4 : Memref sig .tc .hbm S8x1536x3072 .f32) (harg4 : arg4.IsWhole) (arg5 : Memref sig .tc .vmem S512x1536 .fp8e4m3) (harg5 : arg5.IsWhole) (arg6 : Memref sig .tc .vmem S16x1536 .f32) (harg6 : arg6.IsWhole) (arg7 : Memref sig .tc .vmem S512x3072 .fp8e5m2) (harg7 : arg7.IsWhole) (arg8 : Memref sig .tc .vmem S16x3072 .f32) (harg8 : arg8.IsWhole) (arg9 : Memref sig .tc .vmem S1536x3072 .f32) (harg9 : arg9.IsWhole) (arg10 : Memref sig .tc .vmem S1536x512 .bf16) (harg10 : arg10.IsWhole) (arg11 : Memref sig .tc .vmem S1536x512 .bf16) (harg11 : arg11.IsWhole) (arg12 : Memref sig .tc .vmem S512x3072 .bf16) (harg12 : arg12.IsWhole) (arg13 : DmaSems sig S_) (v0 : BitVec 32) (v1 : BitVec 1) (k : Fin k0_t3_loop.trips) (u : Unit) :
    k0_t3_body (F := F) i arg1 harg1 arg2 harg2 arg3 harg3 arg4 harg4 arg5 harg5 arg6 harg6 arg7 harg7 arg8 harg8 arg9 harg9 arg10 harg10 arg11 harg11 arg12 harg12 arg13 v0 v1 k u = (do
      let v6 : Elt F .i32 ← smemLoad arg1 (Rect.unit (s := S9) (k0_off6 k) S1.size (k0_off6_inb k)) numel1_S1 rfl
      let v9 : Elt F .i32 ← smemLoad arg1 (Rect.unit (s := S9) (k0_off7 k) S1.size (k0_off7_inb k)) numel1_S1 rfl
      (if zeroC v0 v1 v6 v9 = 1#1 then segZero (F := F) i arg1 harg1 arg2 harg2 arg3 harg3 arg4 harg4 arg5 harg5 arg6 harg6 arg7 harg7 arg8 harg8 arg9 harg9 arg10 harg10 arg11 harg11 arg12 harg12 arg13 else pure ⟨⟩)
      (if fullC v0 v6 v9 = 1#1 then segFull (F := F) i arg1 harg1 arg2 harg2 arg3 harg3 arg4 harg4 arg5 harg5 arg6 harg6 arg7 harg7 arg8 harg8 arg9 harg9 arg10 harg10 arg11 harg11 arg12 harg12 arg13 else pure ⟨⟩)
      (if maskC v0 v6 v9 = 1#1 then segMask (F := F) i arg1 harg1 arg2 harg2 arg3 harg3 arg4 harg4 arg5 harg5 arg6 harg6 arg7 harg7 arg8 harg8 arg9 harg9 arg10 harg10 arg11 harg11 arg12 harg12 arg13 v0 v6 v9 else pure ⟨⟩)
      (if flushC v0 v1 v6 v9 = 1#1 then segFlush (F := F) i arg1 harg1 arg2 harg2 arg3 harg3 arg4 harg4 arg5 harg5 arg6 harg6 arg7 harg7 arg8 harg8 arg9 harg9 arg10 harg10 arg11 harg11 arg12 harg12 arg13 k else pure ⟨⟩)) := by
  unfold k0_t3_body
  refine congrArg (Prog.bind _) (funext fun v6 => ?_)
  refine congrArg (Prog.bind _) (funext fun v9 => ?_)
  simp only [segZero, segFull, segMask, segFlush, ite_bind', bind_assoc, pure_bind]
  rfl

end Cert.KernelIdeal.Hand
end
-- ==== Proof.KI.Runs.lean ====
module

public import proofs.«01_k».proof.Proof.KI.Trips
public import proofs.«01_k».proof.Proof.KI.Segments
public import proofs.«01_k».proof.Proof.Tiles
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Tiles

/-! ### What the kernel computes from one tile of rows -/

/-- The scales of a block of 256 columns of the left operand, one per 32 rows. -/
def xScale (v8 : Vec F S512x256 .bf16) : FVec F S16x256 .f32 :=
  k0_pay19 (k0_pay14 v8) (k0_pay15 v8) (k0_pay16 v8) (k0_pay17 v8)
/-- The block divided by its scales, cut off below. -/
def xClip (v8 : Vec F S512x256 .bf16) : FVec F S16x32x256 .bf16 :=
  k0_pay20 (k0_pay13 v8) (k0_pay14 v8) (k0_pay15 v8) (k0_pay16 v8) (k0_pay17 v8)
def yScale (v8 : Vec F S512x256 .bf16) : FVec F S16x256 .f32 :=
  k0_pay28 (k0_pay23 v8) (k0_pay24 v8) (k0_pay25 v8) (k0_pay26 v8)
def yClip (v8 : Vec F S512x256 .bf16) : FVec F S16x32x256 .bf16 :=
  k0_pay29 (k0_pay22 v8) (k0_pay23 v8) (k0_pay24 v8) (k0_pay25 v8) (k0_pay26 v8)

/-- The left operand's codes, scales and transposed dequantised values. -/
def xcT (v : S512x1536.Idx → F .bf16) : S512x1536.Idx → F .fp8e4m3 :=
  ofCols (n := 6) rfl fun j => k0_pay2 (xClip (F := F) (colBlk (n := 6) rfl v j)) (k0_pay21 (F := F))
def xsT (v : S512x1536.Idx → F .bf16) : S16x1536.Idx → F .f32 :=
  ofCols (n := 6) rfl fun j => xScale (F := F) (colBlk (n := 6) rfl v j)
def xtT (v : S512x1536.Idx → F .bf16) : S1536x512.Idx → F .bf16 :=
  ofRows (n := 6) rfl fun j => k0_pay3 (xScale (F := F) (colBlk (n := 6) rfl v j)) (xClip (F := F) (colBlk (n := 6) rfl v j)) (k0_pay21 (F := F))
/-- The right operand's codes, scales and dequantised values. -/
def ycT (v : S512x3072.Idx → F .bf16) : S512x3072.Idx → F .fp8e5m2 :=
  ofCols (n := 12) rfl fun j => k0_pay5 (yClip (F := F) (colBlk (n := 12) rfl v j)) (k0_pay30 (F := F))
def ysT (v : S512x3072.Idx → F .bf16) : S16x3072.Idx → F .f32 :=
  ofCols (n := 12) rfl fun j => yScale (F := F) (colBlk (n := 12) rfl v j)
def ywT (v : S512x3072.Idx → F .bf16) : S512x3072.Idx → F .bf16 :=
  ofCols (n := 12) rfl fun j => k0_pay6 (yScale (F := F) (colBlk (n := 12) rfl v j)) (yClip (F := F) (colBlk (n := 12) rfl v j)) (k0_pay30 (F := F))

/-- The accumulator after a tile's product was added to it. -/
def accT (a : S1536x3072.Idx → F .f32) (x : S1536x512.Idx → F .bf16) (w : S512x3072.Idx → F .bf16) : S1536x3072.Idx → F .f32 :=
  ofCols (n := 12) rfl fun j => k0_pay8 (F := F) (colBlk (n := 12) rfl a j) x (colBlk (n := 12) rfl w j)
/-- The transposed values with the rows outside the group `[v6, v9)` cleared. -/
def maskT (v0 v6 v9 : BitVec 32) (x : S1536x512.Idx → F .bf16) : S1536x512.Idx → F .bf16 :=
  ofRows (n := 6) rfl fun j => k0_pay42 (F := F) v0 v6 v9 (rowBlk (n := 6) rfl x j)
/-- The stored result with expert `k`'s matrix replaced. -/
def putE (k : ℕ) (a : S1536x3072.Idx → F .f32) (d : S8x1536x3072.Idx → F .f32) : S8x1536x3072.Idx → F .f32 :=
  fun y => if (y 0).val = k then a (ix2 (n0 := 1536) (n1 := 3072) (y 1) (y 2)) else d y

/-- One expert's turn in a tile that starts at row `v0`: the accumulator and the stored result after it. -/
def stepE (v0 : BitVec 32) (v1 : BitVec 1) (k : ℕ) (v6 v9 : BitVec 32) (x : S1536x512.Idx → F .bf16) (w : S512x3072.Idx → F .bf16)
    (s : (S1536x3072.Idx → F .f32) × (S8x1536x3072.Idx → F .f32)) : (S1536x3072.Idx → F .f32) × (S8x1536x3072.Idx → F .f32) :=
  let a1 := if zeroC v0 v1 v6 v9 = 1#1 then k0_pay7 (F := F) else s.1
  let a2 := if fullC v0 v6 v9 = 1#1 then accT a1 x w else a1
  let a3 := if maskC v0 v6 v9 = 1#1 then accT a2 (maskT v0 v6 v9 x) w else a2
  (a3, if flushC v0 v1 v6 v9 = 1#1 then putE k a3 s.2 else s.2)

variable (c : Dev nD) (i : grid0.Coords)
  (arg2 : Memref sig .tc .vmem S512x1536 .bf16) (harg2 : arg2.IsWhole)
  (arg3 : Memref sig .tc .vmem S512x3072 .bf16) (harg3 : arg3.IsWhole)
  (arg5 : Memref sig .tc .vmem S512x1536 .fp8e4m3) (harg5 : arg5.IsWhole)
  (arg6 : Memref sig .tc .vmem S16x1536 .f32) (harg6 : arg6.IsWhole)
  (arg7 : Memref sig .tc .vmem S512x3072 .fp8e5m2) (harg7 : arg7.IsWhole)
  (arg8 : Memref sig .tc .vmem S16x3072 .f32) (harg8 : arg8.IsWhole)

/-- A memref's buffer held whole, reading the given array. -/
def ptv {sp : Space} {S : Shape} {e : EltTy} (M : Memref sig .tc sp S e) (d : S.Idx → Elt F e) : sProp 𝕄 :=
  iprop(∃ f : BufTy.Contents (Elt F) M.view.ty, ⌜M.view.read (Elt F) f = d⌝ ∗ pt (F := F) c M f)
/-- A memref's buffer held whole, at any contents. -/
def pta {sp : Space} {S : Shape} {e : EltTy} (M : Memref sig .tc sp S e) : sProp 𝕄 :=
  iprop(∃ f : BufTy.Contents (Elt F) M.view.ty, pt (F := F) c M f)

abbrev body2 := k0_t2_body (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev body3 := k0_t3_body (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev body4 := k0_t4_body (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev sZero := segZero (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev sFull := segFull (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev sMask := segMask (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4
abbrev sFlush := segFlush (F := F) i offM (Memref.isWhole_whole _) arg2 harg2 arg3 harg3 dwM (Memref.isWhole_whole _) arg5 harg5 arg6 harg6 arg7 harg7 arg8 harg8
  accM (Memref.isWhole_whole _) xtM (Memref.isWhole_whole _) xmM (Memref.isWhole_whole _) ywM (Memref.isWhole_whole _) cc0_scratch4

/-! ### The two quantising loops -/

theorem lt6 (k : Fin k0_t1_loop.trips) : k.val < 6 := Nat.lt_of_lt_of_le k.isLt k0_t1_abs.2.1
theorem lt12 (k : Fin k0_t2_loop.trips) : k.val < 12 := Nat.lt_of_lt_of_le k.isLt k0_t2_abs.2.1
theorem lt8 (k : Fin k0_t3_loop.trips) : k.val < 8 := Nat.lt_of_lt_of_le k.isLt k0_t3_abs.2.1
theorem lt6' (k : Fin k0_t4_loop.trips) : k.val < 6 := Nat.lt_of_lt_of_le k.isLt k0_t4_abs.2.1
theorem trips1 : k0_t1_loop.trips = 6 := by decide +kernel
theorem trips2 : k0_t2_loop.trips = 12 := by decide +kernel
theorem trips3 : k0_t3_loop.trips = 8 := by decide +kernel
theorem trips4 : k0_t4_loop.trips = 6 := by decide +kernel

/-- A counted loop by an invariant. -/
theorem loop_wp (L : Scf.Loop 32) (hok : L.OK) (body : Fin L.trips → PUnit → Prog (TpuEff nD τ sig (Elt F) Λ₀ .tc) PUnit)
    (I : ℕ → PUnit → sProp 𝕄) (hstep : ∀ k u, I k.val u ⊢ (wp Idealize.ShloMosaic.frame (wpE (defs₀ (F := F)) Variants.none (c : Thread nD τ) none) Set.univ) (body k u) (I (k.val + 1))) {P : sProp 𝕄} {Q : PUnit → sProp 𝕄}
    (hinit : P ⊢ I 0 ⟨⟩) (hdone : ∀ u, I L.trips u ⊢ Q u) : P ⊢ (wp Idealize.ShloMosaic.frame (wpE (defs₀ (F := F)) Variants.none (c : Thread nD τ) none) Set.univ) (Scf.Loop.for L hok ⟨⟩ body) Q := by
  refine hinit.trans ?_
  iintro H
  iapply (Scf.wp_for _ _ _ _ _ _ hok _ _ I hstep)
  isplitl [H]
  · iexact H
  · iintro %u H
    iapply (hdone u)
    iexact H

def trip2 (X : BufTy.Contents (Elt F) arg3.view.ty) (k : Fin k0_t2_loop.trips) :
    Σ' (L7 : List (View.Piece (Elt F) S512x3072 .fp8e5m2)) (L8 : List (View.Piece (Elt F) S16x3072 .f32)),
      { L12 : List (View.Piece (Elt F) S512x3072 .bf16) // ∀ (f7 : BufTy.Contents (Elt F) arg7.view.ty) (f8 : BufTy.Contents (Elt F) arg8.view.ty) (f12 : BufTy.Contents (Elt F) (ywM).view.ty),
      iprop(pt (F := F) c arg3 X ∗ pt c arg7 f7 ∗ pt c arg8 f8 ∗ pt c ywM f12)
      ⊢ wp frame (wpE (defs₀ (F := F)) Variants.none (c : Thread nD τ) none) Set.univ (body2 i arg2 harg2 arg3 harg3 arg5 harg5 arg6 harg6 arg7 harg7 arg8 harg8 k PUnit.unit)
          (fun _ => iprop(pt (F := F) c arg3 X ∗ pt c arg7 (arg7.view.writes (Elt F) f7 L7) ∗ pt c arg8 (arg8.view.writes (Elt F) f8 L8)
            ∗ pt c ywM ((ywM).view.writes (Elt F) f12 L12))) } := by
  have hk : k.val < 12 := Nat.lt_of_lt_of_le k.isLt k0_t2_abs.2.1
  refine ⟨?_, ?_, ?_, fun f_arg7 f_arg8 f_arg12 => ?run⟩
  case run =>
    unfold body2 k0_t2_body pt
    iintro ⟨HR_arg3, HW_arg7, HW_arg8, HW_arg12⟩
    sl_exec
    sl_step
    sl_close

section Loop1

/-- The blocks stored before trip `k` of the first loop. -/
def I1 (v : S512x1536.Idx → F .bf16) (k : ℕ) (_ : PUnit) : sProp 𝕄 :=
  iprop(∃ (X : BufTy.Contents (Elt F) arg2.view.ty) (f5 : BufTy.Contents (Elt F) arg5.view.ty) (f6 : BufTy.Contents (Elt F) arg6.view.ty) (f10 : BufTy.Contents (Elt F) (xtM).view.ty),
    ⌜arg2.view.read (Elt F) X = v ∧ (∀ y : S512x1536.Idx, (y 1).val < 256 * k → arg5.view.read (Elt F) f5 y = xcT v y)
      ∧ (∀ y : S16x1536.Idx, (y 1).val < 256 * k → arg6.view.read (Elt F) f6 y = xsT v y)
      ∧ (∀ y : S1536x512.Idx, (y 0).val < 256 * k → (xtM).view.read (Elt F) f10 y = xtT v y)⌝
    ∗ pt (F := F) c arg2 X ∗ pt c arg5 f5 ∗ pt c arg6 f6 ∗ pt c xtM f10)

theorem step1 (v : S512x1536.Idx → F .bf16) (k : Fin k0_t1_loop.trips) (u : PUnit) :
    I1 c arg2 arg5 arg6 v k.val u ⊢ (wp Idealize.ShloMosaic.frame (wpE (defs₀ (F := F)) Variants.none (c : Thread nD τ) none) Set.univ) (body1 i arg2 harg2 arg3 harg3 arg5 harg5 arg6 harg6 arg7 harg7 arg8 harg8 k u) (I1 c arg2 arg5 arg6 v (k.val + 1)) := by
  unfold I1
  iintro ⟨%X, %f5, %f6, %f10, %h, H⟩
  obtain ⟨hX, h5, h6, h10⟩ := h
  iapply (wp_wand_r _ _ _)
  isplitl [H]
  · iapply ((trip1 c i arg2 harg2 arg3 harg3 arg5 harg5 arg6 harg6 arg7 harg7 arg8 harg8 X k).2.2.2 f5 f6 f10)
    iexact H
  · iintro %_ H
    iexists X, _, _, _
    isplitr
    · ipureintro
      have hv : arg2.view.readAt (Elt F) (Rect.unit (s := S512x1536) (k0_off1 k) S512x256.size (k0_off1_inb k)).toLoadRect X
          = colBlk (n := 6) rfl v ⟨k.val, lt6 k⟩ := by
        rw [← hX]; exact readAt_cols rfl arg2.view X ⟨k.val, lt6 k⟩ _ (k0_off1_eq k)
      refine ⟨hX, fun y hy => ?_, fun y hy => ?_, fun y hy => ?_⟩
      · exact read_cols_succ (n := 6) rfl arg5.view f5 _ ⟨k.val, lt6 k⟩ [] (k0_off1_inb k) (k0_off1_eq k) _
          (by rw [← hv]) (fun y hy => h5 y hy) y hy
      · exact read_cols_succ (n := 6) rfl arg6.view f6 _ ⟨k.val, lt6 k⟩ [] (k0_off2_inb k) (k0_off2_eq k) _
          (by rw [← hv]) (fun y hy => h6 y hy) y hy
      · exact read_rows_succ (n := 6) rfl (xtM).view f10 _ ⟨k.val, lt6 k⟩ [] (k0_off3_inb k) (k0_off3_eq k) _
          (by rw [← hv]) (fun y hy => h10 y hy) y hy
    · iexact H

theorem I1_init (v : S512x1536.Idx → F .bf16) (u : PUnit) :
    iprop(ptv c arg2 v ∗ pta (F := F) c arg5 ∗ pta (F := F) c arg6 ∗ pta (F := F) c xtM) ⊢ I1 c arg2 arg5 arg6 v 0 u := by
  unfold I1 ptv pta
  iintro ⟨⟨%X, %hX, H2⟩, ⟨%f5, H5⟩, ⟨%f6, H6⟩, ⟨%f10, H10⟩⟩
  iexists X, f5, f6, f10
  isplitr
  · ipureintro
    exact ⟨hX, fun y hy => absurd hy (by omega), fun y hy => absurd hy (by omega), fun y hy => absurd hy (by omega)⟩
  · isplitl [H2]; · iexact H2
    isplitl [H5]; · iexact H5
    isplitl [H6]; · iexact H6
    iexact H10

theorem I1_done (v : S512x1536.Idx → F .bf16) (u : PUnit) :
    I1 c arg2 arg5 arg6 v k0_t1_loop.trips u ⊢ iprop(ptv c arg2 v ∗ ptv c arg5 (xcT v) ∗ ptv c arg6 (xsT v) ∗ ptv c xtM (xtT v)) := by
  rw [trips1]
  unfold I1 ptv
  iintro ⟨%X, %f5, %f6, %f10, %h, H2, H5, H6, H10⟩
  obtain ⟨hX, h5, h6, h10⟩ := h
  isplitl [H2]
  · iexists X; isplitr; · ipureintro; exact hX
    iexact H2
  isplitl [H5]
  · iexists f5; isplitr; · ipureintro; exact funext fun y => h5 y (y 1).isLt
    iexact H5
  isplitl [H6]
  · iexists f6; isplitr; · ipureintro; exact funext fun y => h6 y (y 1).isLt
    iexact H6
  · iexists f10; isplitr; · ipureintro; exact funext fun y => h10 y (y 0).isLt
    iexact H10

/-- The first loop quantises a tile of the left operand. -/
theorem loop1 (v : S512x1536.Idx → F .bf16) :
    iprop(ptv c arg2 v ∗ pta (F := F) c arg5 ∗ pta (F := F) c arg6 ∗ pta (F := F) c xtM)
      ⊢ (wp Idealize.ShloMosaic.frame (wpE (defs₀ (F := F)) Variants.none (c : Thread nD τ) none) Set.univ) (Scf.Loop.for k0_t1_loop k0_t1_ok ⟨⟩ (body1 i arg2 harg2 arg3 harg3 arg5 harg5 arg6 harg6 arg7 harg7 arg8 harg8))
          (fun _ => iprop(ptv c arg2 v ∗ ptv c arg5 (xcT v) ∗ ptv c arg6 (xsT v) ∗ ptv c xtM (xtT v))) :=
  loop_wp c k0_t1_loop k0_t1_ok _ (I1 c arg2 arg5 arg6 v) (step1 c i arg2 harg2 arg3 harg3 arg5 harg5 arg6 harg6 arg7 harg7 arg8 harg8 v)
    (I1_init c arg2 arg5 arg6 v ⟨⟩) (I1_done c arg2 arg5 arg6 v)

end Loop1

section Loop2

/-- The blocks stored before trip `k` of the second loop. -/
def I2 (v : S512x3072.Idx → F .bf16) (k : ℕ) (_ : PUnit) : sProp 𝕄 :=
  iprop(∃ (X : BufTy.Contents (Elt F) arg3.view.ty) (f5 : BufTy.Contents (Elt F) arg7.view.ty) (f6 : BufTy.Contents (Elt F) arg8.view.ty) (f10 : BufTy.Contents (Elt F) (ywM).view.ty),
    ⌜arg3.view.read (Elt F) X = v ∧ (∀ y : S512x3072.Idx, (y 1).val < 256 * k → arg7.view.read (Elt F) f5 y = ycT v y)
      ∧ (∀ y : S16x3072.Idx, (y 1).val < 256 * k → arg8.view.read (Elt F) f6 y = ysT v y)
      ∧ (∀ y : S512x3072.Idx, (y 1).val < 256 * k → (ywM).view.read (Elt F) f10 y = ywT v y)⌝
    ∗ pt (F := F) c arg3 X ∗ pt c arg7 f5 ∗ pt c arg8 f6 ∗ pt c ywM f10)

theorem step2 (v : S512x3072.Idx → F .bf16) (k : Fin k0_t2_loop.trips) (u : PUnit) :
    I2 c arg3 arg7 arg8 v k.val u ⊢ (wp Idealize.ShloMosaic.frame (wpE (defs₀ (F := F)) Variants.none (c : Thread nD τ) none) Set.univ) (body2 i arg2 harg2 arg3 harg3 arg5 harg5 arg6 harg6 arg7 harg7 arg8 harg8 k u) (I2 c arg3 arg7 arg8 v (k.val + 1)) := by
  unfold I2
  iintro ⟨%X, %f5, %f6, %f10, %h, H⟩
  obtain ⟨hX, h5, h6, h10⟩ := h
  iapply (wp_wand_r _ _ _)
  isplitl [H]
  · iapply ((trip2 c i arg2 harg2 arg3 harg3 arg5 harg5 arg6 harg6 arg7 harg7 arg8 harg8 X k).2.2.2 f5 f6 f10)
    iexact H
  · iintro %_ H
    iexists X, _, _, _
    isplitr
    · ipureintro
      have hv : arg3.view.readAt (Elt F) (Rect.unit (s := S512x3072) (k0_off4 k) S512x256.size (k0_off4_inb k)).toLoadRect X
          = colBlk (n := 12) rfl v ⟨k.val, lt12 k⟩ := by
        rw [← hX]; exact readAt_cols rfl arg3.view X ⟨k.val, lt12 k⟩ _ (k0_off4_eq k)
      refine ⟨hX, fun y hy => ?_, fun y hy => ?_, fun y hy => ?_⟩
      · exact read_cols_succ (n := 12) rfl arg7.view f5 _ ⟨k.val, lt12 k⟩ [] (k0_off4_inb k) (k0_off4_eq k) _
          (by rw [← hv]) (fun y hy => h5 y hy) y hy
      · exact read_cols_succ (n := 12) rfl arg8.view f6 _ ⟨k.val, lt12 k⟩ [] (k0_off5_inb k) (k0_off5_eq k) _
          (by rw [← hv]) (fun y hy => h6 y hy) y hy
      · exact read_cols_succ (n := 12) rfl (ywM).view f10 _ ⟨k.val, lt12 k⟩ [] (k0_off4_inb k) (k0_off4_eq k) _
          (by rw [← hv]) (fun y hy => h10 y hy) y hy
    · iexact H

theorem I2_init (v : S512x3072.Idx → F .bf16) (u : PUnit) :
    iprop(ptv c arg3 v ∗ pta (F := F) c arg7 ∗ pta (F := F) c arg8 ∗ pta (F := F) c ywM) ⊢ I2 c arg3 arg7 arg8 v 0 u := by
  unfold I2 ptv pta
  iintro ⟨⟨%X, %hX, H2⟩, ⟨%f5, H5⟩, ⟨%f6, H6⟩, ⟨%f10, H10⟩⟩
  iexists X, f5, f6, f10
  isplitr
  · ipureintro
    exact ⟨hX, fun y hy => absurd hy (by omega), fun y hy => absurd hy (by omega), fun y hy => absurd hy (by omega)⟩
  · isplitl [H2]; · iexact H2
    isplitl [H5]; · iexact H5
    isplitl [H6]; · iexact H6
    iexact H10

theorem I2_done (v : S512x3072.Idx → F .bf16) (u : PUnit) :
    I2 c arg3 arg7 arg8 v k0_t2_loop.trips u ⊢ iprop(ptv c arg3 v ∗ ptv c arg7 (ycT v) ∗ ptv c arg8 (ysT v) ∗ ptv c ywM (ywT v)) := by
  rw [trips2]
  unfold I2 ptv
  iintro ⟨%X, %f5, %f6, %f10, %h, H2, H5, H6, H10⟩
  obtain ⟨hX, h5, h6, h10⟩ := h
  isplitl [H2]
  · iexists X; isplitr; · ipureintro; exact hX
    iexact H2
  isplitl [H5]
  · iexists f5; isplitr; · ipureintro; exact funext fun y => h5 y (y 1).isLt
    iexact H5
  isplitl [H6]
  · iexists f6; isplitr; · ipureintro; exact funext fun y => h6 y (y 1).isLt
    iexact H6
  · iexists f10; isplitr; · ipureintro; exact funext fun y => h10 y (y 1).isLt
    iexact H10

/-- The second loop quantises a tile of the right operand. -/
theorem loop2 (v : S512x3072.Idx → F .bf16) :
    iprop(ptv c arg3 v ∗ pta (F := F) c arg7 ∗ pta (F := F) c arg8 ∗ pta (F := F) c ywM)
      ⊢ (wp Idealize.ShloMosaic.frame (wpE (defs₀ (F := F)) Variants.none (c : Thread nD τ) none) Set.univ) (Scf.Loop.for k0_t2_loop k0_t2_ok ⟨⟩ (body2 i arg2 harg2 arg3 harg3 arg5 harg5 arg6 harg6 arg7 harg7 arg8 harg8))
          (fun _ => iprop(ptv c arg3 v ∗ ptv c arg7 (ycT v) ∗ ptv c arg8 (ysT v) ∗ ptv c ywM (ywT v))) :=
  loop_wp c k0_t2_loop k0_t2_ok _ (I2 c arg3 arg7 arg8 v) (step2 c i arg2 harg2 arg3 harg3 arg5 harg5 arg6 harg6 arg7 harg7 arg8 harg8 v)
    (I2_init c arg3 arg7 arg8 v ⟨⟩) (I2_done c arg3 arg7 arg8 v)

end Loop2

end Cert.KernelIdeal.Hand
end
-- ==== Proof.KI.Body.lean ====
module

public import proofs.«01_k».proof.Proof.KI.Trips
public import proofs.«01_k».proof.Proof.KI.Runs
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Tiles

variable (c : Dev nD) (i : grid0.Coords)
  (arg2 : Memref sig .tc .vmem S512x1536 .bf16) (harg2 : arg2.IsWhole)
  (arg3 : Memref sig .tc .vmem S512x3072 .bf16) (harg3 : arg3.IsWhole)
  (arg5 : Memref sig .tc .vmem S512x1536 .fp8e4m3) (harg5 : arg5.IsWhole)
  (arg6 : Memref sig .tc .vmem S16x1536 .f32) (harg6 : arg6.IsWhole)
  (arg7 : Memref sig .tc .vmem S512x3072 .fp8e5m2) (harg7 : arg7.IsWhole)
  (arg8 : Memref sig .tc .vmem S16x3072 .f32) (harg8 : arg8.IsWhole)

/-! ### Adding a tile's product -/

/-- One block of columns of the accumulator after its product was added. -/
theorem acc_blk {xM : Memref sig .tc .vmem S1536x512 .bf16} (a : BufTy.Contents (Elt F) (accM).view.ty) (x : BufTy.Contents (Elt F) xM.view.ty)
    (w : BufTy.Contents (Elt F) (ywM).view.ty) (j : Fin 12) {off : Fin 2 → ℕ} (hoff : off = ![0, 256 * j.val])
    (iA : ∀ t, off t + S1536x256.size t ≤ S1536x3072.size t) (iX : ∀ t, (![0, 0] : Fin 2 → ℕ) t + S1536x512.size t ≤ S1536x512.size t)
    (iW : ∀ t, off t + S512x256.size t ≤ S512x3072.size t) :
    k0_pay8 (F := F) ((accM).view.readAt (Elt F) (Rect.unit (s := S1536x3072) off S1536x256.size iA).toLoadRect a)
      (xM.view.readAt (Elt F) (Rect.unit (s := S1536x512) ![0, 0] S1536x512.size iX).toLoadRect x)
      ((ywM).view.readAt (Elt F) (Rect.unit (s := S512x3072) off S512x256.size iW).toLoadRect w)
    = k0_pay8 (F := F) (colBlk (n := 12) rfl ((accM).view.read (Elt F) a) j) (xM.view.read (Elt F) x) (colBlk (n := 12) rfl ((ywM).view.read (Elt F) w) j) := by
  rw [readAt_cols (n := 12) rfl (accM).view a j iA hoff, readAt_cols (n := 12) rfl (ywM).view w j iW hoff]
  exact congrArg (fun z => k0_pay8 (F := F) _ z _) (View.readAt_full xM.view x iX)

/-- The twelve stores that add a product to the accumulator, the last one first. -/
def accL {xM : Memref sig .tc .vmem S1536x512 .bf16} (a : BufTy.Contents (Elt F) (accM).view.ty) (x : BufTy.Contents (Elt F) xM.view.ty)
    (w : BufTy.Contents (Elt F) (ywM).view.ty) : List (View.Piece (Elt F) S1536x3072 .f32) :=
  [⟨Rect.unit (s := S1536x3072) ![0, 2816] S1536x256.size inb_S1536x3072_S1536x256_0_2816,
    k0_pay8 (F := F) ((accM).view.readAt (Elt F) (Rect.unit (s := S1536x3072) ![0, 2816] S1536x256.size inb_S1536x3072_S1536x256_0_2816).toLoadRect a)
      (xM.view.readAt (Elt F) (Rect.unit (s := S1536x512) ![0, 0] S1536x512.size inb_S1536x512_S1536x512_0_0).toLoadRect x)
      ((ywM).view.readAt (Elt F) (Rect.unit (s := S512x3072) ![0, 2816] S512x256.size inb_S512x3072_S512x256_0_2816).toLoadRect w)⟩, ⟨Rect.unit (s := S1536x3072) ![0, 2560] S1536x256.size inb_S1536x3072_S1536x256_0_2560,
    k0_pay8 (F := F) ((accM).view.readAt (Elt F) (Rect.unit (s := S1536x3072) ![0, 2560] S1536x256.size inb_S1536x3072_S1536x256_0_2560).toLoadRect a)
      (xM.view.readAt (Elt F) (Rect.unit (s := S1536x512) ![0, 0] S1536x512.size inb_S1536x512_S1536x512_0_0).toLoadRect x)
      ((ywM).view.readAt (Elt F) (Rect.unit (s := S512x3072) ![0, 2560] S512x256.size inb_S512x3072_S512x256_0_2560).toLoadRect w)⟩, ⟨Rect.unit (s := S1536x3072) ![0, 2304] S1536x256.size inb_S1536x3072_S1536x256_0_2304,
    k0_pay8 (F := F) ((accM).view.readAt (Elt F) (Rect.unit (s := S1536x3072) ![0, 2304] S1536x256.size inb_S1536x3072_S1536x256_0_2304).toLoadRect a)
      (xM.view.readAt (Elt F) (Rect.unit (s := S1536x512) ![0, 0] S1536x512.size inb_S1536x512_S1536x512_0_0).toLoadRect x)
      ((ywM).view.readAt (Elt F) (Rect.unit (s := S512x3072) ![0, 2304] S512x256.size inb_S512x3072_S512x256_0_2304).toLoadRect w)⟩, ⟨Rect.unit (s := S1536x3072) ![0, 2048] S1536x256.size inb_S1536x3072_S1536x256_0_2048,
    k0_pay8 (F := F) ((accM).view.readAt (Elt F) (Rect.unit (s := S1536x3072) ![0, 2048] S1536x256.size inb_S1536x3072_S1536x256_0_2048).toLoadRect a)
      (xM.view.readAt (Elt F) (Rect.unit (s := S1536x512) ![0, 0] S1536x512.size inb_S1536x512_S1536x512_0_0).toLoadRect x)
      ((ywM).view.readAt (Elt F) (Rect.unit (s := S512x3072) ![0, 2048] S512x256.size inb_S512x3072_S512x256_0_2048).toLoadRect w)⟩, ⟨Rect.unit (s := S1536x3072) ![0, 1792] S1536x256.size inb_S1536x3072_S1536x256_0_1792,
    k0_pay8 (F := F) ((accM).view.readAt (Elt F) (Rect.unit (s := S1536x3072) ![0, 1792] S1536x256.size inb_S1536x3072_S1536x256_0_1792).toLoadRect a)
      (xM.view.readAt (Elt F) (Rect.unit (s := S1536x512) ![0, 0] S1536x512.size inb_S1536x512_S1536x512_0_0).toLoadRect x)
      ((ywM).view.readAt (Elt F) (Rect.unit (s := S512x3072) ![0, 1792] S512x256.size inb_S512x3072_S512x256_0_1792).toLoadRect w)⟩, ⟨Rect.unit (s := S1536x3072) ![0, 1536] S1536x256.size inb_S1536x3072_S1536x256_0_1536,
    k0_pay8 (F := F) ((accM).view.readAt (Elt F) (Rect.unit (s := S1536x3072) ![0, 1536] S1536x256.size inb_S1536x3072_S1536x256_0_1536).toLoadRect a)
      (xM.view.readAt (Elt F) (Rect.unit (s := S1536x512) ![0, 0] S1536x512.size inb_S1536x512_S1536x512_0_0).toLoadRect x)
      ((ywM).view.readAt (Elt F) (Rect.unit (s := S512x3072) ![0, 1536] S512x256.size inb_S512x3072_S512x256_0_1536).toLoadRect w)⟩, ⟨Rect.unit (s := S1536x3072) ![0, 1280] S1536x256.size inb_S1536x3072_S1536x256_0_1280,
    k0_pay8 (F := F) ((accM).view.readAt (Elt F) (Rect.unit (s := S1536x3072) ![0, 1280] S1536x256.size inb_S1536x3072_S1536x256_0_1280).toLoadRect a)
      (xM.view.readAt (Elt F) (Rect.unit (s := S1536x512) ![0, 0] S1536x512.size inb_S1536x512_S1536x512_0_0).toLoadRect x)
      ((ywM).view.readAt (Elt F) (Rect.unit (s := S512x3072) ![0, 1280] S512x256.size inb_S512x3072_S512x256_0_1280).toLoadRect w)⟩, ⟨Rect.unit (s := S1536x3072) ![0, 1024] S1536x256.size inb_S1536x3072_S1536x256_0_1024,
    k0_pay8 (F := F) ((accM).view.readAt (Elt F) (Rect.unit (s := S1536x3072) ![0, 1024] S1536x256.size inb_S1536x3072_S1536x256_0_1024).toLoadRect a)
      (xM.view.readAt (Elt F) (Rect.unit (s := S1536x512) ![0, 0] S1536x512.size inb_S1536x512_S1536x512_0_0).toLoadRect x)
      ((ywM).view.readAt (Elt F) (Rect.unit (s := S512x3072) ![0, 1024] S512x256.size inb_S512x3072_S512x256_0_1024).toLoadRect w)⟩, ⟨Rect.unit (s := S1536x3072) ![0, 768] S1536x256.size inb_S1536x3072_S1536x256_0_768,
    k0_pay8 (F := F) ((accM).view.readAt (Elt F) (Rect.unit (s := S1536x3072) ![0, 768] S1536x256.size inb_S1536x3072_S1536x256_0_768).toLoadRect a)
      (xM.view.readAt (Elt F) (Rect.unit (s := S1536x512) ![0, 0] S1536x512.size inb_S1536x512_S1536x512_0_0).toLoadRect x)
      ((ywM).view.readAt (Elt F) (Rect.unit (s := S512x3072) ![0, 768] S512x256.size inb_S512x3072_S512x256_0_768).toLoadRect w)⟩, ⟨Rect.unit (s := S1536x3072) ![0, 512] S1536x256.size inb_S1536x3072_S1536x256_0_512,
    k0_pay8 (F := F) ((accM).view.readAt (Elt F) (Rect.unit (s := S1536x3072) ![0, 512] S1536x256.size inb_S1536x3072_S1536x256_0_512).toLoadRect a)
      (xM.view.readAt (Elt F) (Rect.unit (s := S1536x512) ![0, 0] S1536x512.size inb_S1536x512_S1536x512_0_0).toLoadRect x)
      ((ywM).view.readAt (Elt F) (Rect.unit (s := S512x3072) ![0, 512] S512x256.size inb_S512x3072_S512x256_0_512).toLoadRect w)⟩, ⟨Rect.unit (s := S1536x3072) ![0, 256] S1536x256.size inb_S1536x3072_S1536x256_0_256,
    k0_pay8 (F := F) ((accM).view.readAt (Elt F) (Rect.unit (s := S1536x3072) ![0, 256] S1536x256.size inb_S1536x3072_S1536x256_0_256).toLoadRect a)
      (xM.view.readAt (Elt F) (Rect.unit (s := S1536x512) ![0, 0] S1536x512.size inb_S1536x512_S1536x512_0_0).toLoadRect x)
      ((ywM).view.readAt (Elt F) (Rect.unit (s := S512x3072) ![0, 256] S512x256.size inb_S512x3072_S512x256_0_256).toLoadRect w)⟩, ⟨Rect.unit (s := S1536x3072) ![0, 0] S1536x256.size inb_S1536x3072_S1536x256_0_0,
    k0_pay8 (F := F) ((accM).view.readAt (Elt F) (Rect.unit (s := S1536x3072) ![0, 0] S1536x256.size inb_S1536x3072_S1536x256_0_0).toLoadRect a)
      (xM.view.readAt (Elt F) (Rect.unit (s := S1536x512) ![0, 0] S1536x512.size inb_S1536x512_S1536x512_0_0).toLoadRect x)
      ((ywM).view.readAt (Elt F) (Rect.unit (s := S512x3072) ![0, 0] S512x256.size inb_S512x3072_S512x256_0_0).toLoadRect w)⟩]

set_option maxHeartbeats 1000000 in
theorem read_accL {xM : Memref sig .tc .vmem S1536x512 .bf16} (a : BufTy.Contents (Elt F) (accM).view.ty) (x : BufTy.Contents (Elt F) xM.view.ty)
    (w : BufTy.Contents (Elt F) (ywM).view.ty) :
    (accM).view.read (Elt F) ((accM).view.writes (Elt F) a (accL a x w))
      = accT ((accM).view.read (Elt F) a) (xM.view.read (Elt F) x) ((ywM).view.read (Elt F) w) := by
  funext y
  unfold accL accT
  refine read_cols_succ (n := 12) rfl (accM).view a _ (11 : Fin 12) _ inb_S1536x3072_S1536x256_0_2816 rfl _
    (acc_blk a x w (11 : Fin 12) rfl inb_S1536x3072_S1536x256_0_2816 inb_S1536x512_S1536x512_0_0 inb_S512x3072_S512x256_0_2816) ?_ y ((y 1).isLt)
  clear y; intro y hy11
  refine read_cols_succ (n := 12) rfl (accM).view a _ (10 : Fin 12) _ inb_S1536x3072_S1536x256_0_2560 rfl _
    (acc_blk a x w (10 : Fin 12) rfl inb_S1536x3072_S1536x256_0_2560 inb_S1536x512_S1536x512_0_0 inb_S512x3072_S512x256_0_2560) ?_ y (hy11)
  clear y hy11; intro y hy10
  refine read_cols_succ (n := 12) rfl (accM).view a _ (9 : Fin 12) _ inb_S1536x3072_S1536x256_0_2304 rfl _
    (acc_blk a x w (9 : Fin 12) rfl inb_S1536x3072_S1536x256_0_2304 inb_S1536x512_S1536x512_0_0 inb_S512x3072_S512x256_0_2304) ?_ y (hy10)
  clear y hy10; intro y hy9
  refine read_cols_succ (n := 12) rfl (accM).view a _ (8 : Fin 12) _ inb_S1536x3072_S1536x256_0_2048 rfl _
    (acc_blk a x w (8 : Fin 12) rfl inb_S1536x3072_S1536x256_0_2048 inb_S1536x512_S1536x512_0_0 inb_S512x3072_S512x256_0_2048) ?_ y (hy9)
  clear y hy9; intro y hy8
  refine read_cols_succ (n := 12) rfl (accM).view a _ (7 : Fin 12) _ inb_S1536x3072_S1536x256_0_1792 rfl _
    (acc_blk a x w (7 : Fin 12) rfl inb_S1536x3072_S1536x256_0_1792 inb_S1536x512_S1536x512_0_0 inb_S512x3072_S512x256_0_1792) ?_ y (hy8)
  clear y hy8; intro y hy7
  refine read_cols_succ (n := 12) rfl (accM).view a _ (6 : Fin 12) _ inb_S1536x3072_S1536x256_0_1536 rfl _
    (acc_blk a x w (6 : Fin 12) rfl inb_S1536x3072_S1536x256_0_1536 inb_S1536x512_S1536x512_0_0 inb_S512x3072_S512x256_0_1536) ?_ y (hy7)
  clear y hy7; intro y hy6
  refine read_cols_succ (n := 12) rfl (accM).view a _ (5 : Fin 12) _ inb_S1536x3072_S1536x256_0_1280 rfl _
    (acc_blk a x w (5 : Fin 12) rfl inb_S1536x3072_S1536x256_0_1280 inb_S1536x512_S1536x512_0_0 inb_S512x3072_S512x256_0_1280) ?_ y (hy6)
  clear y hy6; intro y hy5
  refine read_cols_succ (n := 12) rfl (accM).view a _ (4 : Fin 12) _ inb_S1536x3072_S1536x256_0_1024 rfl _
    (acc_blk a x w (4 : Fin 12) rfl inb_S1536x3072_S1536x256_0_1024 inb_S1536x512_S1536x512_0_0 inb_S512x3072_S512x256_0_1024) ?_ y (hy5)
  clear y hy5; intro y hy4
  refine read_cols_succ (n := 12) rfl (accM).view a _ (3 : Fin 12) _ inb_S1536x3072_S1536x256_0_768 rfl _
    (acc_blk a x w (3 : Fin 12) rfl inb_S1536x3072_S1536x256_0_768 inb_S1536x512_S1536x512_0_0 inb_S512x3072_S512x256_0_768) ?_ y (hy4)
  clear y hy4; intro y hy3
  refine read_cols_succ (n := 12) rfl (accM).view a _ (2 : Fin 12) _ inb_S1536x3072_S1536x256_0_512 rfl _
    (acc_blk a x w (2 : Fin 12) rfl inb_S1536x3072_S1536x256_0_512 inb_S1536x512_S1536x512_0_0 inb_S512x3072_S512x256_0_512) ?_ y (hy3)
  clear y hy3; intro y hy2
  refine read_cols_succ (n := 12) rfl (accM).view a _ (1 : Fin 12) _ inb_S1536x3072_S1536x256_0_256 rfl _
    (acc_blk a x w (1 : Fin 12) rfl inb_S1536x3072_S1536x256_0_256 inb_S1536x512_S1536x512_0_0 inb_S512x3072_S512x256_0_256) ?_ y (hy2)
  clear y hy2; intro y hy1
  refine read_cols_succ (n := 12) rfl (accM).view a _ (0 : Fin 12) _ inb_S1536x3072_S1536x256_0_0 rfl _
    (acc_blk a x w (0 : Fin 12) rfl inb_S1536x3072_S1536x256_0_0 inb_S1536x512_S1536x512_0_0 inb_S512x3072_S512x256_0_0) ?_ y (hy1)
  clear y hy1; intro y hy0
  exact absurd hy0 (by simp)

set_option maxHeartbeats 1000000 in
theorem full9 (x : BufTy.Contents (Elt F) (xtM).view.ty) (w : BufTy.Contents (Elt F) (ywM).view.ty) (a : BufTy.Contents (Elt F) (accM).view.ty) :
    iprop(pt (F := F) c accM a ∗ pt (F := F) c xtM x ∗ pt (F := F) c ywM w)
      ⊢ (wp Idealize.ShloMosaic.frame (wpE (defs₀ (F := F)) Variants.none (c : Thread nD τ) none) Set.univ) (sFull i arg2 harg2 arg3 harg3 arg5 harg5 arg6 harg6 arg7 harg7 arg8 harg8)
          (fun _ => iprop(pt (F := F) c accM ((accM).view.writes (Elt F) a (accL (xM := xtM) a x w)) ∗ pt (F := F) c xtM x ∗ pt (F := F) c ywM w)) := by
  unfold sFull segFull pt
  iintro ⟨HW_a, HR_x, HR_w⟩
  sl_exec
  sl_step
  sl_close

/-! ### The masked product -/

/-- What the mask loop stored before trip `k`. -/
def I4 (v0 v6 v9 : BitVec 32) (v : S1536x512.Idx → F .bf16) (k : ℕ) (_ : PUnit) : sProp 𝕄 :=
  iprop(∃ (X : BufTy.Contents (Elt F) (xtM).view.ty) (f : BufTy.Contents (Elt F) (xmM).view.ty),
    ⌜(xtM).view.read (Elt F) X = v ∧ (∀ y : S1536x512.Idx, (y 0).val < 256 * k → (xmM).view.read (Elt F) f y = maskT v0 v6 v9 v y)⌝
    ∗ pt (F := F) c xtM X ∗ pt c xmM f)

theorem trip4 (v0 v6 v9 : BitVec 32) (X : BufTy.Contents (Elt F) (xtM).view.ty) (f : BufTy.Contents (Elt F) (xmM).view.ty) (k : Fin k0_t4_loop.trips) :
    iprop(pt (F := F) c xtM X ∗ pt c xmM f)
      ⊢ (wp Idealize.ShloMosaic.frame (wpE (defs₀ (F := F)) Variants.none (c : Thread nD τ) none) Set.univ) (body4 i arg2 harg2 arg3 harg3 arg5 harg5 arg6 harg6 arg7 harg7 arg8 harg8 v0 v6 v9 k PUnit.unit)
          (fun _ => iprop(pt (F := F) c xtM X ∗ pt c xmM ((xmM).view.writes (Elt F) f
            [⟨Rect.unit (s := S1536x512) (k0_off8 k) S256x512.size (k0_off8_inb k),
              k0_pay42 v0 v6 v9 ((xtM).view.readAt (Elt F) (Rect.unit (s := S1536x512) (k0_off8 k) S256x512.size (k0_off8_inb k)).toLoadRect X)⟩]))) := by
  have hk := lt6' k
  unfold body4 k0_t4_body pt
  iintro ⟨HR_x, HW_m⟩
  sl_exec
  sl_step
  sl_close

theorem step4 (v0 v6 v9 : BitVec 32) (v : S1536x512.Idx → F .bf16) (k : Fin k0_t4_loop.trips) (u : PUnit) :
    I4 c v0 v6 v9 v k.val u ⊢ (wp Idealize.ShloMosaic.frame (wpE (defs₀ (F := F)) Variants.none (c : Thread nD τ) none) Set.univ) (body4 i arg2 harg2 arg3 harg3 arg5 harg5 arg6 harg6 arg7 harg7 arg8 harg8 v0 v6 v9 k u) (I4 c v0 v6 v9 v (k.val + 1)) := by
  unfold I4
  iintro ⟨%X, %f, %h, H⟩
  obtain ⟨hX, h10⟩ := h
  iapply (wp_wand_r _ _ _)
  isplitl [H]
  · iapply (trip4 c i arg2 harg2 arg3 harg3 arg5 harg5 arg6 harg6 arg7 harg7 arg8 harg8 v0 v6 v9 X f k)
    iexact H
  · iintro %_ H
    iexists X, _
    isplitr
    · ipureintro
      have hv : (xtM).view.readAt (Elt F) (Rect.unit (s := S1536x512) (k0_off8 k) S256x512.size (k0_off8_inb k)).toLoadRect X
          = rowBlk (n := 6) rfl v ⟨k.val, lt6' k⟩ := by
        rw [← hX]; exact readAt_rows rfl (xtM).view X ⟨k.val, lt6' k⟩ _ (k0_off8_eq k)
      refine ⟨hX, fun y hy => ?_⟩
      exact read_rows_succ (n := 6) rfl (xmM).view f _ ⟨k.val, lt6' k⟩ [] (k0_off8_inb k) (k0_off8_eq k) _
          (by rw [← hv])
          (fun y hy => h10 y hy) y hy
    · iexact H

theorem I4_init (v0 v6 v9 : BitVec 32) (v : S1536x512.Idx → F .bf16) (u : PUnit) :
    iprop(ptv c xtM v ∗ pta (F := F) c xmM) ⊢ I4 c v0 v6 v9 v 0 u := by
  unfold I4 ptv pta
  iintro ⟨⟨%X, %hX, H2⟩, ⟨%f5, H5⟩⟩
  iexists X, f5
  isplitr
  · ipureintro
    exact ⟨hX, fun y hy => absurd hy (by omega)⟩
  · isplitl [H2]; · iexact H2
    iexact H5

theorem I4_done (v0 v6 v9 : BitVec 32) (v : S1536x512.Idx → F .bf16) (u : PUnit) :
    I4 c v0 v6 v9 v k0_t4_loop.trips u ⊢ iprop(ptv c xtM v ∗ ptv c xmM (maskT v0 v6 v9 v)) := by
  rw [trips4]
  unfold I4 ptv
  iintro ⟨%X, %f10, %h, H2, H10⟩
  obtain ⟨hX, h10⟩ := h
  isplitl [H2]
  · iexists X; isplitr; · ipureintro; exact hX
    iexact H2
  · iexists f10; isplitr; · ipureintro; exact funext fun y => h10 y (y 0).isLt
    iexact H10

theorem loop4 (v0 v6 v9 : BitVec 32) (v : S1536x512.Idx → F .bf16) :
    iprop(ptv c xtM v ∗ pta (F := F) c xmM)
      ⊢ (wp Idealize.ShloMosaic.frame (wpE (defs₀ (F := F)) Variants.none (c : Thread nD τ) none) Set.univ) (Scf.Loop.for k0_t4_loop k0_t4_ok ⟨⟩ (body4 i arg2 harg2 arg3 harg3 arg5 harg5 arg6 harg6 arg7 harg7 arg8 harg8 v0 v6 v9))
          (fun _ => iprop(ptv c xtM v ∗ ptv c xmM (maskT v0 v6 v9 v))) :=
  loop_wp c k0_t4_loop k0_t4_ok _ (I4 c v0 v6 v9 v) (step4 c i arg2 harg2 arg3 harg3 arg5 harg5 arg6 harg6 arg7 harg7 arg8 harg8 v0 v6 v9 v)
    (I4_init c v0 v6 v9 v ⟨⟩) (I4_done c v0 v6 v9 v)

set_option maxHeartbeats 1000000 in
theorem mask9 (v0 v6 v9 : BitVec 32) (v : S1536x512.Idx → F .bf16) (w : BufTy.Contents (Elt F) (ywM).view.ty) (a : BufTy.Contents (Elt F) (accM).view.ty) :
    iprop(pt (F := F) c accM a ∗ ptv c xtM v ∗ pta (F := F) c xmM ∗ pt (F := F) c ywM w)
      ⊢ (wp Idealize.ShloMosaic.frame (wpE (defs₀ (F := F)) Variants.none (c : Thread nD τ) none) Set.univ) (sMask i arg2 harg2 arg3 harg3 arg5 harg5 arg6 harg6 arg7 harg7 arg8 harg8 v0 v6 v9)
          (fun _ => iprop(∃ (x : BufTy.Contents (Elt F) (xmM).view.ty) (X : BufTy.Contents (Elt F) (xtM).view.ty),
            ⌜(xmM).view.read (Elt F) x = maskT v0 v6 v9 v ∧ (xtM).view.read (Elt F) X = v⌝ ∗
            pt (F := F) c accM ((accM).view.writes (Elt F) a (accL (xM := xmM) a x w)) ∗ pt (F := F) c xtM X ∗ pt (F := F) c xmM x ∗ pt (F := F) c ywM w)) := by
  unfold sMask segMask pt ptv pta
  have hl := loop4 c i arg2 harg2 arg3 harg3 arg5 harg5 arg6 harg6 arg7 harg7 arg8 harg8 v0 v6 v9 v
  unfold ptv pta pt at hl
  rw [k0_part8_eq_skeleton]
  unfold k0_part8_skel
  rw [bind_assoc]
  rw [wp_bind]
  iintro ⟨HW_a, Hx, Hm, HR_w⟩
  iapply (wp_wand_r _ _ _)
  isplitl [Hx Hm]
  · iapply hl
    isplitl [Hx]; · iexact Hx
    iexact Hm
  · iintro %_ ⟨⟨%X, %hX, Hx⟩, ⟨%x, %hx, HR_m⟩⟩
    sl_exec
    sl_step
    iexists x, X
    isplitr
    · ipureintro; exact ⟨hx, hX⟩
    sl_close

/-! ### One expert's turn -/

variable (q : PosShare TreeShare)

/-- What the loop over the experts holds: the table, the accumulator, a tile's values, the stored result, and the
    transfer's semaphore at rest. -/
def St (T : S9.Idx → BitVec 32) (s : (S1536x3072.Idx → F .f32) × (S8x1536x3072.Idx → F .f32))
    (x : S1536x512.Idx → F .bf16) (w : S512x3072.Idx → F .bf16) : sProp 𝕄 :=
  iprop(((offM).view.loc (c : Thread nD τ) ↦[(offM).view.set]{q} (T : BufTy.Contents (Elt F) (offM).view.ty))
    ∗ ptv c accM s.1 ∗ ptv c xtM x ∗ pta (F := F) c xmM ∗ ptv c ywM w ∗ ptv c dwM s.2
    ∗ semVal ((c : Thread nD τ), SemLoc.dma 12) 0 ∗ ∃ W : Waits sig Unit, owes (c : Thread nD τ) 0 W)

/-- A store of the whole accumulator. -/
theorem read_whole_store (a : BufTy.Contents (Elt F) (accM).view.ty) (z : FVec F S1536x3072 .f32)
    (inb : ∀ t, (![0, 0] : Fin 2 → ℕ) t + S1536x3072.size t ≤ S1536x3072.size t) :
    (accM).view.read (Elt F) ((accM).view.writes (Elt F) a [⟨Rect.unit (s := S1536x3072) ![0, 0] S1536x3072.size inb, z⟩]) = z := by
  funext y
  refine View.read_writes_cons_unit_of_mem (accM).view a inb z [] y y rfl (Fin.forall_fin_two.mpr ⟨?_, ?_⟩)
  · show (y 0).val = 0 + (y 0).val; omega
  · show (y 1).val = 0 + (y 1).val; omega

/-- The entry of the table a trip reads. -/
theorem read_entry (T : S9.Idx → BitVec 32) (n : ℕ) (hn : n < 9) {off : Fin 1 → ℕ} (hoff : off = ![n])
    (inb : ∀ t, off t + S1.size t ≤ S9.size t) (x : S1.Idx) :
    (offM).view.readAt (Elt F) (Rect.unit (s := S9) off S1.size inb).toLoadRect (T : BufTy.Contents (Elt F) (offM).view.ty) x
      = T (ix1 (n0 := 9) ⟨n, hn⟩) := by
  subst hoff
  refine congrArg T (funext fun t => Fin.ext ?_)
  match t with
  | ⟨0, _⟩ =>
    have hx : (x 0).val < 1 := (x 0).isLt
    show n + 1 * (x 0).val = n; omega

/-- A copy of the accumulator to expert `k`'s place. -/
theorem read_put (n : ℕ) {off : Fin 3 → ℕ} (ho : off = ![n, 0, 0]) (d : BufTy.Contents (Elt F) (dwM).view.ty) (a : S1536x3072.Idx → Elt F .f32)
    (hs : ∀ t, off t + S1x1536x3072.size t ≤ S8x1536x3072.size t) (h1 : ∀ t, (Rect.unit (s := S8x1536x3072) off S1x1536x3072.size hs).stride t = 1) :
    (dwM).view.read (Elt F) (View.write (Elt F) (((dwM).slice (Rect.unit (s := S8x1536x3072) off S1x1536x3072.size hs) h1).squeeze S1536x3072
        squeezes_S1x1536x3072_S1536x3072).view d a Finset.univ) = putE n a ((dwM).view.read (Elt F) d) := by
  subst ho
  have emb : ∀ (x : S1536x3072.Idx) (t : Fin 3), ((((((dwM).slice (Rect.unit (s := S8x1536x3072) ![n, 0, 0] S1x1536x3072.size hs) h1).squeeze S1536x3072
        squeezes_S1x1536x3072_S1536x3072).view.emb x) : S8x1536x3072.Idx) t).val = (![n, 0, 0] : Fin 3 → ℕ) t + ((Fin.cons ⟨0, Nat.one_pos⟩ x : S1x1536x3072.Idx) t).val := by
    intro x t
    have hr := Shape.reshapeEquiv_cons_one (d := ![1536, 3072]) (squeezes_S1x1536x3072_S1536x3072).numel_eq x
    show (![n, 0, 0] : Fin 3 → ℕ) t + 1 * ((Shape.reshapeEquiv (squeezes_S1x1536x3072_S1536x3072).numel_eq x : S1x1536x3072.Idx) t).val = _
    rw [Nat.one_mul]
    exact congrArg (fun z : S1x1536x3072.Idx => (![n, 0, 0] : Fin 3 → ℕ) t + (z t).val) hr
  funext y
  unfold putE
  by_cases hy : (y 0).val = n
  · rw [if_pos hy]
    let x : S1536x3072.Idx := ix2 (n0 := 1536) (n1 := 3072) (y 1) (y 2)
    have e : (((dwM).slice (Rect.unit (s := S8x1536x3072) ![n, 0, 0] S1x1536x3072.size hs) h1).squeeze S1536x3072
        squeezes_S1x1536x3072_S1536x3072).view.emb x = y := funext fun t => Fin.ext (by
      refine (emb x t).trans ?_
      match t with
      | ⟨0, _⟩ => exact hy.symm
      | ⟨1, _⟩ => show 0 + (y 1).val = (y 1).val; omega
      | ⟨2, _⟩ => show 0 + (y 2).val = (y 2).val; omega)
    have := View.write_emb_of_mem (Val := Elt F) (v := (((dwM).slice (Rect.unit (s := S8x1536x3072) ![n, 0, 0] S1x1536x3072.size hs) h1).squeeze S1536x3072
        squeezes_S1x1536x3072_S1536x3072).view) d a (Finset.mem_univ x)
    rw [e] at this
    exact this
  · rw [if_neg hy]
    refine View.write_of_not_mem (Val := Elt F) (v := (((dwM).slice (Rect.unit (s := S8x1536x3072) ![n, 0, 0] S1x1536x3072.size hs) h1).squeeze S1536x3072
        squeezes_S1x1536x3072_S1536x3072).view) d a Finset.univ (fun hm => hy ?_)
    obtain ⟨x, -, hx⟩ := Finset.mem_map.mp hm
    have e := emb x 0
    rw [hx] at e
    exact e

theorem smem6 (T : S9.Idx → BitVec 32) (k : Fin k0_t3_loop.trips) (s : (S1536x3072.Idx → F .f32) × (S8x1536x3072.Idx → F .f32))
    (x : S1536x512.Idx → F .bf16) (w : S512x3072.Idx → F .bf16) :
    St c q T s x w ⊢ (wp Idealize.ShloMosaic.frame (wpE (defs₀ (F := F)) Variants.none (c : Thread nD τ) none) Set.univ) (smemLoad offM (Rect.unit (s := S9) (k0_off6 k) S1.size (k0_off6_inb k)) numel1_S1 rfl)
      (fun v => iprop(⌜v = T (ix1 (n0 := 9) ⟨k.val, by have := lt8 k; omega⟩)⌝ ∗ St c q T s x w)) := by
  unfold St
  iintro ⟨HT, R⟩
  sl_exec
  sl_step
  isplitr
  · ipureintro; exact read_entry T k.val _ (k0_off6_eq k) _ _
  · isplitl [HT]; · iexact HT
    iexact R

theorem smem7 (T : S9.Idx → BitVec 32) (k : Fin k0_t3_loop.trips) (s : (S1536x3072.Idx → F .f32) × (S8x1536x3072.Idx → F .f32))
    (x : S1536x512.Idx → F .bf16) (w : S512x3072.Idx → F .bf16) :
    St c q T s x w ⊢ (wp Idealize.ShloMosaic.frame (wpE (defs₀ (F := F)) Variants.none (c : Thread nD τ) none) Set.univ) (smemLoad offM (Rect.unit (s := S9) (k0_off7 k) S1.size (k0_off7_inb k)) numel1_S1 rfl)
      (fun v => iprop(⌜v = T (ix1 (n0 := 9) ⟨k.val + 1, by have := lt8 k; omega⟩)⌝ ∗ St c q T s x w)) := by
  unfold St
  iintro ⟨HT, R⟩
  sl_exec
  sl_step
  isplitr
  · ipureintro; exact read_entry T (k.val + 1) _ (k0_off7_eq k) _ _
  · isplitl [HT]; · iexact HT
    iexact R

theorem seg_zero (T : S9.Idx → BitVec 32) (s : (S1536x3072.Idx → F .f32) × (S8x1536x3072.Idx → F .f32))
    (x : S1536x512.Idx → F .bf16) (w : S512x3072.Idx → F .bf16) (p : Prop) [Decidable p] :
    St c q T s x w ⊢ (wp Idealize.ShloMosaic.frame (wpE (defs₀ (F := F)) Variants.none (c : Thread nD τ) none) Set.univ) (if p then sZero i arg2 harg2 arg3 harg3 arg5 harg5 arg6 harg6 arg7 harg7 arg8 harg8 else pure ⟨⟩)
      (fun _ => St c q T (if p then k0_pay7 (F := F) else s.1, s.2) x w) := by
  split
  · unfold St ptv sZero segZero pt
    iintro ⟨HT, ⟨%a, %ha, HW_a⟩, R⟩
    sl_exec
    sl_step
    isplitl [HT]; · iexact HT
    isplitr [R]
    · iexists _
      isplitr
      swap
      · iexact HW_a
      · ipureintro
        exact read_whole_store a _ _
    · iexact R
  · iintro H; sl_step; iexact H

theorem seg_full (T : S9.Idx → BitVec 32) (s : (S1536x3072.Idx → F .f32) × (S8x1536x3072.Idx → F .f32))
    (x : S1536x512.Idx → F .bf16) (w : S512x3072.Idx → F .bf16) (p : Prop) [Decidable p] :
    St c q T s x w ⊢ (wp Idealize.ShloMosaic.frame (wpE (defs₀ (F := F)) Variants.none (c : Thread nD τ) none) Set.univ) (if p then sFull i arg2 harg2 arg3 harg3 arg5 harg5 arg6 harg6 arg7 harg7 arg8 harg8 else pure ⟨⟩)
      (fun _ => St c q T (if p then accT s.1 x w else s.1, s.2) x w) := by
  split
  · unfold St ptv
    iintro ⟨HT, ⟨%a, %ha, Ha⟩, ⟨%X, %hX, Hx⟩, Hm, ⟨%W, %hW, Hw⟩, R⟩
    iapply (wp_wand_r _ _ _)
    isplitl [Ha Hx Hw]
    · iapply (full9 c i arg2 harg2 arg3 harg3 arg5 harg5 arg6 harg6 arg7 harg7 arg8 harg8 X W a)
      isplitl [Ha]; · iexact Ha
      isplitl [Hx]; · iexact Hx
      iexact Hw
    · iintro %_ ⟨Ha, Hx, Hw⟩
      isplitl [HT]; · iexact HT
      isplitl [Ha]
      · iexists _; isplitr
        swap
        · iexact Ha
        · ipureintro; rw [← ha, ← hX, ← hW]; exact read_accL a X W
      isplitl [Hx]
      · iexists X; isplitr; · ipureintro; exact hX
        iexact Hx
      isplitl [Hm]; · iexact Hm
      isplitl [Hw]
      · iexists W; isplitr; · ipureintro; exact hW
        iexact Hw
      iexact R
  · iintro H; sl_step; iexact H

theorem seg_mask (T : S9.Idx → BitVec 32) (s : (S1536x3072.Idx → F .f32) × (S8x1536x3072.Idx → F .f32))
    (x : S1536x512.Idx → F .bf16) (w : S512x3072.Idx → F .bf16) (v0 v6 v9 : BitVec 32) (p : Prop) [Decidable p] :
    St c q T s x w ⊢ (wp Idealize.ShloMosaic.frame (wpE (defs₀ (F := F)) Variants.none (c : Thread nD τ) none) Set.univ) (if p then sMask i arg2 harg2 arg3 harg3 arg5 harg5 arg6 harg6 arg7 harg7 arg8 harg8 v0 v6 v9 else pure ⟨⟩)
      (fun _ => St c q T (if p then accT s.1 (maskT v0 v6 v9 x) w else s.1, s.2) x w) := by
  split
  · unfold St ptv
    iintro ⟨HT, ⟨%a, %ha, Ha⟩, ⟨%X, %hX, Hx⟩, Hm, ⟨%W, %hW, Hw⟩, R⟩
    iapply (wp_wand_r _ _ _)
    isplitl [Ha Hx Hm Hw]
    · iapply (mask9 c i arg2 harg2 arg3 harg3 arg5 harg5 arg6 harg6 arg7 harg7 arg8 harg8 v0 v6 v9 x W a)
      isplitl [Ha]; · iexact Ha
      isplitl [Hx]
      · unfold ptv; iexists X; isplitr; · ipureintro; exact hX
        iexact Hx
      isplitl [Hm]; · iexact Hm
      iexact Hw
    · iintro %_ ⟨%m, %X, %h, Ha, Hx, Hm, Hw⟩
      obtain ⟨hm, hX⟩ := h
      isplitl [HT]; · iexact HT
      isplitl [Ha]
      · iexists _; isplitr
        swap
        · iexact Ha
        · ipureintro; rw [← ha, ← hm, ← hW]; exact read_accL a m W
      isplitl [Hx]
      · iexists X; isplitr; · ipureintro; exact hX
        iexact Hx
      isplitl [Hm]
      · unfold pta; iexists m; iexact Hm
      isplitl [Hw]
      · iexists W; isplitr; · ipureintro; exact hW
        iexact Hw
      iexact R
  · iintro H; sl_step; iexact H

theorem flush9 (k : Fin k0_t3_loop.trips) (W : Waits sig Unit) (a : BufTy.Contents (Elt F) (accM).view.ty) (d : BufTy.Contents (Elt F) (dwM).view.ty) :
    iprop(pt (F := F) c accM a ∗ pt (F := F) c dwM d ∗ semVal ((c : Thread nD τ), SemLoc.dma 12) 0 ∗ owes (c : Thread nD τ) 0 W)
      ⊢ (wp Idealize.ShloMosaic.frame (wpE (defs₀ (F := F)) Variants.none (c : Thread nD τ) none) Set.univ) (sFlush i arg2 harg2 arg3 harg3 arg5 harg5 arg6 harg6 arg7 harg7 arg8 harg8 k) (fun _ => iprop(pt (F := F) c accM a ∗
        (∃ d', ⌜(dwM).view.read (Elt F) d' = putE k.val ((accM).view.read (Elt F) a) ((dwM).view.read (Elt F) d)⌝ ∗ pt (F := F) c dwM d')
          ∗ semVal ((c : Thread nD τ), SemLoc.dma 12) 0 ∗ ∃ W', owes (c : Thread nD τ) 0 W')) := by
  unfold sFlush segFlush pt
  iintro ⟨HR_a, HW_d, HS, HO⟩
  sl_exec
  sl_unfold_run_names
  sl_step
  isplitl [HR_a]; · iexact HR_a
  isplitl [HW_d]
  · iexists _
    isplitr
    swap
    · iexact HW_d
    · ipureintro
      exact read_put k.val (k0_off9_eq k) d _ _ _
  · isplitl [HS]; · iexact HS
    iexists _; iexact HO

theorem seg_flush (k : Fin k0_t3_loop.trips) (T : S9.Idx → BitVec 32) (s : (S1536x3072.Idx → F .f32) × (S8x1536x3072.Idx → F .f32))
    (x : S1536x512.Idx → F .bf16) (w : S512x3072.Idx → F .bf16) (p : Prop) [Decidable p] :
    St c q T s x w ⊢ (wp Idealize.ShloMosaic.frame (wpE (defs₀ (F := F)) Variants.none (c : Thread nD τ) none) Set.univ) (if p then sFlush i arg2 harg2 arg3 harg3 arg5 harg5 arg6 harg6 arg7 harg7 arg8 harg8 k else pure ⟨⟩)
      (fun _ => St c q T (s.1, if p then putE k.val s.1 s.2 else s.2) x w) := by
  split
  · unfold St ptv
    iintro ⟨HT, ⟨%a, %ha, Ha⟩, Hx, Hm, Hw, ⟨%d, %hd, Hd⟩, HS, ⟨%W, HO⟩⟩
    iapply (wp_wand_r _ _ _)
    isplitl [Ha Hd HS HO]
    · iapply (flush9 c i arg2 harg2 arg3 harg3 arg5 harg5 arg6 harg6 arg7 harg7 arg8 harg8 k W a d)
      isplitl [Ha]; · iexact Ha
      isplitl [Hd]; · iexact Hd
      isplitl [HS]; · iexact HS
      iexact HO
    · iintro %_ ⟨Ha, ⟨%d', %hd', Hd⟩, HS, HO⟩
      isplitl [HT]; · iexact HT
      isplitl [Ha]
      · iexists a; isplitr; · ipureintro; exact ha
        iexact Ha
      isplitl [Hx]; · iexact Hx
      isplitl [Hm]; · iexact Hm
      isplitl [Hw]; · iexact Hw
      isplitl [Hd]
      · iexists d'; isplitr; · ipureintro; rw [hd', ha, hd]
        iexact Hd
      isplitl [HS]; · iexact HS
      iexact HO
  · iintro H; sl_step; iexact H

/-- One expert's turn. -/
theorem trip3 (v0 : BitVec 32) (v1 : BitVec 1) (T : S9.Idx → BitVec 32) (k : Fin k0_t3_loop.trips) (s : (S1536x3072.Idx → F .f32) × (S8x1536x3072.Idx → F .f32))
    (x : S1536x512.Idx → F .bf16) (w : S512x3072.Idx → F .bf16) (u : PUnit) :
    St c q T s x w ⊢ (wp Idealize.ShloMosaic.frame (wpE (defs₀ (F := F)) Variants.none (c : Thread nD τ) none) Set.univ) (body3 i arg2 harg2 arg3 harg3 arg5 harg5 arg6 harg6 arg7 harg7 arg8 harg8 v0 v1 k u)
      (fun _ => St c q T (stepE v0 v1 k.val (T (ix1 (n0 := 9) ⟨k.val, by have := lt8 k; omega⟩)) (T (ix1 (n0 := 9) ⟨k.val + 1, by have := lt8 k; omega⟩)) x w s) x w) := by
  unfold body3
  rw [t3_body_eq, wp_bind]
  refine (smem6 c q T k s x w).trans (wp_mono _ _ _ fun v6 => ?_)
  iintro ⟨%h6, H⟩
  subst h6
  rw [wp_bind]
  iapply ((smem7 c q T k s x w).trans (wp_mono _ _ _ fun v9 => ?_))
  · iintro ⟨%h9, H⟩
    subst h9
    rw [wp_bind]
    iapply ((seg_zero c i arg2 harg2 arg3 harg3 arg5 harg5 arg6 harg6 arg7 harg7 arg8 harg8 q T s x w _).trans (wp_mono _ _ _ fun _ => ?_))
    · rw [wp_bind]
      refine (seg_full c i arg2 harg2 arg3 harg3 arg5 harg5 arg6 harg6 arg7 harg7 arg8 harg8 q T _ x w _).trans (wp_mono _ _ _ fun _ => ?_)
      rw [wp_bind]
      refine (seg_mask c i arg2 harg2 arg3 harg3 arg5 harg5 arg6 harg6 arg7 harg7 arg8 harg8 q T _ x w _ _ _ _).trans (wp_mono _ _ _ fun _ => ?_)
      exact seg_flush c i arg2 harg2 arg3 harg3 arg5 harg5 arg6 harg6 arg7 harg7 arg8 harg8 q k T _ x w _
    · iexact H
  · iexact H

end Cert.KernelIdeal.Hand
end
-- ==== Proof.KI.Whole.lean ====
module

public import proofs.«01_k».proof.Proof.KI.Trips
public import proofs.«01_k».proof.Proof.KI.Body
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Tiles

variable (c : Dev nD) (i : grid0.Coords)
  (arg2 : Memref sig .tc .vmem S512x1536 .bf16) (harg2 : arg2.IsWhole)
  (arg3 : Memref sig .tc .vmem S512x3072 .bf16) (harg3 : arg3.IsWhole)
  (arg5 : Memref sig .tc .vmem S512x1536 .fp8e4m3) (harg5 : arg5.IsWhole)
  (arg6 : Memref sig .tc .vmem S16x1536 .f32) (harg6 : arg6.IsWhole)
  (arg7 : Memref sig .tc .vmem S512x3072 .fp8e5m2) (harg7 : arg7.IsWhole)
  (arg8 : Memref sig .tc .vmem S16x3072 .f32) (harg8 : arg8.IsWhole)

/-- Entry `n` of the table of offsets. -/
def ent (T : S9.Idx → BitVec 32) (n : ℕ) : BitVec 32 := if h : n < 9 then T (ix1 (n0 := 9) ⟨n, h⟩) else 0

/-- The first row of tile `t`, and whether it is the last tile. -/
def row0 (t : ℕ) : BitVec 32 := Scalar.muli (BitVec.ofNat 32 t) 512#32
def last0 (t : ℕ) : BitVec 1 := Scalar.cmpi .eq (BitVec.ofNat 32 t) 95#32

/-- The first `n` experts' turns in tile `t`. -/
def turns (t : ℕ) (T : S9.Idx → BitVec 32) (x : S1536x512.Idx → F .bf16) (w : S512x3072.Idx → F .bf16)
    (s : (S1536x3072.Idx → F .f32) × (S8x1536x3072.Idx → F .f32)) : ℕ → (S1536x3072.Idx → F .f32) × (S8x1536x3072.Idx → F .f32)
  | 0 => s
  | n + 1 => stepE (row0 t) (last0 t) n (ent T n) (ent T (n + 1)) x w (turns t T x w s n)

theorem step3 (t : ℕ) (q : PosShare TreeShare) (T : S9.Idx → BitVec 32) (s : (S1536x3072.Idx → F .f32) × (S8x1536x3072.Idx → F .f32))
    (x : S1536x512.Idx → F .bf16) (w : S512x3072.Idx → F .bf16) (k : Fin k0_t3_loop.trips) (u : PUnit) :
    St c q T (turns t T x w s k.val) x w ⊢ (wp Idealize.ShloMosaic.frame (wpE (defs₀ (F := F)) Variants.none (c : Thread nD τ) none) Set.univ) (body3 i arg2 harg2 arg3 harg3 arg5 harg5 arg6 harg6 arg7 harg7 arg8 harg8 (row0 t) (last0 t) k u)
      (fun _ => St c q T (turns t T x w s (k.val + 1)) x w) := by
  have h := trip3 c i arg2 harg2 arg3 harg3 arg5 harg5 arg6 harg6 arg7 harg7 arg8 harg8 q (row0 t) (last0 t) T k (turns t T x w s k.val) x w u
  have e0 : ent T k.val = T (ix1 (n0 := 9) ⟨k.val, by have := lt8 k; omega⟩) := dif_pos _
  have e1 : ent T (k.val + 1) = T (ix1 (n0 := 9) ⟨k.val + 1, by have := lt8 k; omega⟩) := dif_pos _
  rw [← e0, ← e1] at h
  exact h

theorem loop3 (t : ℕ) (q : PosShare TreeShare) (T : S9.Idx → BitVec 32) (s : (S1536x3072.Idx → F .f32) × (S8x1536x3072.Idx → F .f32))
    (x : S1536x512.Idx → F .bf16) (w : S512x3072.Idx → F .bf16) :
    St c q T s x w ⊢ (wp Idealize.ShloMosaic.frame (wpE (defs₀ (F := F)) Variants.none (c : Thread nD τ) none) Set.univ) (Scf.Loop.for k0_t3_loop k0_t3_ok ⟨⟩ (body3 i arg2 harg2 arg3 harg3 arg5 harg5 arg6 harg6 arg7 harg7 arg8 harg8 (row0 t) (last0 t)))
      (fun _ => St c q T (turns t T x w s 8) x w) :=
  loop_wp c k0_t3_loop k0_t3_ok _ (fun n _ => St c q T (turns t T x w s n) x w) (step3 c i arg2 harg2 arg3 harg3 arg5 harg5 arg6 harg6 arg7 harg7 arg8 harg8 t q T s x w)
    (BIBase.Entails.of_eq rfl) (fun _ => BIBase.Entails.of_eq (by rw [show k0_t3_loop.trips = 8 from trips3]))

/-- One grid point's whole body, on its blocks of the two inputs. -/
theorem body_wp (q : PosShare TreeShare) (T : S9.Idx → BitVec 32) (s : (S1536x3072.Idx → F .f32) × (S8x1536x3072.Idx → F .f32))
    (x : S512x1536.Idx → F .bf16) (w : S512x3072.Idx → F .bf16) :
    iprop((ptv c arg2 x ∗ pta (F := F) c arg5 ∗ pta (F := F) c arg6 ∗ pta (F := F) c xtM)
        ∗ (ptv c arg3 w ∗ pta (F := F) c arg7 ∗ pta (F := F) c arg8 ∗ pta (F := F) c ywM)
        ∗ ((offM).view.loc (c : Thread nD τ) ↦[(offM).view.set]{q} (T : BufTy.Contents (Elt F) (offM).view.ty))
        ∗ ptv c accM s.1 ∗ pta (F := F) c xmM ∗ ptv c dwM s.2
        ∗ semVal ((c : Thread nD τ), SemLoc.dma 12) 0 ∗ ∃ W : Waits sig Unit, owes (c : Thread nD τ) 0 W)
      ⊢ (wp Idealize.ShloMosaic.frame (wpE (defs₀ (F := F)) Variants.none (c : Thread nD τ) none) Set.univ) (cc0_grouped_wgrad (F := F) i offM (Memref.isWhole_whole _) arg2 harg2 arg3 harg3 dwM (Memref.isWhole_whole _) arg5 harg5 arg6 harg6 arg7 harg7 arg8 harg8
          accM (Memref.isWhole_whole _) xtM (Memref.isWhole_whole _) xmM (Memref.isWhole_whole _) ywM (Memref.isWhole_whole _) cc0_scratch4)
        (fun _ => iprop((ptv c arg2 x ∗ ptv c arg5 (xcT x) ∗ ptv c arg6 (xsT x)) ∗ (ptv c arg3 w ∗ ptv c arg7 (ycT w) ∗ ptv c arg8 (ysT w))
          ∗ St c q T (turns (i 0).val T (xtT x) (ywT w) s 8) (xtT x) (ywT w))) := by
  rw [cc0_grouped_wgrad_eq_skeleton]
  unfold cc0_grouped_wgrad_skel
  iintro ⟨H1, H2, R⟩
  rw [wp_bind]
  iapply (wp_wand_r _ _ _)
  isplitl [H1]
  · iapply (loop1 c i arg2 harg2 arg3 harg3 arg5 harg5 arg6 harg6 arg7 harg7 arg8 harg8 x); iexact H1
  · iintro %_ ⟨Hx, Hc, Hs, Ht⟩
    rw [wp_bind]
    iapply (wp_wand_r _ _ _)
    isplitl [H2]
    · iapply (loop2 c i arg2 harg2 arg3 harg3 arg5 harg5 arg6 harg6 arg7 harg7 arg8 harg8 w); iexact H2
    · iintro %_ ⟨Hy, Hc2, Hs2, Hw⟩
      rw [wp_bind]
      iapply (wp_wand_r _ _ _)
      isplitl [R Ht Hw]
      · iapply (loop3 c i arg2 harg2 arg3 harg3 arg5 harg5 arg6 harg6 arg7 harg7 arg8 harg8 (i 0).val q T s (xtT x) (ywT w))
        unfold St
        icases R with ⟨HT, Ha, Hm, Hd, HS, HO⟩
        isplitl [HT]; · iexact HT
        isplitl [Ha]; · iexact Ha
        isplitl [Ht]; · iexact Ht
        isplitl [Hm]; · iexact Hm
        isplitl [Hw]; · iexact Hw
        isplitl [Hd]; · iexact Hd
        isplitl [HS]; · iexact HS
        iexact HO
      · iintro %_ R
        sl_step
        isplitl [Hx Hc Hs]
        · isplitl [Hx]; · iexact Hx
          isplitl [Hc]; · iexact Hc
          iexact Hs
        isplitl [Hy Hc2 Hs2]
        · isplitl [Hy]; · iexact Hy
          isplitl [Hc2]; · iexact Hc2
          iexact Hs2
        iexact R

end Cert.KernelIdeal.Hand
end
-- ==== Proof.KI.Frame.lean ====
module

public import proofs.«01_k».proof.Proof.KI.Trips
public import proofs.«01_k».proof.Proof.KI.Whole
public import proofs.«01_k».proof.Proof.Gen.KernelIdeal.Launch
public import Idealize.ShloMosaic.Lib.Pipeline.FrameValue
public import Idealize.ShloMosaic.Lib.Pipeline.TalkSched
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Tiles
open Idealize.ShloMosaic.Pipeline (Dat BodyObligation OwnSemFacts ownSems0 ownSems0_eq_of_list)

variable (m : (ℓ : Loc nD τ sig) → Buf (Elt F) ℓ) (ρ : Dev nD → PrngReg)

/-! ## The run up to the kernel -/

/-- The host operations before the kernel: the table of offsets. -/
abbrev hostOps : List (List (HloOp τ sig (Elt F))) := [hostOps0, hostOps0_1, hostOps0_2]

/-- What each buffer holds when the kernel starts. -/
def V (c : Dev nD) (b : Ref sig .tc) : Buf (Elt F) ((c : Thread nD τ).loc b) :=
  StableHlo.after (hostOps (F := F)).flatten (fun b => m (c, b)) b

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main hostOps ⟨hostOps0_sub, hostOps0_1_sub, hostOps0_2_sub⟩
    ⟨⟨rfl, rfl⟩, ⟨rfl, rfl, rfl⟩, rfl⟩ (fun c => main_chain c)

theorem V_arg (c : Dev nD) (b : Ref sig .tc) (hb : b = main_arg0 ∨ b = main_arg1 ∨ b = main_arg2 ∨ b = main_v3_0) : V m c b = m ((c : Thread nD τ).loc b) := by
  unfold V
  rcases hb with rfl | rfl | rfl | rfl <;> simp only [hostOps, List.flatten, hostOps0, hostOps0_1, hostOps0_2, List.append, List.cons_append, List.nil_append] <;> rfl

/-- The table of offsets as the kernel finds it. -/
def T (c : Dev nD) : S9.Idx → BitVec 32 := V m c main_v2
def tbl : pre0.Contents (Elt F) := fun | ⟨0, _⟩ => V m 0 main_v2 | ⟨_ + 1, h⟩ => absurd h (Nat.not_lt.2 (Nat.le_add_left _ _))
abbrev adm : (p : Fin 1) → (pcfgs (F := F) p).Adm := fun _ => ⟨tbl m, trivial⟩
abbrev cfgM : Pipeline.Cfg sig Λ₀ := cfg0 (adm m 0)

/-! ## The blocks -/

/-- The `n`-th block of rows of each of the two inputs. -/
def xAt (c : Dev nD) (n : ℕ) : S512x1536.Idx → F .bf16 := fun r =>
  (V m c main_arg0 : S49152x1536.Idx → F .bf16) (ix2 (n0 := 49152) (n1 := 1536) ⟨(512 * n + (r 0).val) % 49152, Nat.mod_lt _ (by decide)⟩ (r 1))
def yAt (c : Dev nD) (n : ℕ) : S512x3072.Idx → F .bf16 := fun r =>
  (V m c main_arg1 : S49152x3072.Idx → F .bf16) (ix2 (n0 := 49152) (n1 := 3072) ⟨(512 * n + (r 0).val) % 49152, Nat.mod_lt _ (by decide)⟩ (r 1))

/-- The accumulator and the stored result after the first `n` tiles. -/
def tiles (c : Dev nD) (s : (S1536x3072.Idx → F .f32) × (S8x1536x3072.Idx → F .f32)) : ℕ → (S1536x3072.Idx → F .f32) × (S8x1536x3072.Idx → F .f32)
  | 0 => s
  | n + 1 => turns n (T m c) (xtT (xAt m c n)) (ywT (yAt m c n)) (tiles c s n) 8

/-- What the kernel holds of its own before tile `n`. -/
def PhiS (c : Dev nD) (n : ℕ) : sProp 𝕄 :=
  iprop(((offM).view.loc (c : Thread nD τ) ↦[(offM).view.set]{fullShare.right} (T m c : BufTy.Contents (Elt F) (offM).view.ty))
    ∗ (∃ a, ptv c accM (tiles m c (a, V m c main_v3_0) n).1 ∗ ptv c dwM (tiles m c (a, V m c main_v3_0) n).2)
    ∗ pta (F := F) c xtM ∗ pta (F := F) c xmM ∗ pta (F := F) c ywM ∗ semVal ((c : Thread nD τ), SemLoc.dma 12) 0 ∗ ∃ r, prngReg c r)

def dats (_ : Fin 1) (c : Dev nD) : Dat τ (Elt F) Unit ℕ (Pipeline.UD sig nD τ) ℕ (cfgM m) c where
  A w := V m c (Pipeline.arrRef spec0 w)
  after w t := match w with
    | ⟨0, _⟩ => xAt m c t.val
    | ⟨1, _⟩ => yAt m c t.val
    | ⟨2, _⟩ => xcT (xAt m c t.val)
    | ⟨3, _⟩ => xsT (xAt m c t.val)
    | ⟨4, _⟩ => ycT (yAt m c t.val)
    | ⟨5, _⟩ => ysT (yAt m c t.val)
    | ⟨_ + 6, h⟩ => absurd h (Nat.not_lt.2 (Nat.le_add_left _ _))
  Φ t := PhiS m c t.val
  q _ := fullShare
  owed _ := 0

theorem A_eq (c : Dev nD) (w : Fin (cfgM m).W) : (dats m 0 c).A w = V m c (Pipeline.arrRef spec0 w) := by dsimp only [dats]
theorem after0 (c : Dev nD) (t : Fin (cfgM m).N) : (dats m 0 c).after 0 t = xAt m c t.val := by dsimp only [dats]; rfl
theorem after1 (c : Dev nD) (t : Fin (cfgM m).N) : (dats m 0 c).after 1 t = yAt m c t.val := by dsimp only [dats]; rfl
theorem after2 (c : Dev nD) (t : Fin (cfgM m).N) : (dats m 0 c).after 2 t = xcT (xAt m c t.val) := by dsimp only [dats]; rfl
theorem after3 (c : Dev nD) (t : Fin (cfgM m).N) : (dats m 0 c).after 3 t = xsT (xAt m c t.val) := by dsimp only [dats]; rfl
theorem after4 (c : Dev nD) (t : Fin (cfgM m).N) : (dats m 0 c).after 4 t = ycT (yAt m c t.val) := by dsimp only [dats]; rfl
theorem after5 (c : Dev nD) (t : Fin (cfgM m).N) : (dats m 0 c).after 5 t = ysT (yAt m c t.val) := by dsimp only [dats]; rfl

theorem coord (t : Fin grid0.N) : (grid0.coords t 0).val = t.val :=
  (by decide +kernel : ∀ t : Fin grid0.N, (grid0.coords t 0).val = t.val) t

theorem lt96 (t : Fin grid0.N) : t.val < 96 := lt_of_lt_of_eq t.isLt N_0

theorem idx0 (t : Fin grid0.N) : (BitVec.ofNat 32 (grid0.coords t 0).val).toNat = t.val := by
  rw [coord, BitVec.toNat_ofNat, Nat.mod_eq_of_lt (lt_trans (lt96 t) (by decide))]

theorem fetch_all (w : Fin (cfgM m).W) (h0 : ((cfgM m).win w).isOut = false) (a : Fin ((cfgM m).win w).shape.rank)
    (h : ∀ t, ((cfgM m).win w).index t a = t.val) (t : Fin (cfgM m).N) : ((cfgM m).win w).fetch t = true := by
  unfold Pipeline.Window.fetch
  rw [h0, Bool.not_false, Bool.true_and, Bool.or_eq_true, decide_eq_true_iff, decide_eq_true_iff]
  by_cases ht : t.val = 0
  · exact Or.inl ht
  · refine Or.inr ⟨Nat.pos_of_ne_zero ht, fun e => ?_⟩
    have := congrFun e a
    rw [h, h] at this
    dsimp only at this
    omega

theorem index0 (t : Fin (cfgM m).N) : ((cfgM m).win 0).index t = ![t.val, 0] := by
  show ![(BitVec.ofNat 32 (grid0.coords t 0).val).toNat, (0#32).toNat] = _
  rw [idx0]; rfl
theorem index1 (t : Fin (cfgM m).N) : ((cfgM m).win 1).index t = ![t.val, 0] := by
  show ![(BitVec.ofNat 32 (grid0.coords t 0).val).toNat, (0#32).toNat] = _
  rw [idx0]; rfl

theorem before0 (c : Dev nD) (t : Fin (cfgM m).N) (d) : (dats m 0 c).before 0 t d = xAt m c t.val := by
  rw [Dat.before_fetched _ 0 t (fetch_all m 0 rfl (0 : Fin 2) (fun t => by rw [index0]; rfl) t) d]
  unfold Dat.fetched Dat.blockOf
  rw [A_eq]
  refine funext fun (r : S512x1536.Idx) => congrArg (V m c main_arg0 : S49152x1536.Idx → F .bf16) (funext fun (a : Fin 2) => Fin.ext ?_)
  have ht := lt96 t
  match a with
  | ⟨0, _⟩ =>
    have hr : (r 0).val < 512 := (r 0).isLt
    show (BitVec.ofNat 32 (grid0.coords t 0).val).toNat * 512 + 1 * (r 0).val = (512 * t.val + (r 0).val) % 49152
    rw [idx0, Nat.mod_eq_of_lt (by omega)]; omega
  | ⟨1, _⟩ =>
    show (0#32).toNat * 1536 + 1 * (r 1).val = (r 1).val
    rw [show (0#32).toNat = 0 from rfl]; omega

theorem before1 (c : Dev nD) (t : Fin (cfgM m).N) (d) : (dats m 0 c).before 1 t d = yAt m c t.val := by
  rw [Dat.before_fetched _ 1 t (fetch_all m 1 rfl (0 : Fin 2) (fun t => by rw [index1]; rfl) t) d]
  unfold Dat.fetched Dat.blockOf
  rw [A_eq]
  refine funext fun (r : S512x3072.Idx) => congrArg (V m c main_arg1 : S49152x3072.Idx → F .bf16) (funext fun (a : Fin 2) => Fin.ext ?_)
  have ht := lt96 t
  match a with
  | ⟨0, _⟩ =>
    have hr : (r 0).val < 512 := (r 0).isLt
    show (BitVec.ofNat 32 (grid0.coords t 0).val).toNat * 512 + 1 * (r 0).val = (512 * t.val + (r 0).val) % 49152
    rw [idx0, Nat.mod_eq_of_lt (by omega)]; omega
  | ⟨1, _⟩ =>
    show (0#32).toNat * 3072 + 1 * (r 1).val = (r 1).val
    rw [show (0#32).toNat = 0 from rfl]; omega

/-! ## One tile -/

abbrev ms0 (t : Fin (cfgM m).N) : Memref sig .tc .vmem S512x1536 .bf16 := spec0_0.stage ((cfgM m).slots t 0)
abbrev ms1 (t : Fin (cfgM m).N) : Memref sig .tc .vmem S512x3072 .bf16 := spec0_1.stage ((cfgM m).slots t 1)
abbrev ms2 (t : Fin (cfgM m).N) : Memref sig .tc .vmem S512x1536 .fp8e4m3 := spec0_2.stage ((cfgM m).slots t 2)
abbrev ms3 (t : Fin (cfgM m).N) : Memref sig .tc .vmem S16x1536 .f32 := spec0_3.stage ((cfgM m).slots t 3)
abbrev ms4 (t : Fin (cfgM m).N) : Memref sig .tc .vmem S512x3072 .fp8e5m2 := spec0_4.stage ((cfgM m).slots t 4)
abbrev ms5 (t : Fin (cfgM m).N) : Memref sig .tc .vmem S16x3072 .f32 := spec0_5.stage ((cfgM m).slots t 5)

abbrev bodyAt (t : Fin (cfgM m).N) : Prog (TpuEff nD τ sig (Elt F) Λ₀ .tc) PUnit :=
  cc0_grouped_wgrad (F := F) (grid0.coords t) offM (Memref.isWhole_whole _) (ms0 m t) (hstage0_0 (((cfgM m).slots t 0).cast nbuf0_0))
    (ms1 m t) (hstage0_1 (((cfgM m).slots t 1).cast nbuf0_1)) dwM (Memref.isWhole_whole _)
    (ms2 m t) (hstage0_2 (((cfgM m).slots t 2).cast nbuf0_2)) (ms3 m t) (hstage0_3 (((cfgM m).slots t 3).cast nbuf0_3))
    (ms4 m t) (hstage0_4 (((cfgM m).slots t 4).cast nbuf0_4)) (ms5 m t) (hstage0_5 (((cfgM m).slots t 5).cast nbuf0_5))
    accM (Memref.isWhole_whole _) xtM (Memref.isWhole_whole _) xmM (Memref.isWhole_whole _) ywM (Memref.isWhole_whole _) cc0_scratch4

/-- A tile's body, from what the kernel holds before it to what it holds after it. -/
theorem tile_wp (c : Dev nD) (t : Fin (cfgM m).N) :
    iprop(PhiS m c t.val ∗ (∃ W : Waits sig Unit, owes (c : Thread nD τ) 0 W)
        ∗ ptv c (ms0 m t) (xAt m c t.val) ∗ ptv c (ms1 m t) (yAt m c t.val)
        ∗ pta (F := F) c (ms2 m t) ∗ pta (F := F) c (ms3 m t) ∗ pta (F := F) c (ms4 m t) ∗ pta (F := F) c (ms5 m t))
      ⊢ wp Idealize.ShloMosaic.frame (wpE (defs₀ (F := F)) Variants.none (c : Thread nD τ) none) Set.univ (bodyAt m t)
        (fun _ => iprop(PhiS m c (t.val + 1) ∗ (∃ W : Waits sig Unit, owes (c : Thread nD τ) 0 W)
          ∗ ptv c (ms0 m t) (xAt m c t.val) ∗ ptv c (ms1 m t) (yAt m c t.val)
          ∗ ptv c (ms2 m t) (xcT (xAt m c t.val)) ∗ ptv c (ms3 m t) (xsT (xAt m c t.val))
          ∗ ptv c (ms4 m t) (ycT (yAt m c t.val)) ∗ ptv c (ms5 m t) (ysT (yAt m c t.val)))) := by
  unfold PhiS
  iintro ⟨⟨HT, ⟨%a, Ha, Hd⟩, Hx, Hm, Hw, HS, Hg⟩, HO, H0, H1, H2, H3, H4, H5⟩
  iapply (wp_wand_r _ _ _)
  isplitl [HT Ha Hd Hx Hm Hw HS HO H0 H1 H2 H3 H4 H5]
  · iapply (body_wp c (grid0.coords t) (ms0 m t) _ (ms1 m t) _ (ms2 m t) _ (ms3 m t) _ (ms4 m t) _ (ms5 m t) _ fullShare.right (T m c)
      (tiles m c (a, V m c main_v3_0) t.val) (xAt m c t.val) (yAt m c t.val))
    isplitl [H0 H2 H3 Hx]
    · isplitl [H0]; · iexact H0
      isplitl [H2]; · iexact H2
      isplitl [H3]; · iexact H3
      iexact Hx
    isplitl [H1 H4 H5 Hw]
    · isplitl [H1]; · iexact H1
      isplitl [H4]; · iexact H4
      isplitl [H5]; · iexact H5
      iexact Hw
    isplitl [HT]; · iexact HT
    isplitl [Ha]; · iexact Ha
    isplitl [Hm]; · iexact Hm
    isplitl [Hd]; · iexact Hd
    isplitl [HS]; · iexact HS
    iexact HO
  · unfold St
    iintro %_ ⟨⟨H0, H2, H3⟩, ⟨H1, H4, H5⟩, HT, Ha, Hx, Hm, Hw, Hd, HS, HO⟩
    rw [coord]
    isplitl [HT Ha Hd Hx Hm Hw HS Hg]
    · isplitl [HT]; · iexact HT
      isplitl [Ha Hd]
      · iexists a
        isplitl [Ha]; · iexact Ha
        iexact Hd
      isplitl [Hx]
      · unfold ptv pta; icases Hx with ⟨%f, -, Hx⟩; iexists f; iexact Hx
      isplitl [Hm]; · iexact Hm
      isplitl [Hw]
      · unfold ptv pta; icases Hw with ⟨%f, -, Hw⟩; iexists f; iexact Hw
      isplitl [HS]; · iexact HS
      iexact Hg
    isplitl [HO]; · iexact HO
    isplitl [H0]; · iexact H0
    isplitl [H1]; · iexact H1
    isplitl [H2]; · iexact H2
    isplitl [H3]; · iexact H3
    isplitl [H4]; · iexact H4
    iexact H5

theorem ptv_pta (c : Dev nD) {sp : Space} {S : Shape} {e : EltTy} (M : Memref sig .tc sp S e) (d : S.Idx → Elt F e) :
    ptv c M d ⊢ pta (F := F) c M := by
  unfold ptv pta; iintro ⟨%f, -, H⟩; iexists f; iexact H

def bodyPre (c : Dev nD) (t : Fin (cfgM m).N) : sProp 𝕄 :=
  iprop((dats m 0 c).Φ t.castSucc ∗ (dats m 0 c).owesAt () t.castSucc
    ∗ (∃ d, ptv c (ms0 m t) ((dats m 0 c).before 0 t d)) ∗ (∃ d, ptv c (ms1 m t) ((dats m 0 c).before 1 t d))
    ∗ (∃ d, ptv c (ms2 m t) ((dats m 0 c).before 2 t d)) ∗ (∃ d, ptv c (ms3 m t) ((dats m 0 c).before 3 t d))
    ∗ (∃ d, ptv c (ms4 m t) ((dats m 0 c).before 4 t d)) ∗ (∃ d, ptv c (ms5 m t) ((dats m 0 c).before 5 t d)))
def bodyPost (c : Dev nD) (t : Fin (cfgM m).N) : sProp 𝕄 :=
  iprop((dats m 0 c).Φ t.succ ∗ (dats m 0 c).owesAt () t.succ
    ∗ ptv c (ms0 m t) ((dats m 0 c).after 0 t) ∗ ptv c (ms1 m t) ((dats m 0 c).after 1 t)
    ∗ ptv c (ms2 m t) ((dats m 0 c).after 2 t) ∗ ptv c (ms3 m t) ((dats m 0 c).after 3 t)
    ∗ ptv c (ms4 m t) ((dats m 0 c).after 4 t) ∗ ptv c (ms5 m t) ((dats m 0 c).after 5 t))

theorem sound_body (c : Dev nD) (t : Fin (cfgM m).N) :
    bodyPre m c t ⊢ wp Idealize.ShloMosaic.frame (wpE (defs₀ (F := F)) Variants.none (c : Thread nD τ) none) Set.univ (bodyAt m t) (fun _ => bodyPost m c t) := by
  unfold bodyPre bodyPost
  rw [after0, after1, after2, after3, after4, after5]
  simp only [before0, before1]
  rw [show (dats m 0 c).Φ t.succ = PhiS m c (t.val + 1) from rfl, show (dats m 0 c).Φ t.castSucc = PhiS m c t.val from rfl]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩, ⟨%d3, H3⟩, ⟨%d4, H4⟩, ⟨%d5, H5⟩⟩
  iapply (wp_wand_r _ _ _)
  isplitl [HP HW H0 H1 H2 H3 H4 H5]
  · iapply (tile_wp m c t)
    isplitl [HP]; · iexact HP
    isplitl [HW]; · iexists W; iexact HW
    isplitl [H0]; · iexact H0
    isplitl [H1]; · iexact H1
    isplitl [H2]; · iapply (ptv_pta c (ms2 m t) _); iexact H2
    isplitl [H3]; · iapply (ptv_pta c (ms3 m t) _); iexact H3
    isplitl [H4]; · iapply (ptv_pta c (ms4 m t) _); iexact H4
    iapply (ptv_pta c (ms5 m t) _); iexact H5
  · iintro %_ ⟨HP, ⟨%W', HW⟩, H⟩
    isplitl [HP]; · iexact HP
    isplitl [HW]
    · iexists W'
      isplitr
      · ipureintro; exact fun _ _ => Or.inl (Set.mem_univ _)
      · iexact HW
    · iexact H

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole run -/

def osem0 : Fin 1 → SemLoc sig := fun j => ![SemLoc.dma 12] j
theorem ownSemFacts0 : OwnSemFacts spec0 osem0 := by decide
theorem ownSems0_eq (c : Dev nD) : (ownSems0 (Ix := Unit) (Name := ℕ) (U := Pipeline.UD sig nD τ) (Lvl := ℕ) (Val := Elt F) (τ := τ) osem0 c : sProp 𝕄)
    = semVal ((c : Thread nD τ), SemLoc.dma 12) 0 := by
  rw [ownSems0_eq_of_list c osem0 [0] (by decide) (by decide)]; rfl

abbrev R0 : Finset (Ref sig .tc) := {main_v3_0}
theorem R0_sub : R0 ⊆ Pipeline.restRefsP sig pre0 spec0 \ ∅ := by decide

theorem pt_whole (c : Dev nD) {sp : Space} {S : Shape} {e : EltTy} (M : Memref sig .tc sp S e) (h : M.IsWhole) (f) :
    pt (F := F) c M f = (M.view.loc (c : Thread nD τ) ↦{fullShare} f) := by
  unfold pt; rw [h.set_eq_univ]

theorem arg2_rest : main_arg2 ∈ Pipeline.restRefs sig spec0 \ R0 := by decide

/-- What the kernel leaves in the stored result. -/
def Left (c : Dev nD) (W : (b : Ref sig .tc) → Buf (Elt F) ((c : Thread nD τ).loc b)) : Prop :=
  ∃ a, W main_v3_0 = (tiles m c (a, V m c main_v3_0) 96).2

theorem enter (c : Dev nD) :
    iprop(Pipeline.ΦDRG osem0 spec0 ∅ R0 (V m) (V m) c ∗ Pipeline.ΦT pre0 (tbl m) c) ⊢ PhiS m c 0 := by
  rw [Pipeline.ΦDRG_eq, scopedRest0_eq, ownSems0_eq, bigSep_empty]
  unfold Pipeline.routed
  rw [bigSep_singleton]
  unfold Pipeline.ΦT Pipeline.prefHeld
  rw [show (Finset.univ : Finset (Fin 1)) = {0} from by decide, bigSep_singleton]
  obtain rfl : c = 0 := Subsingleton.elim _ _
  rw [show tbl m 0 = T m 0 from rfl]
  unfold PhiS ptv pta
  simp only [pt_whole 0 accM (Memref.isWhole_whole _), pt_whole 0 dwM (Memref.isWhole_whole _), pt_whole 0 xtM (Memref.isWhole_whole _),
    pt_whole 0 xmM (Memref.isWhole_whole _), pt_whole 0 ywM (Memref.isWhole_whole _), (Memref.isWhole_whole main_v2).set_eq_univ]
  generalize T m 0 = TT
  iintro ⟨⟨⟨⟨%f0, H0⟩, ⟨%f1, H1⟩, ⟨%f2, H2⟩, ⟨%f3, H3⟩⟩, Hg, HS, -, HR⟩, HT⟩
  isplitl [HT]; · iexact HT
  isplitl [H0 HR]
  · iexists f0
    isplitl [H0]
    · iexists f0; isplitr; · ipureintro; rfl
      iexact H0
    · iexists (V m 0 main_v3_0); isplitr; · ipureintro; rfl
      iexact HR
  isplitl [H1]; · iexists f1; iexact H1
  isplitl [H2]; · iexists f2; iexact H2
  isplitl [H3]; · iexists f3; iexact H3
  isplitl [HS]; · iexact HS
  iexact Hg

theorem leave (c : Dev nD) :
    PhiS m c 96 ⊢ iprop(Pipeline.ΦD osem0 spec0 ∅ (V m) c ∗ Pipeline.routedSat R0 c (Left m c)) := by
  rw [Pipeline.ΦD_eq, scopedRest0_eq, ownSems0_eq, bigSep_empty]
  unfold Pipeline.routedSat Pipeline.routed
  simp only [bigSep_singleton]
  unfold PhiS ptv pta
  simp only [pt_whole c accM (Memref.isWhole_whole _), pt_whole c dwM (Memref.isWhole_whole _), pt_whole c xtM (Memref.isWhole_whole _),
    pt_whole c xmM (Memref.isWhole_whole _), pt_whole c ywM (Memref.isWhole_whole _), (Memref.isWhole_whole main_v2).set_eq_univ]
  iintro ⟨-, ⟨%a, ⟨%f0, -, H0⟩, ⟨%fd, %hd, HD⟩⟩, ⟨%f1, H1⟩, ⟨%f2, H2⟩, ⟨%f3, H3⟩, HS, Hg⟩
  isplitl [H0 H1 H2 H3 HS Hg]
  · isplitl [H0 H1 H2 H3]
    · isplitl [H0]; · iexists f0; iexact H0
      isplitl [H1]; · iexists f1; iexact H1
      isplitl [H2]; · iexists f2; iexact H2
      iexists f3; iexact H3
    isplitl [Hg]; · iexact Hg
    isplitl [HS]; · iexact HS
    iempintro
  · iexists (Function.update (V m c) main_v3_0 fd)
    isplitr
    · ipureintro
      refine ⟨a, ?_⟩
      rw [Function.update_self]; exact hd
    · rw [Function.update_self]; iexact HD

/-- What a run leaves: each window's array as the blocks make it, the stored result as the tiles make it, every other buffer as it was. -/
def Ran (r : PUnit × MemSt nD τ sig (Elt F)) : Prop :=
  (∀ c : Dev nD, (∀ w, r.2.mem ((c : Thread nD τ).loc (Pipeline.arrRef spec0 w)) = (dats m 0 c).arrAt w (cfgM m).N)
    ∧ (∃ a, r.2.mem ((c : Thread nD τ).loc main_v3_0) = (tiles m c (a, V m c main_v3_0) 96).2)
    ∧ r.2.mem ((c : Thread nD τ).loc main_arg2) = m ((c : Thread nD τ).loc main_arg2))
  ∧ r.2.sem = fun _ => 0

set_option backward.isDefEq.respectTransparency.types false in
theorem run_main : θ_run defs (onTc (τ := τ) (main (F := F))) ⟨m, fun _ => 0, ρ⟩ (Ran m) :=
  Pipeline.RDat.θ_run_frameP_dmaRSat_shared (pcfgs (F := F)) (adm m) (0 : Fin 1) (launch0 (F := F)).to₀ osem0 defs₀ Variants.none
    (fun c => (dats m 0 c).toR) ownSemFacts0 ∅ R0 (Finset.empty_subset _) R0_sub m ρ main
    (hbody := fun c => ((body_obligation m c).loose).toR)
    (hq := fun c w hw => ((dats m 0 c).toR).q_eq_shareOf_of_share_full (launch0 (F := F)).win.arr_inj ((dats m 0 c).share_full fun _ => rfl) w hw)
    (howed := fun _ _ => rfl) (V := V m) (hmain := hmain m Variants.none) (hA := A_eq m)
    (hpf := fun c k => by
      obtain rfl : c = 0 := Subsingleton.elim _ _
      match k with
      | ⟨0, _⟩ => rfl)
    (PG := Left m) (hin := enter m) (hout := leave m) (Q' := Ran m)
    (hQ' := fun r h => by
      obtain ⟨⟨hf, hl⟩, hs⟩ := h
      have hf' := Pipeline.RDat.FramePostR.toDat _ (dats m) 0 R0 (V m) r hf
      refine ⟨fun c => ⟨fun w => (hf' c).1 w, ?_, ?_⟩, hs⟩
      · obtain ⟨W, ⟨a, hW⟩, hb⟩ := hl c
        exact ⟨a, (hb main_v3_0 (Finset.mem_singleton_self _)).trans hW⟩
      · exact ((hf' c).2 main_arg2 arg2_rest).trans
          (V_arg m c main_arg2 (.inr (.inr (.inl rfl)))))

theorem arr_in (c : Dev nD) (w : Fin 6) (h : (spec0 w).isOut = false) : (dats m 0 c).arrAt w (cfgM m).N = V m c (Pipeline.arrRef spec0 w) :=
  ((dats m 0 c).arrAt_in w h _).trans (A_eq m c w)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).1 0).trans ((arr_in m c 0 rfl).trans (V_arg m c main_arg0 (.inl rfl))),
    ((h.1 c).1 1).trans ((arr_in m c 1 rfl).trans (V_arg m c main_arg1 (.inr (.inl rfl)))), (h.1 c).2.2⟩, h.2⟩) (run_main m ρ)

end Cert.KernelIdeal.Hand
end
-- ==== Proof.Scale.lean ====
module

public import Idealize.ShloMosaic.PureOps.Ideal
public import Idealize.ShloMosaic.PureOps.Ideal.Laws

/-!
The scale of one block of rows: a power of two, read once as a bit pattern whose exponent is found by a binary search
against the powers of two, and once as two to a rounded logarithm.
-/
@[expose] public section

noncomputable section

namespace Cert.Scale

open Idealize.ShloMosaic

/-- The number with exponent field `h` and nothing after it. -/
def pow (h : ℕ) : EReal := Ideal.ofBits .f32 (IntOp.shli .vector (BitVec.ofNat 32 h) 23#32)

theorem fields : ∀ h : Fin 256, ((IntOp.shli .vector (BitVec.ofNat 32 h.val) 23#32).extractLsb' (8 + 23) 1 == 1#1) = false
    ∧ ((IntOp.shli .vector (BitVec.ofNat 32 h.val) 23#32).extractLsb' 23 8).toNat = h.val
    ∧ ((IntOp.shli .vector (BitVec.ofNat 32 h.val) 23#32).extractLsb' 0 23).toNat = 0 := by decide +kernel

theorem pow_eq (h : ℕ) (h1 : 1 ≤ h) (h2 : h ≤ 254) : pow h = (((2 : ℝ) ^ ((h : ℤ) - 127) : ℝ) : EReal) := by
  obtain ⟨a, b, c⟩ := fields ⟨h, by omega⟩
  unfold pow
  generalize IntOp.shli .vector (BitVec.ofNat 32 h) 23#32 = B at *
  show Ideal.ieee 8 23 B = _
  unfold Ideal.ieee
  simp only [a, b, c]
  rw [if_neg (by omega), if_neg (by omega)]
  congr 1
  have e : (h : ℤ) - (2 ^ (8 - 1) - 1) - ((23 : ℕ) : ℤ) = ((h : ℤ) - 127) - 23 := by norm_num
  rw [e, zpow_sub₀ (by norm_num)]
  norm_num
  ring

theorem pow_top : pow 255 = ⊤ := by
  obtain ⟨a, b, c⟩ := fields 255
  have e : ((255 : Fin 256) : ℕ) = 255 := rfl
  rw [e] at a b c
  unfold pow
  generalize IntOp.shli .vector (BitVec.ofNat 32 255) 23#32 = B at *
  show Ideal.ieee 8 23 B = _
  unfold Ideal.ieee
  simp only [a, b, c]
  norm_num

/-- The exponent of the scale of a block whose greatest absolute value, divided by the format's greatest, is `y`. -/
def E (y : ℝ) : ℤ := if y < (2 : ℝ) ^ (-126 : ℤ) then 0 else ⌊Real.log y / Real.log 2⌋ + 1
/-- The exponent field of `y`. -/
def K (y : ℝ) : ℕ := if y < (2 : ℝ) ^ (-126 : ℤ) then 0 else (⌊Real.log y / Real.log 2⌋ + 127).toNat

theorem floor_ge {y : ℝ} (hy : ¬ y < (2 : ℝ) ^ (-126 : ℤ)) (n : ℤ) : (2 : ℝ) ^ n ≤ y ↔ n ≤ ⌊Real.log y / Real.log 2⌋ := by
  have h0 : 0 < y := lt_of_lt_of_le (by positivity) (not_lt.1 hy)
  have h2 : 0 < Real.log 2 := Real.log_pos (by norm_num)
  rw [Int.le_floor, le_div_iff₀ h2, ← Real.log_zpow, Real.log_le_log_iff (by positivity) h0]

theorem K_le {y : ℝ} (h : y < (2 : ℝ) ^ (126 : ℤ)) : K y ≤ 252 := by
  unfold K; split
  · omega
  · rename_i hy
    have := (not_congr (floor_ge hy 126)).1 (not_le.2 h)
    omega

theorem pow_le {y : ℝ} (h : ℕ) (h1 : 1 ≤ h) (h2 : h ≤ 255) (hb : K y ≤ 252) : pow h ≤ (y : EReal) ↔ h ≤ K y := by
  rcases Nat.lt_or_ge h 255 with h3 | h3
  · rw [pow_eq h h1 (by omega), EReal.coe_le_coe_iff]
    unfold K
    split
    · rename_i hy
      constructor
      · intro hc
        have : (2 : ℝ) ^ (-126 : ℤ) ≤ (2 : ℝ) ^ ((h : ℤ) - 127) := zpow_le_zpow_right₀ (by norm_num) (by omega)
        linarith
      · omega
    · rename_i hy
      rw [floor_ge hy]; omega
  · obtain rfl : h = 255 := by omega
    rw [pow_top]
    constructor
    · intro hc; exact absurd (top_le_iff.1 hc) (EReal.coe_ne_top _)
    · omega

/-- One step of the search: the exponent field moves up by `b` when the number with that field is not above `y`. -/
def up (y : EReal) (e : BitVec 32) (b : BitVec 32) : BitVec 32 :=
  Scalar.select (Ideal.cmp .oge y (Ideal.ofBits .f32 (IntOp.shli .vector (IntOp.addi e b) 23#32))) (IntOp.addi e b) e

theorem up_eq {y : ℝ} (hb : K y ≤ 252) (e b : ℕ) (h0 : 0 < b) (h1 : e + b ≤ 255) :
    up y (BitVec.ofNat 32 e) (BitVec.ofNat 32 b) = BitVec.ofNat 32 (if e + b ≤ K y then e + b else e) := by
  have ha : IntOp.addi (BitVec.ofNat 32 e) (BitVec.ofNat 32 b) = BitVec.ofNat 32 (e + b) := (BitVec.ofNat_add ..).symm
  unfold up
  rw [ha]
  have hc : Ideal.cmp .oge (y : EReal) (Ideal.ofBits .f32 (IntOp.shli .vector (BitVec.ofNat 32 (e + b)) 23#32)) = BitVec.ofBool (decide (e + b ≤ K y)) := by
    unfold Ideal.cmp; congr 1
    exact decide_eq_decide.2 (pow_le (e + b) (by omega) h1 hb)
  rw [hc]
  by_cases h : e + b ≤ K y <;> simp [h, Scalar.select]

/-- The whole search. -/
def search (y : EReal) : BitVec 32 :=
  up y (up y (up y (up y (up y (up y (up y (up y 0#32 128#32) 64#32) 32#32) 16#32) 8#32) 4#32) 2#32) 1#32

theorem search_eq {y : ℝ} (hb : K y ≤ 252) : search y = BitVec.ofNat 32 (K y) := by
  have s : ∀ (b e : ℕ), 0 < b → e + b ≤ 255 → ∃ e', up y (BitVec.ofNat 32 e) (BitVec.ofNat 32 b) = BitVec.ofNat 32 e'
      ∧ e' = (if e + b ≤ K y then e + b else e) := fun b e h0 h1 => ⟨_, up_eq hb e b h0 h1, rfl⟩
  unfold search
  obtain ⟨e1, q1, r1⟩ := s 128 0 (by omega) (by omega)
  rw [q1]
  have b1 : e1 ≤ 128 := by split at r1 <;> omega
  obtain ⟨e2, q2, r2⟩ := s 64 e1 (by omega) (by omega)
  rw [q2]
  have b2 : e2 ≤ 192 := by split at r2 <;> omega
  obtain ⟨e3, q3, r3⟩ := s 32 e2 (by omega) (by omega)
  rw [q3]
  have b3 : e3 ≤ 224 := by split at r3 <;> omega
  obtain ⟨e4, q4, r4⟩ := s 16 e3 (by omega) (by omega)
  rw [q4]
  have b4 : e4 ≤ 240 := by split at r4 <;> omega
  obtain ⟨e5, q5, r5⟩ := s 8 e4 (by omega) (by omega)
  rw [q5]
  have b5 : e5 ≤ 248 := by split at r5 <;> omega
  obtain ⟨e6, q6, r6⟩ := s 4 e5 (by omega) (by omega)
  rw [q6]
  have b6 : e6 ≤ 252 := by split at r6 <;> omega
  obtain ⟨e7, q7, r7⟩ := s 2 e6 (by omega) (by omega)
  rw [q7]
  have b7 : e7 ≤ 254 := by split at r7 <;> omega
  obtain ⟨e8, q8, r8⟩ := s 1 e7 (by omega) (by omega)
  rw [q8]
  congr 1
  clear q1 q2 q3 q4 q5 q6 q7 q8 s
  have c1 : e1 ≤ K y ∧ K y < e1 + 128 := by split at r1 <;> omega
  have c2 : e2 ≤ K y ∧ K y < e2 + 64 := by split at r2 <;> omega
  have c3 : e3 ≤ K y ∧ K y < e3 + 32 := by split at r3 <;> omega
  have c4 : e4 ≤ K y ∧ K y < e4 + 16 := by split at r4 <;> omega
  have c5 : e5 ≤ K y ∧ K y < e5 + 8 := by split at r5 <;> omega
  have c6 : e6 ≤ K y ∧ K y < e6 + 4 := by split at r6 <;> omega
  have c7 : e7 ≤ K y ∧ K y < e7 + 2 := by split at r7 <;> omega
  split at r8 <;> omega

/-- The bits of the scale whose exponent field the search found. -/
def bits (e : BitVec 32) : BitVec 32 :=
  Scalar.select (IntOp.andi (IntOp.cmpi .sgt e 0#32) (IntOp.cmpi .slt e 255#32)) (IntOp.shli .vector (IntOp.addi e 1#32) 23#32) 1065353216#32

theorem bits_eq : ∀ k : Fin 253, bits (BitVec.ofNat 32 k.val) = IntOp.shli .vector (BitVec.ofNat 32 (if k.val = 0 then 127 else k.val + 1)) 23#32
    ∧ IntOp.subi 2130706432#32 (bits (BitVec.ofNat 32 k.val)) = IntOp.shli .vector (BitVec.ofNat 32 (if k.val = 0 then 127 else 253 - k.val)) 23#32 := by decide +kernel

theorem E_K {y : ℝ} (hb : K y ≤ 252) : (((if K y = 0 then 127 else K y + 1 : ℕ) : ℤ) - 127 = E y)
    ∧ (((if K y = 0 then 127 else 253 - K y : ℕ) : ℤ) - 127 = - E y) := by
  revert hb
  unfold K E
  split
  · intro _; simp
  · rename_i hy
    have h1 := (floor_ge hy (-126)).1 (not_lt.1 hy)
    intro hb
    rw [if_neg (by omega), if_neg (by omega)]
    omega

/-- The scale and its inverse as the search makes them. -/
theorem scale_eq {y : ℝ} (hb : K y ≤ 252) : Ideal.ofBits .f32 (bits (search y)) = (((2 : ℝ) ^ E y : ℝ) : EReal) := by
  rw [search_eq hb, (bits_eq ⟨K y, by omega⟩).1]
  refine (pow_eq _ (by split <;> omega) (by split <;> omega)).trans ?_
  rw [(E_K hb).1]
theorem inv_eq {y : ℝ} (hb : K y ≤ 252) : Ideal.ofBits .f32 (IntOp.subi 2130706432#32 (bits (search y))) = (((2 : ℝ) ^ (- E y) : ℝ) : EReal) := by
  rw [search_eq hb, (bits_eq ⟨K y, by omega⟩).2]
  refine (pow_eq _ (by split <;> omega) (by split <;> omega)).trans ?_
  rw [(E_K hb).2]

/-- The exponent as the rounded logarithm makes it. -/
def expo (y : EReal) : EReal :=
  Scalar.select (Ideal.cmp .olt y (Ideal.ofBits .f32 0x00800000#32)) (Ideal.ofBits .f32 0x00000000#32)
    (Ideal.liftRound Int.floor (Ideal.div (Ideal.log y) (Ideal.log (Ideal.ofBits .f32 0x40000000#32))) + Ideal.ofBits .f32 0x3F800000#32)

theorem pow1 : Ideal.ofBits .f32 0x00800000#32 = (((2 : ℝ) ^ (-126 : ℤ) : ℝ) : EReal) :=
  (congrArg (Ideal.ofBits .f32) (by decide : 0x00800000#32 = IntOp.shli .vector (BitVec.ofNat 32 1) 23#32)).trans
    ((pow_eq 1 (by norm_num) (by norm_num)).trans (by norm_num))
theorem pow127 : Ideal.ofBits .f32 0x3F800000#32 = ((1 : ℝ) : EReal) :=
  (congrArg (Ideal.ofBits .f32) (by decide : 0x3F800000#32 = IntOp.shli .vector (BitVec.ofNat 32 127) 23#32)).trans
    ((pow_eq 127 (by norm_num) (by norm_num)).trans (by norm_num))
theorem pow128 : Ideal.ofBits .f32 0x40000000#32 = ((2 : ℝ) : EReal) :=
  (congrArg (Ideal.ofBits .f32) (by decide : 0x40000000#32 = IntOp.shli .vector (BitVec.ofNat 32 128) 23#32)).trans
    ((pow_eq 128 (by norm_num) (by norm_num)).trans (by norm_num))

theorem expo_eq (y : ℝ) : expo y = ((E y : ℝ) : EReal) := by
  unfold expo E
  rw [pow1, pow127, pow128, Ideal.ofBits_zero_f32]
  by_cases h : y < (2 : ℝ) ^ (-126 : ℤ)
  · rw [if_pos h]
    have hc : Ideal.cmp .olt (y : EReal) (((2 : ℝ) ^ (-126 : ℤ) : ℝ) : EReal) = 1#1 := by
      unfold Ideal.cmp; simp only [EReal.coe_lt_coe_iff, h]; rfl
    rw [hc]; simp [Scalar.select]
  · have h0 : 0 < y := lt_of_lt_of_le (by positivity) (not_lt.1 h)
    have h2 : 0 < Real.log 2 := Real.log_pos (by norm_num)
    rw [if_neg h]
    have hc : Ideal.cmp .olt (y : EReal) (((2 : ℝ) ^ (-126 : ℤ) : ℝ) : EReal) = 0#1 := by
      unfold Ideal.cmp; simp only [EReal.coe_lt_coe_iff, h]; rfl
    rw [hc, Ideal.log_coe, Ideal.log_coe, if_neg (not_le.2 h0), if_neg (by norm_num)]
    have hd : Ideal.div ((Real.log y : ℝ) : EReal) ((Real.log 2 : ℝ) : EReal) = ((Real.log y / Real.log 2 : ℝ) : EReal) := by
      unfold Ideal.div
      rw [if_neg (by exact_mod_cast h2.ne'), div_eq_mul_inv, EReal.coe_mul, EReal.coe_inv]
    rw [hd]
    simp only [Scalar.select]
    rw [if_neg (by decide)]
    show (((⌊Real.log y / Real.log 2⌋ : ℤ) : ℝ) : EReal) + ((1 : ℝ) : EReal) = _
    rw [← EReal.coe_add]; push_cast; rfl

theorem exp2_expo (y : ℝ) : Ideal.exp2 (expo y) = (((2 : ℝ) ^ E y : ℝ) : EReal) := by
  rw [expo_eq, Ideal.exp2_coe]; exact congrArg _ (Real.rpow_intCast 2 (E y))
theorem exp2_neg_expo (y : ℝ) : Ideal.exp2 (-expo y) = (((2 : ℝ) ^ (-E y) : ℝ) : EReal) := by
  rw [expo_eq, ← EReal.coe_neg, Ideal.exp2_coe, ← Int.cast_neg]; exact congrArg _ (Real.rpow_intCast 2 (-E y))

end Cert.Scale

end
-- ==== Proof.Spec.lean ====
/- The results, as functions of the arguments read at natural-number coordinates. -/
module

public import proofs.«01_k».proof.Proof.Scale
public import Mathlib.Data.Finset.Fold
public import Idealize.ShloMosaic.Lib.Pointwise

@[expose] public section

noncomputable section

namespace Cert.Spec

open Idealize.ShloMosaic Cert.Scale

/-- The largest magnitude in block `b` of 32 rows, column `l`. -/
def amax (X : ℕ → ℕ → EReal) (b l : ℕ) : EReal :=
  (Finset.univ : Finset (Fin 32)).fold max (Ideal.ofBits .bf16 0xFF80#16) fun k => max (X (b * 32 + k.val) l) (-X (b * 32 + k.val) l)

/-- The exponent of the block's scale; `q` holds the reciprocal of the largest code. -/
def expA (q : BitVec 32) (X : ℕ → ℕ → EReal) (b l : ℕ) : EReal := expo (amax X b l * Ideal.ofBits .f32 q)
/-- The block's scale. -/
def scaleA (q : BitVec 32) (X : ℕ → ℕ → EReal) (b l : ℕ) : EReal := Ideal.exp2 (expA q X b l)
/-- The code at row `r`: the element over its block's scale, cut off at the largest code. -/
def codeA (q lo hi : BitVec 32) (X : ℕ → ℕ → EReal) (r l : ℕ) : EReal :=
  min (Ideal.ofBits .f32 hi) (max (Ideal.ofBits .f32 lo) (X r l * Ideal.exp2 (-expA q X (r / 32) l)))
/-- The dequantised element. -/
def wideA (q lo hi : BitVec 32) (X : ℕ → ℕ → EReal) (r l : ℕ) : EReal := codeA q lo hi X r l * scaleA q X (r / 32) l

/-- Every block's scaled magnitude is a real whose exponent field leaves room for the next power. -/
def Fits (q : BitVec 32) (X : ℕ → ℕ → EReal) (C : ℕ) : Prop :=
  ∀ b l, b < 1536 → l < C → ∃ y : ℝ, K y ≤ 252 ∧ amax X b l * Ideal.ofBits .f32 q = y

theorem Fits.scale {q : BitVec 32} {X : ℕ → ℕ → EReal} {C : ℕ} (h : Fits q X C) {b l : ℕ} (hb : b < 1536) (hl : l < C) :
    Ideal.ofBits .f32 (bits (search (amax X b l * Ideal.ofBits .f32 q))) = scaleA q X b l := by
  obtain ⟨y, hy, e⟩ := h b l hb hl
  unfold scaleA expA; rw [e, scale_eq hy, exp2_expo]
theorem Fits.inv {q : BitVec 32} {X : ℕ → ℕ → EReal} {C : ℕ} (h : Fits q X C) {b l : ℕ} (hb : b < 1536) (hl : l < C) :
    Ideal.ofBits .f32 (IntOp.subi 2130706432#32 (bits (search (amax X b l * Ideal.ofBits .f32 q)))) = Ideal.exp2 (-expA q X b l) := by
  obtain ⟨y, hy, e⟩ := h b l hb hl
  unfold expA; rw [e, inv_eq hy, exp2_neg_expo]

/-- Bounded elements fit. -/
theorem fits_of_le {q : BitVec 32} {X : ℕ → ℕ → EReal} {C : ℕ} {B c : ℝ} (hq : Ideal.ofBits .f32 q = (c : EReal)) (hc : 0 ≤ c)
    (hB : B * c < (2 : ℝ) ^ (126 : ℤ)) (hi : Ideal.ofBits .bf16 0xFF80#16 = ⊥)
    (h : ∀ r l, r < 49152 → l < C → max (X r l) (-X r l) ≤ (B : EReal)) : Fits q X C := by
  intro b l hb hl
  have up : amax X b l ≤ (B : EReal) := by
    unfold amax
    rw [Finset.fold_max_le]
    exact ⟨by rw [hi]; exact bot_le, fun k _ => h _ _ (by omega) hl⟩
  have lo : (0 : EReal) ≤ amax X b l := by
    unfold amax
    rw [Finset.le_fold_max]
    refine .inr ⟨0, Finset.mem_univ _, ?_⟩
    rcases le_total 0 (X (b * 32 + (0 : Fin 32).val) l) with h0 | h0
    · exact le_max_of_le_left h0
    · exact le_max_of_le_right (by simpa using EReal.neg_le_neg_iff.2 h0)
  generalize amax X b l = a at up lo
  induction a with
  | bot => exact absurd lo (by simp)
  | top => exact absurd up (by simp)
  | coe a =>
    refine ⟨a * c, K_le (lt_of_le_of_lt (mul_le_mul_of_nonneg_right (EReal.coe_le_coe_iff.1 up) hc) hB), ?_⟩
    rw [hq, EReal.coe_mul]

/-- Row `r` of expert's group `[lo, hi)`, cleared outside it. -/
def maskA (lo hi : ℕ) (W : ℕ → ℕ → EReal) (r i : ℕ) : EReal := if lo ≤ r ∧ r < hi then W r i else 0
/-- The product over the rows below `R`. -/
def partA (lo hi : ℕ) (W Z : ℕ → ℕ → EReal) (R i j : ℕ) : EReal := ∑ r ∈ Finset.range R, maskA lo hi W r i * Z r j

/-! ### The five results -/

/-- A matrix read at natural numbers. -/
def nat2 {R C : ℕ} (f : (⟨2, ![R, C]⟩ : Shape).Idx → EReal) (r l : ℕ) : EReal := if h : r < R ∧ l < C then f (ix2 ⟨r, h.1⟩ ⟨l, h.2⟩) else 0

theorem nat2_at {R C : ℕ} (f : (⟨2, ![R, C]⟩ : Shape).Idx → EReal) {r l : ℕ} (hr : r < R) (hl : l < C) : nat2 f r l = f (ix2 ⟨r, hr⟩ ⟨l, hl⟩) := dif_pos ⟨hr, hl⟩

/-- The sizes of the groups, and the first row of group `n`. -/
def sizeN (g : (⟨1, ![8]⟩ : Shape).Idx → BitVec 32) (i : ℕ) : ℕ := if h : i < 8 then (g (ix1 ⟨i, h⟩)).toNat else 0
def off (g : (⟨1, ![8]⟩ : Shape).Idx → BitVec 32) (n : ℕ) : ℕ := ((List.range n).map (sizeN g)).sum

theorem off_succ (g : (⟨1, ![8]⟩ : Shape).Idx → BitVec 32) (n : ℕ) : off g (n + 1) = off g n + sizeN g n := by
  unfold off; rw [List.range_succ]; simp
theorem off_mono (g : (⟨1, ![8]⟩ : Shape).Idx → BitVec 32) {a b : ℕ} (h : a ≤ b) : off g a ≤ off g b := by
  induction h with
  | refl => exact le_rfl
  | step _ ih => rw [off_succ]; omega

def resC (q lo hi : BitVec 32) {R C : ℕ} (f : (⟨2, ![R, C]⟩ : Shape).Idx → EReal) : (⟨2, ![R, C]⟩ : Shape).Idx → EReal :=
  fun y => codeA q lo hi (nat2 f) (y 0).val (y 1).val
def resS (q : BitVec 32) {R B C : ℕ} (f : (⟨2, ![R, C]⟩ : Shape).Idx → EReal) : (⟨2, ![B, C]⟩ : Shape).Idx → EReal :=
  fun y => scaleA q (nat2 f) (y 0).val (y 1).val
def wideX (x : (⟨2, ![49152, 1536]⟩ : Shape).Idx → EReal) : ℕ → ℕ → EReal := wideA 0x3B124925#32 0xC3E00000#32 0x43E00000#32 (nat2 x)
def wideY (y : (⟨2, ![49152, 3072]⟩ : Shape).Idx → EReal) : ℕ → ℕ → EReal := wideA 0x37924925#32 0xC7600000#32 0x47600000#32 (nat2 y)
def resD (g : (⟨1, ![8]⟩ : Shape).Idx → BitVec 32) (x : (⟨2, ![49152, 1536]⟩ : Shape).Idx → EReal) (y : (⟨2, ![49152, 3072]⟩ : Shape).Idx → EReal) :
    (⟨3, ![8, 1536, 3072]⟩ : Shape).Idx → EReal :=
  fun z => partA (off g (z 0).val) (off g ((z 0).val + 1)) (wideX x) (wideY y) 49152 (z 1).val (z 2).val

/-- What the results need of the arguments: the scales fit, and the groups lie inside the rows. -/
structure Good (x : (⟨2, ![49152, 1536]⟩ : Shape).Idx → EReal) (y : (⟨2, ![49152, 3072]⟩ : Shape).Idx → EReal) (g : (⟨1, ![8]⟩ : Shape).Idx → BitVec 32) : Prop where
  fx : Fits 0x3B124925#32 (nat2 x) 1536
  fy : Fits 0x37924925#32 (nat2 y) 3072
  top : off g 8 ≤ 49152

end Cert.Spec
-- ==== Proof.KI.Quant.lean ====
/- What the quantiser leaves in a tile's arrays, over the extended reals. -/
module

public import proofs.«01_k».proof.Proof.KI.Runs
public import proofs.«01_k».proof.Proof.Spec
public import Idealize.ShloMosaic.Lib.Pointwise
public import Idealize.ShloMosaic.Lib.ValueIdxCoords

@[expose] public section

set_option maxRecDepth 16384

noncomputable section

namespace Cert.KernelIdeal.Hand

open Cert.KernelIdeal Cert.KernelIdeal.Gen Cert.Scale Cert.Spec
open Idealize.ShloMosaic

/-! ### The search for the exponent field -/

/-- One step of the search at every column of every block. -/
def upV (w : FVec Ideal S16x256 .f32) (e : IVec S16x256 32) (b : BitVec 32) : IVec S16x256 32 :=
  select (cmpf .oge w (bitcastToFloat .f32 (shli (addi e (broadcast S16x256 b)) (broadcast S16x256 23#32)))) (addi e (broadcast S16x256 b)) e
theorem upV_at (w : FVec Ideal S16x256 .f32) (e : IVec S16x256 32) (b : BitVec 32) (i : S16x256.Idx) : upV w e b i = up (w i) (e i) b := rfl
/-- The scale's bits at every column of every block. -/
def bitsV (e : IVec S16x256 32) : IVec S16x256 32 :=
  select (andi (cmpi .sgt e (broadcast S16x256 0#32)) (cmpi .slt e (broadcast S16x256 255#32))) (shli (addi e (broadcast S16x256 1#32)) (broadcast S16x256 23#32))
    (broadcast S16x256 1065353216#32)
theorem bitsV_at (e : IVec S16x256 32) (i : S16x256.Idx) : bitsV e i = bits (e i) := rfl

theorem pay15_eq (v : FVec Ideal S512x256 .bf16) : k0_pay15 (F := Ideal) v
    = upV (k0_pay14 v) (upV (k0_pay14 v) (upV (k0_pay14 v) (upV (k0_pay14 v) (broadcast S16x256 0#32) 128#32) 64#32) 32#32) 16#32 := rfl
theorem pay24_eq (v : FVec Ideal S512x256 .bf16) : k0_pay24 (F := Ideal) v
    = upV (k0_pay23 v) (upV (k0_pay23 v) (upV (k0_pay23 v) (upV (k0_pay23 v) (broadcast S16x256 0#32) 128#32) 64#32) 32#32) 16#32 := rfl
theorem pay18_eq (w : FVec Ideal S16x256 .f32) (e : IVec S16x256 32) :
    k0_pay18 (F := Ideal) w e (addi e (broadcast S16x256 8#32)) (bitcastToFloat .f32 (shli (addi e (broadcast S16x256 8#32)) (broadcast S16x256 23#32)))
      = bitsV (upV w (upV w (upV w (upV w e 8#32) 4#32) 2#32) 1#32) := rfl
theorem pay27_eq (w : FVec Ideal S16x256 .f32) (e : IVec S16x256 32) :
    k0_pay27 (F := Ideal) w e (addi e (broadcast S16x256 8#32)) (bitcastToFloat .f32 (shli (addi e (broadcast S16x256 8#32)) (broadcast S16x256 23#32)))
      = bitsV (upV w (upV w (upV w (upV w e 8#32) 4#32) 2#32) 1#32) := rfl

theorem xBits_at (v : FVec Ideal S512x256 .bf16) (i : S16x256.Idx) :
    k0_pay18 (F := Ideal) (k0_pay14 (F := Ideal) v) (k0_pay15 (F := Ideal) v) (k0_pay16 (F := Ideal) v) (k0_pay17 (F := Ideal) v) i
      = bits (search (k0_pay14 (F := Ideal) v i)) := by
  unfold k0_pay17 k0_pay16
  rw [pay18_eq, pay15_eq]
  simp only [bitsV_at, upV_at]
  rfl
theorem yBits_at (v : FVec Ideal S512x256 .bf16) (i : S16x256.Idx) :
    k0_pay27 (F := Ideal) (k0_pay23 (F := Ideal) v) (k0_pay24 (F := Ideal) v) (k0_pay25 (F := Ideal) v) (k0_pay26 (F := Ideal) v) i
      = bits (search (k0_pay23 (F := Ideal) v i)) := by
  unfold k0_pay26 k0_pay25
  rw [pay27_eq, pay24_eq]
  simp only [bitsV_at, upV_at]
  rfl

/-! ### A block of 256 columns -/

variable {X : ℕ → ℕ → EReal} {n c C : ℕ} {v : FVec Ideal S512x256 .bf16}

theorem xMax_at (hv : ∀ (r : Fin 512) (l : Fin 256), v (ix2 r l) = X (512 * n + r.val) (c + l.val)) (b : Fin 16) (l : Fin 256) :
    k0_pay14 (F := Ideal) v (ix2 b l) = amax X (16 * n + b.val) (c + l.val) * Ideal.ofBits .f32 0x3B124925#32 := by
  unfold k0_pay14 k0_pay13
  pointwise
  unfold amax
  congr 1
  refine Finset.fold_congr fun k _ => ?_
  show max (v _) (-(v _)) = _
  rw [hv]
  rw [show 512 * n + (b.val * 32 + k.val) = (16 * n + b.val) * 32 + k.val by ring]
theorem yMax_at (hv : ∀ (r : Fin 512) (l : Fin 256), v (ix2 r l) = X (512 * n + r.val) (c + l.val)) (b : Fin 16) (l : Fin 256) :
    k0_pay23 (F := Ideal) v (ix2 b l) = amax X (16 * n + b.val) (c + l.val) * Ideal.ofBits .f32 0x37924925#32 := by
  unfold k0_pay23 k0_pay22
  pointwise
  unfold amax
  congr 1
  refine Finset.fold_congr fun k _ => ?_
  show max (v _) (-(v _)) = _
  rw [hv]
  rw [show 512 * n + (b.val * 32 + k.val) = (16 * n + b.val) * 32 + k.val by ring]

theorem xScale_at (hf : Fits 0x3B124925#32 X C) (hn : n < 96) (hC : c + 256 ≤ C) (hv : ∀ (r : Fin 512) (l : Fin 256), v (ix2 r l) = X (512 * n + r.val) (c + l.val)) (b : Fin 16) (l : Fin 256) :
    xScale (F := Ideal) v (ix2 b l) = scaleA 0x3B124925#32 X (16 * n + b.val) (c + l.val) := by
  refine (congrArg (Ideal.ofBits .f32) (xBits_at v _)).trans ?_
  rw [xMax_at hv]
  exact hf.scale (by omega) (by omega)
theorem yScale_at (hf : Fits 0x37924925#32 X C) (hn : n < 96) (hC : c + 256 ≤ C) (hv : ∀ (r : Fin 512) (l : Fin 256), v (ix2 r l) = X (512 * n + r.val) (c + l.val)) (b : Fin 16) (l : Fin 256) :
    yScale (F := Ideal) v (ix2 b l) = scaleA 0x37924925#32 X (16 * n + b.val) (c + l.val) := by
  refine (congrArg (Ideal.ofBits .f32) (yBits_at v _)).trans ?_
  rw [yMax_at hv]
  exact hf.scale (by omega) (by omega)

theorem xClip_at (hf : Fits 0x3B124925#32 X C) (hn : n < 96) (hC : c + 256 ≤ C) (hv : ∀ (r : Fin 512) (l : Fin 256), v (ix2 r l) = X (512 * n + r.val) (c + l.val)) (b : Fin 16) (r : Fin 32) (l : Fin 256) :
    xClip (F := Ideal) v (ix3 b r l) = max (Ideal.ofBits .f32 0xC3E00000#32) (X (512 * n + (b.val * 32 + r.val)) (c + l.val) * Ideal.exp2 (-expA 0x3B124925#32 X (16 * n + b.val) (c + l.val))) := by
  unfold xClip k0_pay20 k0_pay13
  have h := xBits_at v
  generalize k0_pay18 (F := Ideal) (k0_pay14 (F := Ideal) v) (k0_pay15 (F := Ideal) v) (k0_pay16 (F := Ideal) v) (k0_pay17 (F := Ideal) v) = w at h ⊢
  pointwise
  simp only [h]
  rw [hv, xMax_at hv]
  exact congrArg (fun z => max _ (_ * z)) (hf.inv (by omega) (by omega))
theorem yClip_at (hf : Fits 0x37924925#32 X C) (hn : n < 96) (hC : c + 256 ≤ C) (hv : ∀ (r : Fin 512) (l : Fin 256), v (ix2 r l) = X (512 * n + r.val) (c + l.val)) (b : Fin 16) (r : Fin 32) (l : Fin 256) :
    yClip (F := Ideal) v (ix3 b r l) = max (Ideal.ofBits .f32 0xC7600000#32) (X (512 * n + (b.val * 32 + r.val)) (c + l.val) * Ideal.exp2 (-expA 0x37924925#32 X (16 * n + b.val) (c + l.val))) := by
  unfold yClip k0_pay29 k0_pay22
  have h := yBits_at v
  generalize k0_pay27 (F := Ideal) (k0_pay23 (F := Ideal) v) (k0_pay24 (F := Ideal) v) (k0_pay25 (F := Ideal) v) (k0_pay26 (F := Ideal) v) = w at h ⊢
  pointwise
  simp only [h]
  rw [hv, yMax_at hv]
  exact congrArg (fun z => max _ (_ * z)) (hf.inv (by omega) (by omega))

end Cert.KernelIdeal.Hand
-- ==== Proof.KI.Tile.lean ====
/- What one tile of 512 rows gives, element by element, over the extended reals. -/
module

public import proofs.«01_k».proof.Proof.KI.Quant

@[expose] public section

set_option maxRecDepth 16384

noncomputable section

namespace Cert.KernelIdeal.Hand

open Cert.KernelIdeal Cert.KernelIdeal.Gen Cert.Scale Cert.Spec
open Idealize.ShloMosaic

section X
variable {X : ℕ → ℕ → EReal} {n : ℕ} {v : FVec Ideal S512x1536 .bf16}
  (hf : Fits 0x3B124925#32 X 1536) (hn : n < 96) (hv : ∀ (r : Fin 512) (l : Fin 1536), v (ix2 r l) = X (512 * n + r.val) l.val)
include hf hn hv

theorem xsT_at (b : Fin 16) (l : Fin 1536) : xsT (F := Ideal) v (ix2 b l) = scaleA 0x3B124925#32 X (16 * n + b.val) l.val := by
  refine (xScale_at (c := 256 * (l.val / 256)) hf hn (by omega) (fun r l' => hv _ _) b ⟨l.val % 256, Nat.mod_lt _ (by decide)⟩).trans ?_
  rw [show 256 * (l.val / 256) + l.val % 256 = l.val by omega]

theorem xcT_at (r : Fin 512) (l : Fin 1536) : xcT (F := Ideal) v (ix2 r l) = codeA 0x3B124925#32 0xC3E00000#32 0x43E00000#32 X (512 * n + r.val) l.val := by
  unfold xcT k0_pay2 k0_pay1 k0_pay21 Cert.Tiles.ofCols
  pointwise
  rw [xClip_at (c := 256 * (l.val / 256)) hf hn (by omega) (fun r l' => hv _ _)]
  unfold codeA
  have h1 : 256 * (l.val / 256) + l.val % 256 = l.val := by omega
  have h2 : r.val / 32 * 32 + r.val % 32 = r.val := by omega
  have h3 : 16 * n + r.val / 32 = (512 * n + r.val) / 32 := by omega
  simp only [h1, h2, h3]

theorem xtT_at (r : Fin 512) (l : Fin 1536) : xtT (F := Ideal) v (ix2 l r) = wideA 0x3B124925#32 0xC3E00000#32 0x43E00000#32 X (512 * n + r.val) l.val := by
  unfold xtT k0_pay3 k0_pay1 k0_pay21 Cert.Tiles.ofRows
  pointwise
  rw [xClip_at (c := 256 * (l.val / 256)) hf hn (by omega) (fun r l' => hv _ _),
    xScale_at (c := 256 * (l.val / 256)) hf hn (by omega) (fun r l' => hv _ _)]
  unfold wideA codeA
  have h1 : 256 * (l.val / 256) + l.val % 256 = l.val := by omega
  have h2 : r.val / 32 * 32 + r.val % 32 = r.val := by omega
  have h3 : 16 * n + r.val / 32 = (512 * n + r.val) / 32 := by omega
  simp only [h1, h2, h3]
end X

section Y
variable {X : ℕ → ℕ → EReal} {n : ℕ} {v : FVec Ideal S512x3072 .bf16}
  (hf : Fits 0x37924925#32 X 3072) (hn : n < 96) (hv : ∀ (r : Fin 512) (l : Fin 3072), v (ix2 r l) = X (512 * n + r.val) l.val)
include hf hn hv

theorem ysT_at (b : Fin 16) (l : Fin 3072) : ysT (F := Ideal) v (ix2 b l) = scaleA 0x37924925#32 X (16 * n + b.val) l.val := by
  refine (yScale_at (c := 256 * (l.val / 256)) hf hn (by omega) (fun r l' => hv _ _) b ⟨l.val % 256, Nat.mod_lt _ (by decide)⟩).trans ?_
  rw [show 256 * (l.val / 256) + l.val % 256 = l.val by omega]

theorem ycT_at (r : Fin 512) (l : Fin 3072) : ycT (F := Ideal) v (ix2 r l) = codeA 0x37924925#32 0xC7600000#32 0x47600000#32 X (512 * n + r.val) l.val := by
  unfold ycT k0_pay5 k0_pay4 k0_pay30 Cert.Tiles.ofCols
  pointwise
  rw [yClip_at (c := 256 * (l.val / 256)) hf hn (by omega) (fun r l' => hv _ _)]
  unfold codeA
  have h1 : 256 * (l.val / 256) + l.val % 256 = l.val := by omega
  have h2 : r.val / 32 * 32 + r.val % 32 = r.val := by omega
  have h3 : 16 * n + r.val / 32 = (512 * n + r.val) / 32 := by omega
  simp only [h1, h2, h3]

theorem ywT_at (r : Fin 512) (l : Fin 3072) : ywT (F := Ideal) v (ix2 r l) = wideA 0x37924925#32 0xC7600000#32 0x47600000#32 X (512 * n + r.val) l.val := by
  unfold ywT k0_pay6 k0_pay4 k0_pay30 Cert.Tiles.ofCols
  pointwise
  rw [yClip_at (c := 256 * (l.val / 256)) hf hn (by omega) (fun r l' => hv _ _),
    yScale_at (c := 256 * (l.val / 256)) hf hn (by omega) (fun r l' => hv _ _)]
  unfold wideA codeA
  have h1 : 256 * (l.val / 256) + l.val % 256 = l.val := by omega
  have h2 : r.val / 32 * 32 + r.val % 32 = r.val := by omega
  have h3 : 16 * n + r.val / 32 = (512 * n + r.val) / 32 := by omega
  simp only [h1, h2, h3]
end Y

/-! ### The products -/

theorem accT_at (a : FVec Ideal S1536x3072 .f32) (x : FVec Ideal S1536x512 .bf16) (w : FVec Ideal S512x3072 .bf16) (i : Fin 1536) (l : Fin 3072) :
    accT (F := Ideal) a x w (ix2 i l) = a (ix2 i l) + ∑ k : Fin 512, x (ix2 i k) * w (ix2 k l) := by
  unfold accT k0_pay8 Cert.Tiles.ofCols Cert.Tiles.colBlk
  pointwise
  have h1 : 256 * (l.val / 256) + l.val % 256 = l.val := by omega
  simp only [h1]

theorem maskT_at (v0 v6 v9 : BitVec 32) (x : FVec Ideal S1536x512 .bf16) (i : Fin 1536) (l : Fin 512) :
    maskT (F := Ideal) v0 v6 v9 x (ix2 i l) = Scalar.select (IntOp.andi (IntOp.cmpi .sge (IntOp.addi v0 (BitVec.ofNat 32 l.val)) v6)
      (IntOp.cmpi .slt (IntOp.addi v0 (BitVec.ofNat 32 l.val)) v9)) (x (ix2 i l)) 0 := by
  unfold maskT k0_pay42 Cert.Tiles.ofRows Cert.Tiles.rowBlk
  pointwise
  have h1 : 256 * (i.val / 256) + i.val % 256 = i.val := by omega
  simp only [h1]

theorem pay7_at (i : S1536x3072.Idx) : k0_pay7 (F := Ideal) i = 0 := Ideal.ofBits_zero_f32

end Cert.KernelIdeal.Hand
-- ==== Proof.KI.Groups.lean ====
/- The expert matrices after every tile: the accumulator holds the open group's partial product, and the stored
   result holds the product of every group already closed. -/
module

public import proofs.«01_k».proof.Proof.KI.Tile
public import proofs.«01_k».proof.Proof.KI.Whole
public import Idealize.ShloMosaic.Lib.WordCmp

@[expose] public section

set_option maxRecDepth 16384

noncomputable section

namespace Cert.KernelIdeal.Hand

open Cert.KernelIdeal Cert.KernelIdeal.Gen Cert.Spec
open Idealize.ShloMosaic

/-! ### The conditions of a turn, on natural numbers -/

def over (r lo hi : ℕ) : Prop := lo < r + 512 ∧ r < hi
def begins (t lo : ℕ) : Prop := 512 * t ≤ lo ∧ (lo < 512 * t + 512 ∨ t = 95)
def active (t lo hi : ℕ) : Prop := over (512 * t) lo hi ∨ lo = hi ∧ begins t lo
instance (r lo hi : ℕ) : Decidable (over r lo hi) := inferInstanceAs (Decidable (_ ∧ _))
instance (t lo : ℕ) : Decidable (begins t lo) := inferInstanceAs (Decidable (_ ∧ _))
instance (t lo hi : ℕ) : Decidable (active t lo hi) := inferInstanceAs (Decidable (_ ∨ _))

theorem condW_one (b : BitVec 1) : condW b = 1#1 ↔ b = 1#1 := by revert b; decide
theorem and_one (a b : BitVec 1) : Scalar.andi a b = 1#1 ↔ a = 1#1 ∧ b = 1#1 := by revert a b; decide
theorem or_one (a b : BitVec 1) : Scalar.ori a b = 1#1 ↔ a = 1#1 ∨ b = 1#1 := by revert a b; decide
theorem not_one (a : BitVec 1) : Scalar.xori a 1#1 = 1#1 ↔ ¬ a = 1#1 := by revert a; decide

theorem toInt_small {a : ℕ} (h : a ≤ 100000) : (BitVec.ofNat 32 a).toInt = (a : ℤ) := WordCmp.toInt_ofNat_of_lt (by omega)
theorem lt_one {a b : ℕ} (ha : a ≤ 100000) (hb : b ≤ 100000) : Scalar.cmpi .slt (BitVec.ofNat 32 a) (BitVec.ofNat 32 b) = 1#1 ↔ a < b := by
  show BitVec.ofBool (decide ((BitVec.ofNat 32 a).toInt < (BitVec.ofNat 32 b).toInt)) = 1#1 ↔ _
  rw [toInt_small ha, toInt_small hb, WordCmp.ofBool_decide_eq_one_iff, Int.ofNat_lt]
theorem gt_one {a b : ℕ} (ha : a ≤ 100000) (hb : b ≤ 100000) : Scalar.cmpi .sgt (BitVec.ofNat 32 a) (BitVec.ofNat 32 b) = 1#1 ↔ b < a :=
  lt_one hb ha
theorem le_one {a b : ℕ} (ha : a ≤ 100000) (hb : b ≤ 100000) : Scalar.cmpi .sle (BitVec.ofNat 32 a) (BitVec.ofNat 32 b) = 1#1 ↔ a ≤ b := by
  show BitVec.ofBool (decide ((BitVec.ofNat 32 a).toInt ≤ (BitVec.ofNat 32 b).toInt)) = 1#1 ↔ _
  rw [toInt_small ha, toInt_small hb, WordCmp.ofBool_decide_eq_one_iff, Int.ofNat_le]
theorem ge_one {a b : ℕ} (ha : a ≤ 100000) (hb : b ≤ 100000) : Scalar.cmpi .sge (BitVec.ofNat 32 a) (BitVec.ofNat 32 b) = 1#1 ↔ b ≤ a :=
  le_one hb ha
theorem eq_one {a b : ℕ} (ha : a ≤ 100000) (hb : b ≤ 100000) : Scalar.cmpi .eq (BitVec.ofNat 32 a) (BitVec.ofNat 32 b) = 1#1 ↔ a = b := by
  show BitVec.ofBool (decide (BitVec.ofNat 32 a = BitVec.ofNat 32 b)) = 1#1 ↔ _
  rw [WordCmp.ofBool_decide_eq_one_iff, WordCmp.ofNat_eq_ofNat_iff (by omega) (by omega)]

theorem add_nat (a b : ℕ) : Scalar.addi (BitVec.ofNat 32 a) (BitVec.ofNat 32 b) = BitVec.ofNat 32 (a + b) := (BitVec.ofNat_add ..).symm
theorem row0_eq (t : ℕ) : row0 t = BitVec.ofNat 32 (512 * t) := by
  rw [mul_comm]; exact (BitVec.ofNat_mul ..).symm
theorem last0_one {t : ℕ} (h : t < 96) : last0 t = 1#1 ↔ t = 95 := eq_one (b := 95) (by omega) (by omega)

section Cond
variable {t lo hi : ℕ} (ht : t < 96) (hlo : lo ≤ 49152) (hhi : hi ≤ 49152)
include ht hlo hhi

theorem end_eq : Scalar.addi (BitVec.ofNat 32 (512 * t)) 512#32 = BitVec.ofNat 32 (512 * t + 512) := add_nat (512 * t) 512
theorem overC_one : overC (row0 t) (BitVec.ofNat 32 lo) (BitVec.ofNat 32 hi) = 1#1 ↔ over (512 * t) lo hi := by
  unfold overC over
  rw [row0_eq, end_eq ht hlo hhi, and_one, lt_one (by omega) (by omega), gt_one (by omega) (by omega)]
theorem beginC_one : beginC (row0 t) (last0 t) (BitVec.ofNat 32 lo) = 1#1 ↔ begins t lo := by
  unfold beginC begins
  rw [row0_eq, end_eq ht hlo hhi, and_one, or_one, ge_one (by omega) (by omega), lt_one (by omega) (by omega), last0_one ht]
theorem actC_one : actC (row0 t) (last0 t) (BitVec.ofNat 32 lo) (BitVec.ofNat 32 hi) = 1#1 ↔ active t lo hi := by
  unfold actC active
  rw [or_one, and_one, overC_one ht hlo hhi, beginC_one ht hlo hhi, eq_one (by omega) (by omega)]
theorem coverC_one : coverC (row0 t) (BitVec.ofNat 32 lo) (BitVec.ofNat 32 hi) = 1#1 ↔ lo ≤ 512 * t ∧ 512 * t + 512 ≤ hi := by
  unfold coverC
  rw [row0_eq, end_eq ht hlo hhi, and_one, le_one (by omega) (by omega), ge_one (by omega) (by omega)]
theorem zeroC_one : zeroC (row0 t) (last0 t) (BitVec.ofNat 32 lo) (BitVec.ofNat 32 hi) = 1#1 ↔ active t lo hi ∧ begins t lo := by
  unfold zeroC; rw [condW_one, and_one, actC_one ht hlo hhi, beginC_one ht hlo hhi]
theorem fullC_one : fullC (row0 t) (BitVec.ofNat 32 lo) (BitVec.ofNat 32 hi) = 1#1 ↔ over (512 * t) lo hi ∧ lo ≤ 512 * t ∧ 512 * t + 512 ≤ hi := by
  unfold fullC; rw [condW_one, and_one, overC_one ht hlo hhi, coverC_one ht hlo hhi]
theorem maskC_one : maskC (row0 t) (BitVec.ofNat 32 lo) (BitVec.ofNat 32 hi) = 1#1 ↔ over (512 * t) lo hi ∧ ¬ (lo ≤ 512 * t ∧ 512 * t + 512 ≤ hi) := by
  unfold maskC; rw [condW_one, and_one, not_one, overC_one ht hlo hhi, coverC_one ht hlo hhi]
theorem flushC_one : flushC (row0 t) (last0 t) (BitVec.ofNat 32 lo) (BitVec.ofNat 32 hi) = 1#1 ↔ active t lo hi ∧ hi ≤ 512 * t + 512 := by
  unfold flushC
  rw [condW_one, and_one, actC_one ht hlo hhi, row0_eq, end_eq ht hlo hhi, le_one (by omega) (by omega)]

/-- The row mask of a tile. -/
theorem mask_one (l : ℕ) (hl : l < 512) : IntOp.andi (IntOp.cmpi .sge (IntOp.addi (row0 t) (BitVec.ofNat 32 l)) (BitVec.ofNat 32 lo))
    (IntOp.cmpi .slt (IntOp.addi (row0 t) (BitVec.ofNat 32 l)) (BitVec.ofNat 32 hi)) = 1#1 ↔ lo ≤ 512 * t + l ∧ 512 * t + l < hi := by
  rw [row0_eq, show IntOp.addi (BitVec.ofNat 32 (512 * t)) (BitVec.ofNat 32 l) = BitVec.ofNat 32 (512 * t + l) from add_nat _ _]
  exact (and_one _ _).trans (and_congr (ge_one (by omega) (by omega)) (lt_one (by omega) (by omega)))
end Cond

/-! ### Partial products -/

variable {W Z : ℕ → ℕ → EReal}

theorem part_step (lo hi R i j : ℕ) : partA lo hi W Z (R + 512) i j
    = partA lo hi W Z R i j + ∑ k : Fin 512, maskA lo hi W (R + k.val) i * Z (R + k.val) j := by
  unfold partA
  rw [Finset.sum_range_add, ← Finset.sum_range (fun k => maskA lo hi W (R + k) i * Z (R + k) j)]
theorem part_before {lo hi R : ℕ} (h : R ≤ lo) (i j : ℕ) : partA lo hi W Z R i j = 0 := by
  refine Finset.sum_eq_zero fun r hr => ?_
  have := Finset.mem_range.1 hr
  rw [maskA, if_neg (by omega), zero_mul]
theorem part_empty (lo R i j : ℕ) : partA lo lo W Z R i j = 0 := by
  refine Finset.sum_eq_zero fun r _ => ?_
  rw [maskA, if_neg (by omega), zero_mul]
theorem part_after {lo hi R R' : ℕ} (h : hi ≤ R) (h' : R ≤ R') (i j : ℕ) : partA lo hi W Z R i j = partA lo hi W Z R' i j := by
  unfold partA
  refine Finset.sum_subset (Finset.range_mono h') fun r _ hr => ?_
  have : ¬ r < R := fun h => hr (Finset.mem_range.2 h)
  rw [maskA, if_neg (by omega), zero_mul]

/-! ### One turn -/

variable {t lo hi : ℕ} {x : FVec Ideal S1536x512 .bf16} {w : FVec Ideal S512x3072 .bf16}
  (hx : ∀ (r : Fin 512) (l : Fin 1536), x (ix2 l r) = W (512 * t + r.val) l.val)
  (hw : ∀ (r : Fin 512) (l : Fin 3072), w (ix2 r l) = Z (512 * t + r.val) l.val)

abbrev St2 := (S1536x3072.Idx → EReal) × (S8x1536x3072.Idx → EReal)

/-- The turn with its conditions read as naturals. -/
theorem turn_inactive (ht : t < 96) (hlo : lo ≤ 49152) (hhi : hi ≤ 49152) (k : ℕ) (s : St2) (h : ¬ active t lo hi) :
    stepE (F := Ideal) (row0 t) (last0 t) k (BitVec.ofNat 32 lo) (BitVec.ofNat 32 hi) x w s = s := by
  have ho : ¬ over (512 * t) lo hi := fun h' => h (.inl h')
  unfold stepE
  dsimp only
  rw [if_neg (by rw [maskC_one ht hlo hhi]; tauto), if_neg (by rw [fullC_one ht hlo hhi]; tauto),
    if_neg (by rw [zeroC_one ht hlo hhi]; tauto), if_neg (by rw [flushC_one ht hlo hhi]; tauto)]

include hx hw in
theorem turn_active (ht : t < 96) (hlo : lo ≤ 49152) (hhi : hi ≤ 49152) (k : ℕ) (s : St2) (h : active t lo hi)
    (hs : lo < 512 * t → 512 * t < hi → ∀ (i : Fin 1536) (j : Fin 3072), s.1 (ix2 i j) = partA lo hi W Z (512 * t) i.val j.val)
    (i : Fin 1536) (j : Fin 3072) :
    (stepE (F := Ideal) (row0 t) (last0 t) k (BitVec.ofNat 32 lo) (BitVec.ofNat 32 hi) x w s).1 (ix2 i j) = partA lo hi W Z (512 * t + 512) i.val j.val := by
  unfold stepE
  dsimp only
  have base : (if zeroC (row0 t) (last0 t) (BitVec.ofNat 32 lo) (BitVec.ofNat 32 hi) = 1#1 then k0_pay7 (F := Ideal) else s.1) (ix2 i j) = partA lo hi W Z (512 * t) i.val j.val := by
    split
    · rename_i hz
      rw [zeroC_one ht hlo hhi] at hz
      rw [pay7_at, part_before hz.2.1]
    · rename_i hz
      rw [zeroC_one ht hlo hhi] at hz
      unfold active at h hz; unfold over begins at h hz
      exact hs (by omega) (by omega) i j
  generalize (if zeroC (row0 t) (last0 t) (BitVec.ofNat 32 lo) (BitVec.ofNat 32 hi) = 1#1 then k0_pay7 (F := Ideal) else s.1) = a at base
  rw [part_step, ← base]
  by_cases ho : over (512 * t) lo hi
  · by_cases hc : lo ≤ 512 * t ∧ 512 * t + 512 ≤ hi
    · rw [if_neg (by rw [maskC_one ht hlo hhi]; tauto), if_pos (by rw [fullC_one ht hlo hhi]; tauto), accT_at]
      congr 1
      refine Finset.sum_congr rfl fun r _ => ?_
      rw [hx, hw, maskA, if_pos (by omega)]
    · rw [if_pos (by rw [maskC_one ht hlo hhi]; tauto), if_neg (by rw [fullC_one ht hlo hhi]; tauto), accT_at]
      congr 1
      refine Finset.sum_congr rfl fun r _ => ?_
      rw [maskT_at, hx, hw, maskA]
      congr 1
      unfold Scalar.select
      exact if_congr (mask_one ht hlo hhi r.val r.isLt) rfl rfl
  · rw [if_neg (by rw [maskC_one ht hlo hhi]; tauto), if_neg (by rw [fullC_one ht hlo hhi]; tauto)]
    have e : lo = hi := by unfold active at h; tauto
    subst e
    have z := part_step (W := W) (Z := Z) lo lo (512 * t) i.val j.val
    rw [part_empty, part_empty, zero_add] at z
    rw [← z, add_zero]

/-- The stored result after a turn: expert `k`'s matrix when its group closes here. -/
theorem turn_store (ht : t < 96) (hlo : lo ≤ 49152) (hhi : hi ≤ 49152) (k : ℕ) (s : St2) (e : Fin 8) (i : Fin 1536) (j : Fin 3072) :
    (stepE (F := Ideal) (row0 t) (last0 t) k (BitVec.ofNat 32 lo) (BitVec.ofNat 32 hi) x w s).2 (ix3 e i j)
      = if (active t lo hi ∧ hi ≤ 512 * t + 512) ∧ e.val = k
        then (stepE (F := Ideal) (row0 t) (last0 t) k (BitVec.ofNat 32 lo) (BitVec.ofNat 32 hi) x w s).1 (ix2 i j) else s.2 (ix3 e i j) := by
  unfold stepE
  dsimp only
  generalize (if maskC (row0 t) (BitVec.ofNat 32 lo) (BitVec.ofNat 32 hi) = 1#1 then _ else _) = a
  by_cases h : active t lo hi ∧ hi ≤ 512 * t + 512
  · rw [if_pos ((flushC_one ht hlo hhi).2 h)]
    show (if e.val = k then a (ix2 i j) else s.2 (ix3 e i j)) = _
    exact if_congr (by tauto) rfl rfl
  · rw [if_neg (by rw [flushC_one ht hlo hhi]; exact h), if_neg (by tauto)]

/-! ### Every turn of every tile -/

variable (o : ℕ → ℕ) (W Z)

/-- Rows seen by expert `e` after `n` turns in tile `t`. -/
def seen (t n e : ℕ) : ℕ := 512 * t + if e < n then 512 else 0

/-- The accumulator holds the open group's product so far; every closed group's product is stored. -/
structure Inv (t n : ℕ) (s : St2) : Prop where
  acc : ∀ e, e < 8 → o e < seen t n e → seen t n e < o (e + 1) →
    ∀ (i : Fin 1536) (j : Fin 3072), s.1 (ix2 i j) = partA (o e) (o (e + 1)) W Z (seen t n e) i.val j.val
  out : ∀ e : Fin 8, o (e.val + 1) ≤ seen t n e.val → (o e.val < seen t n e.val ∨ 49152 ≤ seen t n e.val) →
    ∀ (i : Fin 1536) (j : Fin 3072), s.2 (ix3 e i j) = partA (o e.val) (o (e.val + 1)) W Z 49152 i.val j.val

variable {o W Z}
variable (hmono : ∀ a b, a ≤ b → b ≤ 8 → o a ≤ o b) (htop : o 8 ≤ 49152)
include hmono htop hx hw

theorem inv_step (ht : t < 96) {n : ℕ} (hn : n < 8) {s : St2} (h : Inv W Z o t n s) :
    Inv W Z o t (n + 1) (stepE (F := Ideal) (row0 t) (last0 t) n (BitVec.ofNat 32 (o n)) (BitVec.ofNat 32 (o (n + 1))) x w s) := by
  have hlo : o n ≤ 49152 := (hmono n 8 (by omega) le_rfl).trans htop
  have hhi : o (n + 1) ≤ 49152 := (hmono (n + 1) 8 (by omega) le_rfl).trans htop
  have hlh : o n ≤ o (n + 1) := hmono _ _ (by omega) (by omega)
  have hsn : seen t n n = 512 * t := by simp [seen]
  have hsn' : seen t (n + 1) n = 512 * t + 512 := by simp [seen]
  have hse : ∀ e, e ≠ n → seen t (n + 1) e = seen t n e := fun e he => by unfold seen; congr 1; exact if_congr (by omega) rfl rfl
  constructor
  · intro e he h1 h2 i j
    by_cases hen : e = n
    · subst hen
      rw [hsn'] at h1 h2 ⊢
      exact turn_active hx hw ht hlo hhi e s (.inl ⟨h1, by omega⟩) (fun a b => by have := h.acc e he; rw [hsn] at this; exact this a b) i j
    · rw [hse e hen] at h1 h2 ⊢
      rw [turn_inactive ht hlo hhi]
      · exact h.acc e he h1 h2 i j
      · unfold active over begins
        unfold seen at h1 h2
        rcases Nat.lt_or_gt_of_ne hen with hlt | hgt
        · rw [if_pos hlt] at h1 h2
          have := hmono (e + 1) n (by omega) (by omega)
          omega
        · rw [if_neg (by omega)] at h1 h2
          have := hmono (n + 1) e (by omega) (by omega)
          omega
  · intro e h1 h2 i j
    rw [turn_store ht hlo hhi]
    by_cases hen : e.val = n
    · have hE := h.out e
      rw [hen] at h1 h2 hE ⊢
      rw [hsn'] at h1 h2
      rw [hsn] at hE
      by_cases ha : active t (o n) (o (n + 1))
      · rw [if_pos ⟨⟨ha, h1⟩, rfl⟩, turn_active hx hw ht hlo hhi n s ha (fun a b => by have := h.acc n hn; rw [hsn] at this; exact this a b) i j]
        exact part_after h1 (by omega) _ _
      · rw [if_neg (by tauto)]
        unfold active over begins at ha
        exact hE (by omega) (by omega) i j
    · rw [if_neg (by tauto)]
      rw [hse _ hen] at h1 h2
      exact h.out e h1 h2 i j

theorem inv_turns {T : S9.Idx → BitVec 32} (hT : ∀ n, n ≤ 8 → ent T n = BitVec.ofNat 32 (o n)) (ht : t < 96) {s : St2} (h : Inv W Z o t 0 s) :
    ∀ n, n ≤ 8 → Inv W Z o t n (turns (F := Ideal) t T x w s n)
  | 0, _ => h
  | n + 1, hn => by
    have ih := inv_turns hT ht h n (by omega)
    unfold turns
    rw [hT n (by omega), hT (n + 1) hn]
    exact inv_step hx hw hmono htop ht (by omega) ih

omit hx hw hmono htop in
theorem inv_next {s : St2} (h : Inv W Z o t 8 s) : Inv W Z o (t + 1) 0 s := by
  have e : ∀ e, e < 8 → seen (t + 1) 0 e = seen t 8 e := fun e he => by unfold seen; rw [if_neg (by omega), if_pos he]; ring
  constructor
  · intro k hk h1 h2 i j
    rw [e k hk] at h1 h2 ⊢
    exact h.acc k hk h1 h2 i j
  · intro k h1 h2 i j
    rw [e k k.isLt] at h1 h2
    exact h.out k h1 h2 i j

omit hx hw hmono htop in
theorem inv_init (s : St2) : Inv W Z o 0 0 s := by
  constructor
  · intro k _ h1 _ i j; simp [seen] at h1
  · intro k _ h2 i j; simp [seen] at h2

omit hx hw in
theorem inv_done {s : St2} (h : Inv W Z o 96 0 s) (e : Fin 8) (i : Fin 1536) (j : Fin 3072) :
    s.2 (ix3 e i j) = partA (o e.val) (o (e.val + 1)) W Z 49152 i.val j.val := by
  have hs : seen 96 0 e.val = 49152 := by simp [seen]
  have := (hmono (e.val + 1) 8 (by have := e.isLt; omega) le_rfl).trans htop
  exact h.out e (by omega) (by omega) i j

end Cert.KernelIdeal.Hand
-- ==== Proof.KI.Value.lean ====
/- The five results of the kernel's run, over the extended reals. -/
module

public import proofs.«01_k».proof.Proof.KI.Groups
public import proofs.«01_k».proof.Proof.KI.Frame
public import Idealize.ShloMosaic.Lib.Pipeline.ValueKit.Geometry
public import Idealize.ShloMosaic.Lib.Routing.Ops

@[expose] public section

set_option maxRecDepth 16384

noncomputable section

namespace Cert.KernelIdeal.Hand

open Cert.KernelIdeal Cert.KernelIdeal.Gen Cert.Spec
open Idealize.ShloMosaic Idealize.ShloMosaic.TcCoe

variable (m : (ℓ : Loc nD τ sig) → Buf (Elt Ideal) ℓ) (c : Dev nD)

abbrev xArg : S49152x1536.Idx → EReal := m ((c : Thread nD τ).loc main_arg0)
abbrev yArg : S49152x3072.Idx → EReal := m ((c : Thread nD τ).loc main_arg1)
abbrev gArg : S8.Idx → BitVec 32 := m ((c : Thread nD τ).loc main_arg2)

/-! ### The offsets -/

theorem T_eq : T m c = concatenate S9 0 [⟨S1, (broadcastInDim S1 ![] bcast_S_S1 : (⟨S_, .i32⟩ : BufTy).Contents (Elt Ideal) → (⟨S1, .i32⟩ : BufTy).Contents (Elt Ideal)) (constantI S_ 32 0#32)⟩,
    ⟨S8, Host.reduceWindow IntOp.addi ![8] ![1] ![7] ![0] (gArg m c) (broadcastInDim S_ ![] bcast_S_S_ (constantI S_ 32 0#32)) reduceWindows_S8_S8_w8s1p7_0 h_S_⟩] concatenates_S1_S8_S9_d0 := rfl

theorem ent_off (n : ℕ) (hn : n ≤ 8) : ent (T m c) n = BitVec.ofNat 32 (off (gArg m c) n) := by
  unfold ent
  rw [dif_pos (by omega), T_eq]
  have hc : ∀ j : Fin 8, Host.reduceWindow IntOp.addi ![8] ![1] ![7] ![0] (gArg m c) (broadcastInDim S_ ![] bcast_S_S_ (constantI S_ 32 0#32)) reduceWindows_S8_S8_w8s1p7_0 h_S_ (ix1 j)
      = BitVec.ofNat 32 (off (gArg m c) (j.val + 1)) := fun j =>
    Routing.cumsum1 (N := 8) (Nm1 := 7) rfl (gArg m c) (sizeN (gArg m c)) (fun i => by unfold sizeN; rw [dif_pos i.isLt, BitVec.ofNat_toNat, BitVec.setWidth_eq]; rfl) _ rfl _ _ j
  generalize Host.reduceWindow IntOp.addi ![8] ![1] ![7] ![0] (gArg m c) (broadcastInDim S_ ![] bcast_S_S_ (constantI S_ 32 0#32)) reduceWindows_S8_S8_w8s1p7_0 h_S_ = z at hc ⊢
  pointwise
  split
  · rw [show n = 0 by omega]; rfl
  · rw [hc]; exact congrArg (fun k => BitVec.ofNat 32 (off (gArg m c) k)) (show n - 1 + 1 = n by omega)

/-! ### The expert matrices -/

theorem xAt_at (n : ℕ) (hn : n < 96) (r : Fin 512) (l : Fin 1536) : xAt m c n (ix2 r l) = nat2 (xArg m c) (512 * n + r.val) l.val := by
  rw [nat2_at _ (by omega) l.isLt]
  unfold xAt
  rw [V_arg m c main_arg0 (.inl rfl)]
  refine congrArg (xArg m c) ?_
  have e : (512 * n + r.val) % 49152 = 512 * n + r.val := Nat.mod_eq_of_lt (by omega)
  exact congrArg (fun z => ix2 z l) (Fin.ext e)
theorem yAt_at (n : ℕ) (hn : n < 96) (r : Fin 512) (l : Fin 3072) : yAt m c n (ix2 r l) = nat2 (yArg m c) (512 * n + r.val) l.val := by
  rw [nat2_at _ (by omega) l.isLt]
  unfold yAt
  rw [V_arg m c main_arg1 (.inr (.inl rfl))]
  refine congrArg (yArg m c) ?_
  have e : (512 * n + r.val) % 49152 = 512 * n + r.val := Nat.mod_eq_of_lt (by omega)
  exact congrArg (fun z => ix2 z l) (Fin.ext e)

variable {m c} (hg : Good (xArg m c) (yArg m c) (gArg m c))
include hg

theorem tiles_inv (s : St2) : ∀ n, n ≤ 96 → Inv (wideX (xArg m c)) (wideY (yArg m c)) (off (gArg m c)) n 0 (tiles m c s n)
  | 0, _ => inv_init _
  | n + 1, hn => by
    unfold tiles
    exact inv_next (inv_turns (fun r l => xtT_at hg.fx (by omega) (fun r l => xAt_at m c n (by omega) r l) r l)
      (fun r l => ywT_at hg.fy (by omega) (fun r l => yAt_at m c n (by omega) r l) r l)
      (fun a b h _ => off_mono _ h) hg.top (ent_off m c) (by omega) (tiles_inv s n (by omega)) 8 le_rfl)

theorem dw_eq (s : St2) : (tiles m c s 96).2 = resD (gArg m c) (xArg m c) (yArg m c) := by
  funext z
  rw [eq_ix3 z]
  exact inv_done (fun a b h _ => off_mono _ h) hg.top (tiles_inv hg s 96 le_rfl) _ _ _
omit hg

/-! ### The codes and the scales -/

theorem flush_all (w : Fin (cfgM m).W) (h0 : ((cfgM m).win w).isOut = true) (a : Fin ((cfgM m).win w).shape.rank)
    (h : ∀ t, ((cfgM m).win w).index t a = t.val) (t : Fin (cfgM m).N) : ((cfgM m).win w).flush t = true := by
  unfold Pipeline.Window.flush
  rw [h0, Bool.true_and, Bool.or_eq_true, decide_eq_true_iff, decide_eq_true_iff]
  by_cases ht : t.val + 1 = (cfgM m).grid.N
  · exact Or.inl ht
  · refine Or.inr ⟨Nat.lt_of_le_of_ne t.isLt ht, fun e => ?_⟩
    have := congrFun e a
    rw [h, h] at this
    dsimp only at this
    omega

/-- Blocks of whole rows, one per tile, cover the array. -/
theorem covers (w : Fin (cfgM m).W) (h0 : ((cfgM m).win w).isOut = true) (a : Fin ((cfgM m).win w).shape.rank)
    (h : ∀ t, ((cfgM m).win w).index t a = t.val) (h' : ∀ t b, b ≠ a → ((cfgM m).win w).index t b = 0)
    (hs : ∀ b, 0 < ((cfgM m).win w).size b) (hx : ∀ t b, ((cfgM m).win w).xsize ((cfgM m).grid.coords t) b = ((cfgM m).win w).size b)
    (hn : ∀ b, ((cfgM m).win w).nblk b = if b = a then (cfgM m).grid.N else 1) : ((cfgM m).win w).Covers := by
  refine ⟨hs, fun β => ⟨⟨(β a).val, ?_⟩, flush_all w h0 a h _, fun b => ⟨?_, .inl (hx _ b)⟩⟩⟩
  · have := (β a).isLt; have e := hn a; rw [if_pos rfl] at e; omega
  · by_cases hb : b = a
    · subst hb; exact h _
    · rw [h' _ b hb]
      have := (β b).isLt; have e := hn b; rw [if_neg hb] at e; omega

theorem index2 (t : Fin (cfgM m).N) : ((cfgM m).win 2).index t = ![t.val, 0] := by
  show ![(BitVec.ofNat 32 (grid0.coords t 0).val).toNat, (0#32).toNat] = _
  rw [idx0]; rfl
theorem covers2 : ((cfgM m).win 2).Covers := by
  refine covers 2 rfl (0 : Fin 2) (fun t => by rw [index2]; rfl) (fun t b hb => ?_) ?_ (fun t b => rfl) ?_
  · rw [index2]
    match b, hb with
    | ⟨1, _⟩, _ => rfl
    | ⟨0, _⟩, hb => exact absurd rfl hb
  · exact (by decide : ∀ b : Fin 2, 0 < (![512, 1536] : Fin 2 → ℕ) b)
  · exact (by decide : ∀ b : Fin 2, ((![49152, 1536] : Fin 2 → ℕ) b + (![512, 1536] : Fin 2 → ℕ) b - 1) / (![512, 1536] : Fin 2 → ℕ) b = if b = 0 then 96 else 1)
include hg in
theorem arr2 : (dats m 0 c).arrAt 2 (cfgM m).N = resC 0x3B124925#32 0xC3E00000#32 0x43E00000#32 (xArg m c) := by
  refine (dats m 0 c).arrAt_eq_of_covers 2 _ covers2 fun t hf y => ?_
  have ht := lt96 t
  show (dats m 0 c).after 2 t y = _
  rw [after2]
  revert y
  refine fun (y : (⟨2, ![512, 1536]⟩ : Shape).Idx) => ?_
  rw [eq_ix2 y]
  have h0 : (y 0).val < 512 := (y 0).isLt
  refine (xcT_at hg.fx ht (fun r l => xAt_at m c t.val ht r l) (y 0) (y 1)).trans ?_
  refine congrArg (resC 0x3B124925#32 0xC3E00000#32 0x43E00000#32 (xArg m c)) (a₁ := ix2 (n0 := 49152) (n1 := 1536) ⟨512 * t.val + (y 0).val, by omega⟩ (y 1)) (funext fun (a : Fin 2) => Fin.ext ?_)
  match a with
  | ⟨0, _⟩ =>
    show 512 * t.val + (y 0).val = (BitVec.ofNat 32 (grid0.coords t 0).val).toNat * 512 + 1 * (y 0).val
    rw [idx0]; omega
  | ⟨1, _⟩ =>
    show (y 1).val = (0#32).toNat * 1536 + 1 * (y 1).val
    rw [show (0#32).toNat = 0 from rfl]; omega

theorem index3 (t : Fin (cfgM m).N) : ((cfgM m).win 3).index t = ![t.val, 0] := by
  show ![(BitVec.ofNat 32 (grid0.coords t 0).val).toNat, (0#32).toNat] = _
  rw [idx0]; rfl
theorem covers3 : ((cfgM m).win 3).Covers := by
  refine covers 3 rfl (0 : Fin 2) (fun t => by rw [index3]; rfl) (fun t b hb => ?_) ?_ (fun t b => rfl) ?_
  · rw [index3]
    match b, hb with
    | ⟨1, _⟩, _ => rfl
    | ⟨0, _⟩, hb => exact absurd rfl hb
  · exact (by decide : ∀ b : Fin 2, 0 < (![16, 1536] : Fin 2 → ℕ) b)
  · exact (by decide : ∀ b : Fin 2, ((![1536, 1536] : Fin 2 → ℕ) b + (![16, 1536] : Fin 2 → ℕ) b - 1) / (![16, 1536] : Fin 2 → ℕ) b = if b = 0 then 96 else 1)
include hg in
theorem arr3 : (dats m 0 c).arrAt 3 (cfgM m).N = resS (B := 1536) 0x3B124925#32 (xArg m c) := by
  refine (dats m 0 c).arrAt_eq_of_covers 3 _ covers3 fun t hf y => ?_
  have ht := lt96 t
  show (dats m 0 c).after 3 t y = _
  rw [after3]
  revert y
  refine fun (y : (⟨2, ![16, 1536]⟩ : Shape).Idx) => ?_
  rw [eq_ix2 y]
  have h0 : (y 0).val < 16 := (y 0).isLt
  refine (xsT_at hg.fx ht (fun r l => xAt_at m c t.val ht r l) (y 0) (y 1)).trans ?_
  refine congrArg (resS (B := 1536) 0x3B124925#32 (xArg m c)) (a₁ := ix2 (n0 := 1536) (n1 := 1536) ⟨16 * t.val + (y 0).val, by omega⟩ (y 1)) (funext fun (a : Fin 2) => Fin.ext ?_)
  match a with
  | ⟨0, _⟩ =>
    show 16 * t.val + (y 0).val = (BitVec.ofNat 32 (grid0.coords t 0).val).toNat * 16 + 1 * (y 0).val
    rw [idx0]; omega
  | ⟨1, _⟩ =>
    show (y 1).val = (0#32).toNat * 1536 + 1 * (y 1).val
    rw [show (0#32).toNat = 0 from rfl]; omega

theorem index4 (t : Fin (cfgM m).N) : ((cfgM m).win 4).index t = ![t.val, 0] := by
  show ![(BitVec.ofNat 32 (grid0.coords t 0).val).toNat, (0#32).toNat] = _
  rw [idx0]; rfl
theorem covers4 : ((cfgM m).win 4).Covers := by
  refine covers 4 rfl (0 : Fin 2) (fun t => by rw [index4]; rfl) (fun t b hb => ?_) ?_ (fun t b => rfl) ?_
  · rw [index4]
    match b, hb with
    | ⟨1, _⟩, _ => rfl
    | ⟨0, _⟩, hb => exact absurd rfl hb
  · exact (by decide : ∀ b : Fin 2, 0 < (![512, 3072] : Fin 2 → ℕ) b)
  · exact (by decide : ∀ b : Fin 2, ((![49152, 3072] : Fin 2 → ℕ) b + (![512, 3072] : Fin 2 → ℕ) b - 1) / (![512, 3072] : Fin 2 → ℕ) b = if b = 0 then 96 else 1)
include hg in
theorem arr4 : (dats m 0 c).arrAt 4 (cfgM m).N = resC 0x37924925#32 0xC7600000#32 0x47600000#32 (yArg m c) := by
  refine (dats m 0 c).arrAt_eq_of_covers 4 _ covers4 fun t hf y => ?_
  have ht := lt96 t
  show (dats m 0 c).after 4 t y = _
  rw [after4]
  revert y
  refine fun (y : (⟨2, ![512, 3072]⟩ : Shape).Idx) => ?_
  rw [eq_ix2 y]
  have h0 : (y 0).val < 512 := (y 0).isLt
  refine (ycT_at hg.fy ht (fun r l => yAt_at m c t.val ht r l) (y 0) (y 1)).trans ?_
  refine congrArg (resC 0x37924925#32 0xC7600000#32 0x47600000#32 (yArg m c)) (a₁ := ix2 (n0 := 49152) (n1 := 3072) ⟨512 * t.val + (y 0).val, by omega⟩ (y 1)) (funext fun (a : Fin 2) => Fin.ext ?_)
  match a with
  | ⟨0, _⟩ =>
    show 512 * t.val + (y 0).val = (BitVec.ofNat 32 (grid0.coords t 0).val).toNat * 512 + 1 * (y 0).val
    rw [idx0]; omega
  | ⟨1, _⟩ =>
    show (y 1).val = (0#32).toNat * 3072 + 1 * (y 1).val
    rw [show (0#32).toNat = 0 from rfl]; omega

theorem index5 (t : Fin (cfgM m).N) : ((cfgM m).win 5).index t = ![t.val, 0] := by
  show ![(BitVec.ofNat 32 (grid0.coords t 0).val).toNat, (0#32).toNat] = _
  rw [idx0]; rfl
theorem covers5 : ((cfgM m).win 5).Covers := by
  refine covers 5 rfl (0 : Fin 2) (fun t => by rw [index5]; rfl) (fun t b hb => ?_) ?_ (fun t b => rfl) ?_
  · rw [index5]
    match b, hb with
    | ⟨1, _⟩, _ => rfl
    | ⟨0, _⟩, hb => exact absurd rfl hb
  · exact (by decide : ∀ b : Fin 2, 0 < (![16, 3072] : Fin 2 → ℕ) b)
  · exact (by decide : ∀ b : Fin 2, ((![1536, 3072] : Fin 2 → ℕ) b + (![16, 3072] : Fin 2 → ℕ) b - 1) / (![16, 3072] : Fin 2 → ℕ) b = if b = 0 then 96 else 1)
include hg in
theorem arr5 : (dats m 0 c).arrAt 5 (cfgM m).N = resS (B := 1536) 0x37924925#32 (yArg m c) := by
  refine (dats m 0 c).arrAt_eq_of_covers 5 _ covers5 fun t hf y => ?_
  have ht := lt96 t
  show (dats m 0 c).after 5 t y = _
  rw [after5]
  revert y
  refine fun (y : (⟨2, ![16, 3072]⟩ : Shape).Idx) => ?_
  rw [eq_ix2 y]
  have h0 : (y 0).val < 16 := (y 0).isLt
  refine (ysT_at hg.fy ht (fun r l => yAt_at m c t.val ht r l) (y 0) (y 1)).trans ?_
  refine congrArg (resS (B := 1536) 0x37924925#32 (yArg m c)) (a₁ := ix2 (n0 := 1536) (n1 := 3072) ⟨16 * t.val + (y 0).val, by omega⟩ (y 1)) (funext fun (a : Fin 2) => Fin.ext ?_)
  match a with
  | ⟨0, _⟩ =>
    show 16 * t.val + (y 0).val = (BitVec.ofNat 32 (grid0.coords t 0).val).toNat * 16 + 1 * (y 0).val
    rw [idx0]; omega
  | ⟨1, _⟩ =>
    show (y 1).val = (0#32).toNat * 3072 + 1 * (y 1).val
    rw [show (0#32).toNat = 0 from rfl]; omega

end Cert.KernelIdeal.Hand
-- ==== Proof.RI.Value.lean ====
/- What the reference's one point computes, over the extended reals. -/
module

public import proofs.«01_k».proof.Proof.Gen.ReferenceIdeal.Skeleton
public import proofs.«01_k».proof.Proof.KI.Groups

@[expose] public section

set_option maxRecDepth 16384

noncomputable section

namespace Cert.ReferenceIdeal.Hand

open Cert.ReferenceIdeal Cert.ReferenceIdeal.Gen Cert.Scale Cert.Spec
open Idealize.ShloMosaic
open Cert.KernelIdeal.Hand (and_one ge_one lt_one)

/-! ### Elementwise steps, at any shape -/

section
variable {s : Shape} (a : FVec Ideal s .bf16) (w u : FVec Ideal s .f32) (q lo hi : BitVec 32) (i : s.Idx)

/-- The scale's exponent at every entry. -/
def expoV : FVec Ideal s .f32 :=
  select (cmpf .olt w (broadcast s (Scalar.ofBits (F := Ideal) .f32 0x00800000#32))) (broadcast s (Scalar.ofBits (F := Ideal) .f32 0x00000000#32))
    (addf (floor (divf (log w) (log (broadcast s (Scalar.ofBits (F := Ideal) .f32 0x40000000#32))))) (broadcast s (Scalar.ofBits (F := Ideal) .f32 0x3F800000#32)))
theorem expoV_at : expoV w i = expo (w i) := rfl
theorem exp2_at : exp2 w i = Ideal.exp2 (w i) := rfl
theorem scaled_at : mulf (extf .f32 a bitsLt_bf16_f32) (broadcast s (Scalar.ofBits (F := Ideal) .f32 q)) i = a i * Ideal.ofBits .f32 q := rfl
theorem neg_at : exp2 (subf (broadcast s (Scalar.ofBits (F := Ideal) .f32 0x00000000#32)) w) i = Ideal.exp2 (-w i) := by
  refine congrArg Ideal.exp2 ?_
  show Ideal.ofBits .f32 0x00000000#32 - w i = _
  rw [Ideal.ofBits_zero_f32, zero_sub]
theorem clip_at : minimumf (broadcast s (Scalar.ofBits (F := Ideal) .f32 hi)) (maximumf (broadcast s (Scalar.ofBits (F := Ideal) .f32 lo)) (mulf (extf .f32 a bitsLt_bf16_f32) u)) i
    = min (Ideal.ofBits .f32 hi) (max (Ideal.ofBits .f32 lo) (a i * u i)) := rfl
end

/-! ### The quantiser: the first operand -/

section x
variable (v : FVec Ideal S49152x1536 .bf16)

/-- The largest magnitudes. -/
def xMax : FVec Ideal S1536x1536 .bf16 :=
  multiReduction .maximumf [1] S1536x1536 (absf (F := Ideal) (k0_pay3 (F := Ideal) v)) 0xFF80#16 reduces_S1536x32x1536_S1536x1536 (.inr rfl) rfl
/-- One value per block, laid over its rows. -/
def xOver {φ : FTy} (w : FVec Ideal S1536x1536 φ) : FVec Ideal S1536x32x1536 φ :=
  broadcastTo S1536x32x1536 (shapeCast S1536x1x1536 w shapeCasts_S1536x1536_S1536x1x1536) broadcasts_S1536x1x1536_S1536x32x1536

theorem pay4_eq : k0_pay4 (F := Ideal) v = expoV (mulf (extf .f32 (xMax v) bitsLt_bf16_f32) (broadcast S1536x1536 (Scalar.ofBits (F := Ideal) .f32 0x3B124925#32))) := rfl
theorem pay6_eq : k0_pay6 (F := Ideal) v = truncf .fp8e4m3 (minimumf (broadcast S1536x32x1536 (Scalar.ofBits (F := Ideal) .f32 0x43E00000#32))
    (maximumf (broadcast S1536x32x1536 (Scalar.ofBits (F := Ideal) .f32 0xC3E00000#32)) (mulf (extf .f32 (k0_pay3 (F := Ideal) v) bitsLt_bf16_f32)
      (xOver (exp2 (subf (broadcast S1536x1536 (Scalar.ofBits (F := Ideal) .f32 0x00000000#32)) (k0_pay4 (F := Ideal) v))))))) bitsLt_fp8e4m3_f32 := rfl
theorem pay8_eq : k0_pay8 (F := Ideal) v = shapeCast S49152x1536 (mulf (extf .bf16 (k0_pay6 (F := Ideal) v) bitsLt_fp8e4m3_bf16) (xOver (truncf .bf16 (k0_pay5 (F := Ideal) v) bitsLt_bf16_f32)))
    shapeCasts_S1536x32x1536_S49152x1536 := rfl

theorem xOver_at {φ : FTy} (w : FVec Ideal S1536x1536 φ) (b : Fin 1536) (r : Fin 32) (l : Fin 1536) : xOver w (ix3 b r l) = w (ix2 b l) := by
  unfold xOver
  pointwise
theorem xIn_at (b : Fin 1536) (r : Fin 32) (l : Fin 1536) : k0_pay3 (F := Ideal) v (ix3 b r l) = nat2 v (b.val * 32 + r.val) l.val := by
  unfold k0_pay3
  pointwise
  rw [nat2_at v (by omega) l.isLt]

theorem xMax_at (b : Fin 1536) (l : Fin 1536) : xMax v (ix2 b l) = amax (nat2 v) b.val l.val := by
  unfold xMax amax k0_pay3
  pointwise
  refine Finset.fold_congr fun k _ => ?_
  rw [nat2_at v (by omega) l.isLt]
  rfl
theorem xExpo_at (b : Fin 1536) (l : Fin 1536) : k0_pay4 (F := Ideal) v (ix2 b l) = expA 0x3B124925#32 (nat2 v) b.val l.val := by
  rw [pay4_eq, expoV_at, scaled_at, xMax_at]
  rfl
theorem xScale_at (b : Fin 1536) (l : Fin 1536) : k0_pay5 (F := Ideal) v (ix2 b l) = scaleA 0x3B124925#32 (nat2 v) b.val l.val := by
  unfold k0_pay5
  rw [exp2_at, xExpo_at]
  rfl
theorem xClip_at (b : Fin 1536) (r : Fin 32) (l : Fin 1536) : k0_pay6 (F := Ideal) v (ix3 b r l) = codeA 0x3B124925#32 0xC3E00000#32 0x43E00000#32 (nat2 v) (b.val * 32 + r.val) l.val := by
  rw [pay6_eq]
  refine (clip_at _ _ _ _ _).trans ?_
  rw [xOver_at, neg_at, xExpo_at, xIn_at]
  unfold codeA
  rw [show (b.val * 32 + r.val) / 32 = b.val by omega]

theorem xCode_at (r : Fin 49152) (l : Fin 1536) : k0_pay7 (F := Ideal) v (ix2 r l) = codeA 0x3B124925#32 0xC3E00000#32 0x43E00000#32 (nat2 v) r.val l.val := by
  unfold k0_pay7
  have h := xClip_at v
  generalize k0_pay6 (F := Ideal) v = w at h ⊢
  pointwise
  rw [h]
  exact congrArg (fun k => codeA 0x3B124925#32 0xC3E00000#32 0x43E00000#32 (nat2 v) k l.val) (show r.val / 32 * 32 + r.val % 32 = r.val by omega)

theorem xWide_at (r : Fin 49152) (l : Fin 1536) : k0_pay8 (F := Ideal) v (ix2 r l) = wideA 0x3B124925#32 0xC3E00000#32 0x43E00000#32 (nat2 v) r.val l.val := by
  rw [pay8_eq]
  have h := xClip_at v
  have hs := xScale_at v
  generalize k0_pay6 (F := Ideal) v = w at h ⊢
  generalize k0_pay5 (F := Ideal) v = s at hs ⊢
  have ho := xOver_at (φ := .bf16) (truncf .bf16 s bitsLt_bf16_f32)
  generalize xOver (φ := .bf16) (truncf .bf16 s bitsLt_bf16_f32) = o at ho ⊢
  pointwise
  rw [h, ho]
  unfold wideA
  have e : r.val / 32 * 32 + r.val % 32 = r.val := by omega
  simp only [e]
  exact congrArg _ (hs _ _)
end x

/-! ### The quantiser: the second operand -/

section y
variable (v : FVec Ideal S49152x3072 .bf16)

/-- The largest magnitudes. -/
def yMax : FVec Ideal S1536x3072 .bf16 :=
  multiReduction .maximumf [1] S1536x3072 (absf (F := Ideal) (k0_pay9 (F := Ideal) v)) 0xFF80#16 reduces_S1536x32x3072_S1536x3072 (.inr rfl) rfl
/-- One value per block, laid over its rows. -/
def yOver {φ : FTy} (w : FVec Ideal S1536x3072 φ) : FVec Ideal S1536x32x3072 φ :=
  broadcastTo S1536x32x3072 (shapeCast S1536x1x3072 w shapeCasts_S1536x3072_S1536x1x3072) broadcasts_S1536x1x3072_S1536x32x3072

theorem pay10_eq : k0_pay10 (F := Ideal) v = expoV (mulf (extf .f32 (yMax v) bitsLt_bf16_f32) (broadcast S1536x3072 (Scalar.ofBits (F := Ideal) .f32 0x37924925#32))) := rfl
theorem pay12_eq : k0_pay12 (F := Ideal) v = truncf .fp8e5m2 (minimumf (broadcast S1536x32x3072 (Scalar.ofBits (F := Ideal) .f32 0x47600000#32))
    (maximumf (broadcast S1536x32x3072 (Scalar.ofBits (F := Ideal) .f32 0xC7600000#32)) (mulf (extf .f32 (k0_pay9 (F := Ideal) v) bitsLt_bf16_f32)
      (yOver (exp2 (subf (broadcast S1536x3072 (Scalar.ofBits (F := Ideal) .f32 0x00000000#32)) (k0_pay10 (F := Ideal) v))))))) bitsLt_fp8e5m2_f32 := rfl
theorem pay14_eq : k0_pay14 (F := Ideal) v = shapeCast S49152x3072 (mulf (extf .bf16 (k0_pay12 (F := Ideal) v) bitsLt_fp8e5m2_bf16) (yOver (truncf .bf16 (k0_pay11 (F := Ideal) v) bitsLt_bf16_f32)))
    shapeCasts_S1536x32x3072_S49152x3072 := rfl

theorem yOver_at {φ : FTy} (w : FVec Ideal S1536x3072 φ) (b : Fin 1536) (r : Fin 32) (l : Fin 3072) : yOver w (ix3 b r l) = w (ix2 b l) := by
  unfold yOver
  pointwise
theorem yIn_at (b : Fin 1536) (r : Fin 32) (l : Fin 3072) : k0_pay9 (F := Ideal) v (ix3 b r l) = nat2 v (b.val * 32 + r.val) l.val := by
  unfold k0_pay9
  pointwise
  rw [nat2_at v (by omega) l.isLt]

theorem yMax_at (b : Fin 1536) (l : Fin 3072) : yMax v (ix2 b l) = amax (nat2 v) b.val l.val := by
  unfold yMax amax k0_pay9
  pointwise
  refine Finset.fold_congr fun k _ => ?_
  rw [nat2_at v (by omega) l.isLt]
  rfl
theorem yExpo_at (b : Fin 1536) (l : Fin 3072) : k0_pay10 (F := Ideal) v (ix2 b l) = expA 0x37924925#32 (nat2 v) b.val l.val := by
  rw [pay10_eq, expoV_at, scaled_at, yMax_at]
  rfl
theorem yScale_at (b : Fin 1536) (l : Fin 3072) : k0_pay11 (F := Ideal) v (ix2 b l) = scaleA 0x37924925#32 (nat2 v) b.val l.val := by
  unfold k0_pay11
  rw [exp2_at, yExpo_at]
  rfl
theorem yClip_at (b : Fin 1536) (r : Fin 32) (l : Fin 3072) : k0_pay12 (F := Ideal) v (ix3 b r l) = codeA 0x37924925#32 0xC7600000#32 0x47600000#32 (nat2 v) (b.val * 32 + r.val) l.val := by
  rw [pay12_eq]
  refine (clip_at _ _ _ _ _).trans ?_
  rw [yOver_at, neg_at, yExpo_at, yIn_at]
  unfold codeA
  rw [show (b.val * 32 + r.val) / 32 = b.val by omega]

theorem yCode_at (r : Fin 49152) (l : Fin 3072) : k0_pay13 (F := Ideal) v (ix2 r l) = codeA 0x37924925#32 0xC7600000#32 0x47600000#32 (nat2 v) r.val l.val := by
  unfold k0_pay13
  have h := yClip_at v
  generalize k0_pay12 (F := Ideal) v = w at h ⊢
  pointwise
  rw [h]
  exact congrArg (fun k => codeA 0x37924925#32 0xC7600000#32 0x47600000#32 (nat2 v) k l.val) (show r.val / 32 * 32 + r.val % 32 = r.val by omega)

theorem yWide_at (r : Fin 49152) (l : Fin 3072) : k0_pay14 (F := Ideal) v (ix2 r l) = wideA 0x37924925#32 0xC7600000#32 0x47600000#32 (nat2 v) r.val l.val := by
  rw [pay14_eq]
  have h := yClip_at v
  have hs := yScale_at v
  generalize k0_pay12 (F := Ideal) v = w at h ⊢
  generalize k0_pay11 (F := Ideal) v = s at hs ⊢
  have ho := yOver_at (φ := .bf16) (truncf .bf16 s bitsLt_bf16_f32)
  generalize yOver (φ := .bf16) (truncf .bf16 s bitsLt_bf16_f32) = o at ho ⊢
  pointwise
  rw [h, ho]
  unfold wideA
  have e : r.val / 32 * 32 + r.val % 32 = r.val := by omega
  simp only [e]
  exact congrArg _ (hs _ _)
end y

/-! ### The products -/

/-- The product of the rows whose number lies in `[a, b)`. -/
def prod (w : FVec Ideal S49152x1536 .bf16) (z : FVec Ideal S49152x3072 .bf16) (n : IVec S49152x1536 32) (a b : BitVec 32) : FVec Ideal S1x1536x3072 .f32 :=
  shapeCast S1x1536x3072 (matmul dot_S49152x1536_S49152x3072_S1536x3072_0_0_1_1_n_n none
    (select (andi (cmpi .sge n (broadcast S49152x1536 a)) (cmpi .slt n (broadcast S49152x1536 b))) w (broadcast S49152x1536 (Scalar.ofBits (F := Ideal) .bf16 0x0000#16))) z
    (constant S1536x3072 .f32 0x00000000#32)) shapeCasts_S1536x3072_S1x1536x3072

section
variable (w : FVec Ideal S49152x1536 .bf16) (z : FVec Ideal S49152x3072 .bf16) (n : IVec S49152x1536 32) (a b c d : BitVec 32)
theorem pay15_prod : k0_pay15 (F := Ideal) w z n b a = prod w z n a b := rfl
theorem pay16_prod : k0_pay16 (F := Ideal) w z n a b = prod w z n a (Scalar.addi a b) := rfl
theorem pay17_prod : k0_pay17 (F := Ideal) w z n a b c = prod w z n (Scalar.addi a b) (Scalar.addi (Scalar.addi a b) c) := rfl
theorem pay18_prod : k0_pay18 (F := Ideal) w z n a b = prod w z n a b := rfl
theorem pay19_prod : k0_pay19 (F := Ideal) w z n a b = prod w z n a (Scalar.addi a b) := rfl
theorem pay20_prod : k0_pay20 (F := Ideal) w z n a b c = prod w z n (Scalar.addi a b) (Scalar.addi (Scalar.addi a b) c) := rfl
theorem pay1_prod : k0_pay1 (F := Ideal) w z n a b = prod w z n a b := rfl
theorem pay2_prod : k0_pay2 (F := Ideal) w z n a b = prod w z n a (Scalar.addi a b) := rfl
end

theorem zero_bf16 : Scalar.ofBits (F := Ideal) .bf16 0x0000#16 = (0 : EReal) := Ideal.ofBits_zero_bf16

theorem prod_at {W Z : ℕ → ℕ → EReal} {w : FVec Ideal S49152x1536 .bf16} {z : FVec Ideal S49152x3072 .bf16}
    (hw : ∀ (r : Fin 49152) (i : Fin 1536), w (ix2 r i) = W r.val i.val) (hz : ∀ (r : Fin 49152) (j : Fin 3072), z (ix2 r j) = Z r.val j.val)
    {lo hi : ℕ} (hlo : lo ≤ 49152) (hhi : hi ≤ 49152) (i : Fin 1536) (j : Fin 3072) :
    prod w z (iota .tc S49152x1536 32 [0] iota_S49152x1536_d0_w32) (BitVec.ofNat 32 lo) (BitVec.ofNat 32 hi) (ix3 0 i j) = partA lo hi W Z 49152 i.val j.val := by
  unfold prod partA
  pointwise
  rw [← Fin.sum_univ_eq_sum_range (fun r => maskA lo hi W r i.val * Z r j.val)]
  refine Finset.sum_congr rfl fun r _ => ?_
  have hm : IntOp.andi (IntOp.cmpi .sge (BitVec.ofNat 32 r.val) (BitVec.ofNat 32 lo)) (IntOp.cmpi .slt (BitVec.ofNat 32 r.val) (BitVec.ofNat 32 hi)) = 1#1
      ↔ lo ≤ r.val ∧ r.val < hi := (and_one _ _).trans (and_congr (ge_one (by omega) (by omega)) (lt_one (by omega) (by omega)))
  unfold Scalar.select maskA
  rw [hw, hz]
  change (if _ = 1#1 then _ else _) = _
  by_cases h : lo ≤ r.val ∧ r.val < hi
  · rw [if_pos (hm.2 h), if_pos h]
  · rw [if_neg (mt hm.1 h), if_neg h, zero_mul]

end Cert.ReferenceIdeal.Hand
-- ==== Proof.RI.Arrays.lean ====
/- The five results of the reference's run, over the extended reals. -/
module

public import proofs.«01_k».proof.Proof.Gen.ReferenceIdeal.Value
public import proofs.«01_k».proof.Proof.RI.Value
public import Idealize.ShloMosaic.Lib.Pipeline.ValueKit
public import Idealize.ShloMosaic.Lib.Pipeline.ReadBack

@[expose] public section

set_option maxRecDepth 16384

noncomputable section

namespace Cert.ReferenceIdeal.Hand

open Cert.ReferenceIdeal Cert.ReferenceIdeal.Gen Cert.Spec
open Idealize.ShloMosaic Idealize.ShloMosaic.TcCoe

variable (m : (ℓ : Loc nD τ sig) → Buf (Elt Ideal) ℓ) (c : Dev nD)

abbrev xArg : S49152x1536.Idx → EReal := m ((c : Thread nD τ).loc main_arg0)
abbrev yArg : S49152x3072.Idx → EReal := m ((c : Thread nD τ).loc main_arg1)
abbrev gArg : S8.Idx → BitVec 32 := m ((c : Thread nD τ).loc main_arg2)

/-- The grid's one point. -/
def t0 : Fin cfg0.N := ⟨0, by decide⟩

/-! ### The one point's blocks are the arguments -/

theorem in0 : iblk m c 0 t0 = xArg m c := by
  funext j
  have e0 : win0_0.index t0 0 = 0 := by decide +kernel
  have e1 : win0_0.index t0 1 = 0 := by decide +kernel
  show _ = xArg m c j
  blk_ext [iblk, V] <;> omega
theorem in1 : iblk m c 1 t0 = yArg m c := by
  funext j
  have e0 : win0_1.index t0 0 = 0 := by decide +kernel
  have e1 : win0_1.index t0 1 = 0 := by decide +kernel
  show _ = yArg m c j
  blk_ext [iblk, V] <;> omega
theorem in2 : iblk m c 2 t0 = gArg m c := by
  funext j
  have e0 : win0_2.index t0 0 = 0 := by decide +kernel
  show _ = gArg m c j
  blk_ext [iblk, V] <;> omega

/-! ### The results -/

theorem arr4 : (dats m 0 c).arrAt 4 cfg0.N = resC 0x3B124925#32 0xC3E00000#32 0x43E00000#32 (xArg m c) := by
  refine (dats m 0 c).arrAt_eq_of_after_last 4 t0 (by decide +kernel) _ fun j => ?_
  blk_simp
  rw [after0_4]
  unfold outsAt0
  frame_out
  rw [read_unread_whole, in0]
  exact (congrArg (k0_pay7 (F := Ideal) (xArg m c)) (eq_ix2 (n0 := 49152) (n1 := 1536) j)).trans (xCode_at _ _ _)
theorem arr5 : (dats m 0 c).arrAt 5 cfg0.N = resS (B := 1536) 0x3B124925#32 (xArg m c) := by
  refine (dats m 0 c).arrAt_eq_of_after_last 5 t0 (by decide +kernel) _ fun j => ?_
  blk_simp
  rw [after0_5]
  unfold outsAt0
  frame_out
  rw [read_unread_whole, in0]
  exact (congrArg (k0_pay5 (F := Ideal) (xArg m c)) (eq_ix2 (n0 := 1536) (n1 := 1536) j)).trans (xScale_at _ _ _)
theorem arr6 : (dats m 0 c).arrAt 6 cfg0.N = resC 0x37924925#32 0xC7600000#32 0x47600000#32 (yArg m c) := by
  refine (dats m 0 c).arrAt_eq_of_after_last 6 t0 (by decide +kernel) _ fun j => ?_
  blk_simp
  rw [after0_6]
  unfold outsAt0
  frame_out
  rw [read_unread_whole, in1]
  exact (congrArg (k0_pay13 (F := Ideal) (yArg m c)) (eq_ix2 (n0 := 49152) (n1 := 3072) j)).trans (yCode_at _ _ _)
theorem arr7 : (dats m 0 c).arrAt 7 cfg0.N = resS (B := 1536) 0x37924925#32 (yArg m c) := by
  refine (dats m 0 c).arrAt_eq_of_after_last 7 t0 (by decide +kernel) _ fun j => ?_
  blk_simp
  rw [after0_7]
  unfold outsAt0
  frame_out
  rw [read_unread_whole, in1]
  exact (congrArg (k0_pay11 (F := Ideal) (yArg m c)) (eq_ix2 (n0 := 1536) (n1 := 3072) j)).trans (yScale_at _ _ _)

/-- A running sum of the sizes and the next size are the next running sum. -/
theorem step (g : S8.Idx → BitVec 32) (n : ℕ) (hn : n < 8) (h : ∀ a, (![n] : Fin 1 → ℕ) a + (![1] : Fin 1 → ℕ) a ≤ S8.size a) (h' : 0 < (⟨1, ![1]⟩ : Shape).numel) :
    Scalar.addi (BitVec.ofNat 32 (off g n)) (View.ld (Val := Elt Ideal) (e' := .i32) g (Rect.unit (s := S8) ![n] ![1] h) (Shape.Idx.first h')) = BitVec.ofNat 32 (off g (n + 1)) := by
  have e : View.ld (Val := Elt Ideal) (e' := .i32) g (Rect.unit (s := S8) ![n] ![1] h) (Shape.Idx.first h') = g (ix1 ⟨n, hn⟩) := by
    pointwise
    trace_state
  rw [e, off_succ, BitVec.ofNat_add]
  refine congrArg (fun z => BitVec.ofNat 32 (off g n) + z) ?_
  unfold sizeN
  rw [dif_pos hn, BitVec.ofNat_toNat, BitVec.setWidth_eq]

section
variable {x : S49152x1536.Idx → EReal} {y : S49152x3072.Idx → EReal} {g : S8.Idx → BitVec 32} (hg : off g 8 ≤ 49152)
include hg
/-- One expert's product. -/
theorem piece (n : ℕ) (hn : n < 8) (i : S1x1536x3072.Idx) (j : S8x1536x3072.Idx) (h0 : (j 0).val = n + (i 0).val) (h1 : (j 1).val = (i 1).val) (h2 : (j 2).val = (i 2).val) :
    prod (k0_pay8 (F := Ideal) x) (k0_pay14 (F := Ideal) y) (iota .tc S49152x1536 32 [0] iota_S49152x1536_d0_w32) (BitVec.ofNat 32 (off g n)) (BitVec.ofNat 32 (off g (n + 1))) i
      = resD g x y j := by
  obtain ⟨a, k, l, rfl⟩ : ∃ (a : Fin 1) (k : Fin 1536) (l : Fin 3072), i = ix3 a k l := ⟨i 0, i 1, i 2, eq_ix3 i⟩
  obtain rfl : a = 0 := Subsingleton.elim _ _
  have e0 : (j 0).val = n := h0
  have e1 : (j 1).val = k.val := h1
  have e2 : (j 2).val = l.val := h2
  unfold resD
  rw [e0, e1, e2]
  exact prod_at (W := wideX x) (Z := wideY y) (fun r i => xWide_at x r i) (fun r i => yWide_at y r i) ((off_mono g (by omega)).trans hg) ((off_mono g (by omega)).trans hg) k l
end

theorem arr3 (hg : off (gArg m c) 8 ≤ 49152) : (dats m 0 c).arrAt 3 cfg0.N = resD (gArg m c) (xArg m c) (yArg m c) := by
  refine (dats m 0 c).arrAt_eq_of_after_last 3 t0 (by decide +kernel) _ fun j => ?_
  blk_simp
  rw [after0_3]
  unfold outsAt0
  frame_out
  simp only [read_unread_whole]
  rw [in0, in1, in2]
  generalize xArg m c = x
  generalize yArg m c = y
  generalize gArg m c = g at hg ⊢
  canon_tiles i h
  all_goals
    simp only [pay15_prod, pay16_prod, pay17_prod, pay18_prod, pay19_prod, pay20_prod, pay1_prod, pay2_prod]
    rw [show (0#32) = BitVec.ofNat 32 (off g 0) from rfl]
    simp (disch := decide) only [step, Nat.reduceAdd]
  · exact piece hg 7 (by decide) i j h0 h1 h2
  · exact piece hg 6 (by decide) i j h0 h1 h2
  · exact piece hg 5 (by decide) i j h0 h1 h2
  · exact piece hg 4 (by decide) i j h0 h1 h2
  · exact piece hg 3 (by decide) i j h0 h1 h2
  · exact piece hg 2 (by decide) i j h0 h1 h2
  · exact piece hg 1 (by decide) i j h0 h1 h2
  · exact piece hg 0 (by decide) i j (h0.trans (Nat.zero_add _).symm) h1 h2
end Cert.ReferenceIdeal.Hand
-- ==== Proof.Good.lean ====
/- The precondition's predicate gives what the results need of the arguments. -/
module

public import proofs.«01_k».proof.Pre_inputs_ok
public import proofs.«01_k».proof.Proof.Spec
public import Idealize.ShloMosaic.Lib.Affine
public import Idealize.ShloMosaic.Lib.ReduceAll
public import Idealize.ShloMosaic.Lib.Routing.Ops
public import Idealize.ShloMosaic.Lib.WordCmp

@[expose] public section

set_option maxRecDepth 16384

noncomputable section

namespace Cert.Good

open Cert.Pre_inputs_ok Cert.Pre_inputs_ok.Facts Cert.Spec
open Idealize.ShloMosaic

/-! ### The constants -/

theorem ieee_eq {e m w : ℕ} (b : BitVec w) (ex fr : ℕ) (hs : (b.extractLsb' (e + m) 1 == 1#1) = false) (he : (b.extractLsb' m e).toNat = ex)
    (hf : (b.extractLsb' 0 m).toNat = fr) (h1 : ex ≠ 2 ^ e - 1) (h0 : ex ≠ 0) :
    Ideal.ieee e m b = (((2 ^ m + fr : ℕ) * (2 : ℝ) ^ ((ex : ℤ) - (2 ^ (e - 1) - 1) - m) : ℝ) : EReal) := by
  unfold Ideal.ieee
  simp only [hs, he, hf]
  rw [if_neg h1, if_neg h0]
  simp

theorem top_eq : Ideal.ofBits .bf16 0x7F7F#16 = ((255 * 2 ^ 120 : ℝ) : EReal) :=
  (ieee_eq (e := 8) (m := 7) 0x7F7F#16 254 127 (by decide) (by decide) (by decide) (by decide) (by decide)).trans (by norm_num)
theorem bot_eq : Ideal.ofBits .bf16 0xFF80#16 = ⊥ := by
  have hs : ((0xFF80#16).extractLsb' (8 + 7) 1 == 1#1) = true := by decide
  have he : ((0xFF80#16).extractLsb' 7 8).toNat = 255 := by decide
  have hf : ((0xFF80#16).extractLsb' 0 7).toNat = 0 := by decide
  show Ideal.ieee 8 7 0xFF80#16 = _
  unfold Ideal.ieee
  simp only [hs, he, hf]
  norm_num
theorem qx_eq : Ideal.ofBits .f32 0x3B124925#32 = ((9586981 / 2 ^ 32 : ℝ) : EReal) :=
  (ieee_eq (e := 8) (m := 23) 0x3B124925#32 118 1198373 (by decide) (by decide) (by decide) (by decide) (by decide)).trans (by norm_num)
theorem qy_eq : Ideal.ofBits .f32 0x37924925#32 = ((9586981 / 2 ^ 39 : ℝ) : EReal) :=
  (ieee_eq (e := 8) (m := 23) 0x37924925#32 111 1198373 (by decide) (by decide) (by decide) (by decide) (by decide)).trans (by norm_num)

/-! ### The magnitudes -/

theorem abs_le {x : EReal} (h : Ideal.cmp .ole (max x (-x)) (Ideal.ofBits .bf16 0x7F7F#16) = 1#1) : max x (-x) ≤ ((255 * 2 ^ 120 : ℝ) : EReal) := by
  rw [top_eq] at h
  exact (WordCmp.ofBool_decide_eq_one_iff _).1 h

theorem and_one (a b : BitVec 1) : IntOp.andi a b = 1#1 ↔ a = 1#1 ∧ b = 1#1 := by revert a b; decide

/-! ### The sizes -/

theorem size_nat {w : BitVec 32} (h0 : IntOp.cmpi .sge w 0#32 = 1#1) (h1 : IntOp.cmpi .sle w 49152#32 = 1#1) : w.toNat ≤ 49152 := by
  rw [IntOp.cmpi_sge] at h0
  rw [IntOp.cmpi_sle] at h1
  have e0 : (0#32).toInt = 0 := by decide
  have e1 : (49152#32).toInt = 49152 := by decide
  rw [e0] at h0
  rw [e1] at h1
  rw [BitVec.toInt_eq_toNat_cond] at h0 h1
  split at h0 <;> omega

theorem good [Cert.Pre_inputs_ok.Facts] {x : S49152x1536.Idx → EReal} {y : S49152x3072.Idx → EReal} {g : S8.Idx → BitVec 32}
    (h : Cert.Pre_inputs_ok.fn (F := Ideal) x y g = fun _ => 1#1) : Good x y g := by
  have h := congrFun h ix0
  dsimp only [fn, fn_part1] at h
  obtain ⟨h, hs⟩ := (and_one _ _).1 h
  obtain ⟨h, hu⟩ := (and_one _ _).1 h
  obtain ⟨h, hl⟩ := (and_one _ _).1 h
  obtain ⟨hx, hy⟩ := (and_one _ _).1 h
  have : Subsingleton S_.Idx := ⟨fun a b => funext fun i => i.elim0⟩
  have hx := Host.reduce_andi_all _ _ _ _ _ hx
  have hy := Host.reduce_andi_all _ _ _ _ _ hy
  have hl := Host.reduce_andi_all _ _ _ _ _ hl
  have hu := Host.reduce_andi_all _ _ _ _ _ hu
  have hn : ∀ i, (g i).toNat ≤ 49152 := fun i => size_nat (hl i) (hu i)
  have hN : ∀ k, sizeN g k ≤ 49152 := fun k => by
    unfold sizeN
    split
    · exact hn _
    · omega
  refine ⟨fits_of_le (B := 255 * 2 ^ 120) qx_eq (by positivity) (by norm_num) bot_eq fun r l hr hl => ?_, fits_of_le (B := 255 * 2 ^ 120) qy_eq (by positivity) (by norm_num) bot_eq fun r l hr hl => ?_, ?_⟩
  · rw [nat2_at x hr hl]; exact abs_le (hx _)
  · rw [nat2_at y hr hl]; exact abs_le (hy _)
  · have hb : off g 8 ≤ 8 * 49152 := by
      unfold off
      have a := hN 0; have b := hN 1; have c := hN 2; have d := hN 3; have e := hN 4; have f := hN 5; have p := hN 6; have q := hN 7
      simp [List.range_succ]
      omega
    have e : Host.reduce IntOp.addi g (constantI S_ 32 0#32) reducesTo_S8_S_d0 h_S_ ix0 = BitVec.ofNat 32 (off g 8) :=
      Routing.reduce_sum (N := 8) g (sizeN g) (fun i => by unfold sizeN; rw [dif_pos i.isLt, BitVec.ofNat_toNat, BitVec.setWidth_eq]; rfl) _ _
    have hs : IntOp.cmpi .sle (Host.reduce IntOp.addi g (constantI S_ 32 0#32) reducesTo_S8_S_d0 h_S_ ix0) 49152#32 = 1#1 := hs
    have e1 : (49152#32).toInt = 49152 := by decide
    rw [e, IntOp.cmpi_sle, WordCmp.toInt_ofNat_of_lt (by omega), e1] at hs
    omega

end Cert.Good
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_inputs_ok
public import proofs.«01_k».proof.Proof.Gen.ReferenceIdeal.Frame
public import proofs.«01_k».proof.Proof.Gen.ReferenceIdeal.Value
public import proofs.«01_k».proof.Proof.K.Frame
public import proofs.«01_k».proof.Proof.KI.Frame
public import proofs.«01_k».proof.Proof.KI.Value
public import proofs.«01_k».proof.Proof.RI.Arrays
public import proofs.«01_k».proof.Proof.Good

@[expose] public section

noncomputable section

namespace Cert.Proof

open Idealize.ShloMosaic Idealize.SL.Sem Cert.Spec

/-- Both programs end with the same five results. -/
theorem same : Cert.algebraic_KernelIdeal_ReferenceIdeal_pre_inputs_ok (hKernelIdeal := Cert.KernelIdeal.Gen.facts) (hReferenceIdeal := Cert.ReferenceIdeal.Gen.facts)
    (hPre_inputs_ok := Cert.Pre_inputs_ok.Gen.facts) := by
  intro m g m' g' hpre hagree
  have hg : ∀ c, Good (Cert.KernelIdeal.Hand.xArg m c) (Cert.KernelIdeal.Hand.yArg m c) (Cert.KernelIdeal.Hand.gArg m c) := fun c => Cert.Good.good (hpre c)
  have ex : ∀ c, Cert.ReferenceIdeal.Hand.xArg m' c = Cert.KernelIdeal.Hand.xArg m c := fun c => (hagree c).1
  have ey : ∀ c, Cert.ReferenceIdeal.Hand.yArg m' c = Cert.KernelIdeal.Hand.yArg m c := fun c => (hagree c).2.1
  have eg : ∀ c, Cert.ReferenceIdeal.Hand.gArg m' c = Cert.KernelIdeal.Hand.gArg m c := fun c => (hagree c).2.2
  refine ⟨fun c => resD (Cert.KernelIdeal.Hand.gArg m c) (Cert.KernelIdeal.Hand.xArg m c) (Cert.KernelIdeal.Hand.yArg m c),
    fun c => resC 0x3B124925#32 0xC3E00000#32 0x43E00000#32 (Cert.KernelIdeal.Hand.xArg m c), fun c => resS (B := 1536) 0x3B124925#32 (Cert.KernelIdeal.Hand.xArg m c),
    fun c => resC 0x37924925#32 0xC7600000#32 0x47600000#32 (Cert.KernelIdeal.Hand.yArg m c), fun c => resS (B := 1536) 0x37924925#32 (Cert.KernelIdeal.Hand.yArg m c), ?_, ?_⟩
  · refine (θ_run _ _ _).mono (fun r h c => ?_) (Cert.KernelIdeal.Hand.run_main m g)
    obtain ⟨hw, ⟨a, ha⟩, h2⟩ := h.1 c
    exact ⟨ha.trans (Cert.KernelIdeal.Hand.dw_eq (hg c) _), (hw 2).trans (Cert.KernelIdeal.Hand.arr2 (hg c)), (hw 3).trans (Cert.KernelIdeal.Hand.arr3 (hg c)),
      (hw 4).trans (Cert.KernelIdeal.Hand.arr4 (hg c)), (hw 5).trans (Cert.KernelIdeal.Hand.arr5 (hg c)),
      (hw 0).trans ((Cert.KernelIdeal.Hand.arr_in m c 0 rfl).trans (Cert.KernelIdeal.Hand.V_arg m c Cert.KernelIdeal.main_arg0 (.inl rfl))),
      (hw 1).trans ((Cert.KernelIdeal.Hand.arr_in m c 1 rfl).trans (Cert.KernelIdeal.Hand.V_arg m c Cert.KernelIdeal.main_arg1 (.inr (.inl rfl)))), h2⟩
  · refine (θ_run _ _ _).mono (fun r h c => ?_) (Cert.ReferenceIdeal.Value.run_blocks m' g')
    obtain ⟨h0, h1, h2, h3, h4, h5, h6, h7⟩ := h c
    have top : off (Cert.ReferenceIdeal.Hand.gArg m' c) 8 ≤ 49152 := (eg c).symm ▸ (hg c).top
    have r0 := h0.trans (Cert.ReferenceIdeal.Hand.arr3 m' c top)
    have r1 := h1.trans (Cert.ReferenceIdeal.Hand.arr4 m' c)
    have r2 := h2.trans (Cert.ReferenceIdeal.Hand.arr5 m' c)
    have r3 := h3.trans (Cert.ReferenceIdeal.Hand.arr6 m' c)
    have r4 := h4.trans (Cert.ReferenceIdeal.Hand.arr7 m' c)
    rw [ex, ey, eg] at r0
    rw [ex] at r1 r2
    rw [ey] at r3 r4
    exact ⟨r0, r1, r2, r3, r4, h5, h6, h7⟩

theorem claim : Cert.Claim := ⟨Cert.Kernel.Gen.facts, Cert.KernelIdeal.Gen.facts, Cert.ReferenceIdeal.Gen.facts, Cert.Pre_inputs_ok.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, same⟩

end Cert.Proof

end
